-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![32768, 2, 128]⟩ ⟨3, ![131072, 2, 128]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨3, ![32768, 2, 128]⟩ ⟨3, ![131072, 2, 128]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S128x1024 : Shape := ⟨2, ![128, 1024]⟩
abbrev S1024x1024 : Shape := ⟨2, ![1024, 1024]⟩
abbrev S32768x2x128 : Shape := ⟨3, ![32768, 2, 128]⟩
abbrev S_ : Shape := ⟨0, ![]⟩

class Facts : Prop where
  bcast_S_S128x1024 : S_.BroadcastsInDim S128x1024 (![] : Fin 0 → Fin S128x1024.rank)
  bcast_S_S1024x1024 : S_.BroadcastsInDim S1024x1024 (![] : Fin 0 → Fin S1024x1024.rank)
  bcast_S_S32768x2x128 : S_.BroadcastsInDim S32768x2x128 (![] : Fin 0 → Fin S32768x2x128.rank)

variable [Facts]

def fn {F : FTy → Type} [FloatOps F] (main_arg0 : FVec F S128x1024 .f32) (main_arg1 : FVec F S1024x1024 .f32) (main_arg2 : FVec F S1024x1024 .f32) (main_arg3 : FVec F S32768x2x128 .f32) (main_arg4 : FVec F S32768x2x128 .f32) : IVec S128x1024 1 × IVec S1024x1024 1 × IVec S32768x2x128 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S32768x2x128 .f32 := Host.absf main_arg3
  let main_cst_1 : FVec F S_ .f32 := constant S_ .f32 0x7F800000#32
  let main_v7 : FVec F S32768x2x128 .f32 := broadcastInDim S32768x2x128 ![] bcast_S_S32768x2x128 main_cst_1
  let main_v8 : IVec S32768x2x128 1 := cmpf .olt main_v6 main_v7
  (main_v2, main_v5, main_v8)
-- ==== Pre_scores_finite_ReferenceIdeal.lean ====
abbrev S128x1024 : Shape := ⟨2, ![128, 1024]⟩
abbrev S1024x1024 : Shape := ⟨2, ![1024, 1024]⟩
abbrev S131072x2x128 : Shape := ⟨3, ![131072, 2, 128]⟩
abbrev S_ : Shape := ⟨0, ![]⟩

class Facts : Prop where
  bcast_S_S128x1024 : S_.BroadcastsInDim S128x1024 (![] : Fin 0 → Fin S128x1024.rank)
  bcast_S_S1024x1024 : S_.BroadcastsInDim S1024x1024 (![] : Fin 0 → Fin S1024x1024.rank)
  bcast_S_S131072x2x128 : S_.BroadcastsInDim S131072x2x128 (![] : Fin 0 → Fin S131072x2x128.rank)

variable [Facts]

def fn {F : FTy → Type} [FloatOps F] (main_arg0 : FVec F S128x1024 .f32) (main_arg1 : FVec F S1024x1024 .f32) (main_arg2 : FVec F S1024x1024 .f32) (main_arg3 : FVec F S131072x2x128 .f32) (main_arg4 : FVec F S131072x2x128 .f32) : IVec S128x1024 1 × IVec S1024x1024 1 × IVec S131072x2x128 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S131072x2x128 .f32 := Host.absf main_arg3
  let main_cst_1 : FVec F S_ .f32 := constant S_ .f32 0x7F800000#32
  let main_v7 : FVec F S131072x2x128 .f32 := broadcastInDim S131072x2x128 ![] bcast_S_S131072x2x128 main_cst_1
  let main_v8 : IVec S131072x2x128 1 := cmpf .olt main_v6 main_v7
  (main_v2, main_v5, main_v8)
-- ==== Kernel.lean ====
abbrev S128x1024 : Shape := ⟨2, ![128, 1024]⟩
abbrev S1024x1024 : Shape := ⟨2, ![1024, 1024]⟩
abbrev S32768x2x128 : Shape := ⟨3, ![32768, 2, 128]⟩
abbrev S256x1024 : Shape := ⟨2, ![256, 1024]⟩
abbrev S8x1024 : Shape := ⟨2, ![8, 1024]⟩
abbrev S1024x128 : Shape := ⟨2, ![1024, 128]⟩
abbrev S2x2048x256 : Shape := ⟨3, ![2, 2048, 256]⟩
abbrev S2x2 : Shape := ⟨2, ![2, 2]⟩
abbrev S4x2x128x512 : Shape := ⟨4, ![4, 2, 128, 512]⟩
abbrev S4x2x8x512 : Shape := ⟨4, ![4, 2, 8, 512]⟩
abbrev S2x3 : Shape := ⟨2, ![2, 3]⟩
abbrev S2x4 : Shape := ⟨2, ![2, 4]⟩
abbrev S1x1 : Shape := ⟨2, ![1, 1]⟩
abbrev S_ : Shape := ⟨0, ![]⟩
abbrev S1x2048x256 : Shape := ⟨3, ![1, 2048, 256]⟩
abbrev S2048x256 : Shape := ⟨2, ![2048, 256]⟩
abbrev S32768x256 : Shape := ⟨2, ![32768, 256]⟩
abbrev S128x128 : Shape := ⟨2, ![128, 128]⟩
abbrev S2048x1024 : Shape := ⟨2, ![2048, 1024]⟩
abbrev S1x1024 : Shape := ⟨2, ![1, 1024]⟩
abbrev S1024 : Shape := ⟨1, ![1024]⟩
abbrev S128x512 : Shape := ⟨2, ![128, 512]⟩
abbrev S1x1x128x512 : Shape := ⟨4, ![1, 1, 128, 512]⟩
abbrev S1x512 : Shape := ⟨2, ![1, 512]⟩
abbrev S1x1x1x512 : Shape := ⟨4, ![1, 1, 1, 512]⟩
abbrev S1x2x128x512 : Shape := ⟨4, ![1, 2, 128, 512]⟩
abbrev S2x128x512 : Shape := ⟨3, ![2, 128, 512]⟩
abbrev S1x2x8x512 : Shape := ⟨4, ![1, 2, 8, 512]⟩
abbrev S2x8x512 : Shape := ⟨3, ![2, 8, 512]⟩

abbrev nBuf : Space → Nat
  | .hbm => 6
  | .vmem => 12
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S1024x1024, .f32⟩
  | .hbm, ⟨3, _⟩ => ⟨S32768x2x128, .f32⟩
  | .hbm, ⟨4, _⟩ => ⟨S32768x2x128, .f32⟩
  | .hbm, ⟨5, _⟩ => ⟨S128x1024, .f32⟩
  | .local _ .vmem, ⟨0, _⟩ => ⟨S128x1024, .f32⟩
  | .local _ .vmem, ⟨1, _⟩ => ⟨S1024x1024, .f32⟩
  | .local _ .vmem, ⟨2, _⟩ => ⟨S1024x1024, .f32⟩
  | .local _ .vmem, ⟨3, _⟩ => ⟨S128x1024, .f32⟩
  | .local _ .vmem, ⟨4, _⟩ => ⟨S256x1024, .bf16⟩
  | .local _ .vmem, ⟨5, _⟩ => ⟨S128x1024, .f32⟩
  | .local _ .vmem, ⟨6, _⟩ => ⟨S8x1024, .f32⟩
  | .local _ .vmem, ⟨7, _⟩ => ⟨S1024x128, .bf16⟩
  | .local _ .vmem, ⟨8, _⟩ => ⟨S2x2048x256, .f32⟩
  | .local _ .vmem, ⟨9, _⟩ => ⟨S2x2048x256, .f32⟩
  | .local _ .vmem, ⟨10, _⟩ => ⟨S4x2x128x512, .bf16⟩
  | .local _ .vmem, ⟨11, _⟩ => ⟨S4x2x8x512, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_1 : BitVec 32 := 0#32
  let v6 : BitVec 1 := Scalar.cmpi .eq arg0 c0_i32_1
  let v7 : BitVec 32 := Scalar.extui v6
  let c0_i32_2 : BitVec 32 := 0#32
  let v8 : BitVec 1 := Scalar.cmpi .ne v7 c0_i32_2
  v8

def k0_dev1 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v63 : BitVec 32 := Scalar.addi v2 c1_i32_34
  let c4_i32_35 : BitVec 32 := 4#32
  let v64 : BitVec 32 := Scalar.remsi v63 c4_i32_35
  let c1_i32_37 : BitVec 32 := 1#32
  let v65 : BitVec 32 := Scalar.muli v64 c1_i32_37
  let v66 : BitVec 32 := Scalar.addi c0_i32_38 v65
  v66.toNat
def k0_dev2 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_39 : BitVec 32 := 2#32
  let v67 : BitVec 32 := Scalar.addi v2 c2_i32_39
  let c4_i32_40 : BitVec 32 := 4#32
  let v68 : BitVec 32 := Scalar.remsi v67 c4_i32_40
  let c1_i32_42 : BitVec 32 := 1#32
  let v69 : BitVec 32 := Scalar.muli v68 c1_i32_42
  let v70 : BitVec 32 := Scalar.addi c0_i32_43 v69
  v70.toNat
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v71 : BitVec 32 := Scalar.addi v2 c3_i32
  let c4_i32_44 : BitVec 32 := 4#32
  let v72 : BitVec 32 := Scalar.remsi v71 c4_i32_44
  let c1_i32_46 : BitVec 32 := 1#32
  let v73 : BitVec 32 := Scalar.muli v72 c1_i32_46
  let v74 : BitVec 32 := Scalar.addi c0_i32_47 v73
  v74.toNat
def k0_off1 (i : grid0.Coords) : Fin 2 → Nat :=
  let arg0 : BitVec 32 := BitVec.ofNat 32 (i 0).val
  let c2_i32 : BitVec 32 := 2#32
  let v9 : BitVec 32 := Scalar.remsi arg0 c2_i32
  let c0_i32_3 : BitVec 32 := 0#32
  ![v9.toNat, 0]
def k0_off2 (i : grid0.Coords) : Fin 3 → Nat :=
  let arg0 : BitVec 32 := BitVec.ofNat 32 (i 0).val
  let c2_i32 : BitVec 32 := 2#32
  let v9 : BitVec 32 := Scalar.remsi arg0 c2_i32
  let c0_i32_4 : BitVec 32 := 0#32
  let c0_i32_5 : BitVec 32 := 0#32
  ![v9.toNat, 0, 0]
def k0_off3 (i : grid0.Coords) : Fin 2 → Nat :=
  let arg0 : BitVec 32 := BitVec.ofNat 32 (i 0).val
  let c2_i32 : BitVec 32 := 2#32
  let v9 : BitVec 32 := Scalar.remsi arg0 c2_i32
  let c1_i32_8 : BitVec 32 := 1#32
  ![v9.toNat, 1]
def k0_off4 (i : grid0.Coords) : Fin 3 → Nat :=
  let arg0 : BitVec 32 := BitVec.ofNat 32 (i 0).val
  let c2_i32 : BitVec 32 := 2#32
  let v9 : BitVec 32 := Scalar.remsi arg0 c2_i32
  let v22 : Index := Scalar.indexCast v9
  let c0 : Index := 0#32
  let c0_13 : Index := 0#32
  ![v22.toNat, 0, 0]
def k0_cond3 (i : grid0.Coords) : BitVec 1 :=
  let arg0 : BitVec 32 := BitVec.ofNat 32 (i 0).val
  let c2_i32_31 : BitVec 32 := 2#32
  let v55 : BitVec 32 := Scalar.addi arg0 c2_i32_31
  let c16_i32 : BitVec 32 := 16#32
  let v56 : BitVec 1 := Scalar.cmpi .slt v55 c16_i32
  let v57 : BitVec 32 := Scalar.extui v56
  let c0_i32_32 : BitVec 32 := 0#32
  let v58 : BitVec 1 := Scalar.cmpi .ne v57 c0_i32_32
  v58

def k0_off5 (i : grid0.Coords) : Fin 2 → Nat :=
  let arg0 : BitVec 32 := BitVec.ofNat 32 (i 0).val
  let c2_i32 : BitVec 32 := 2#32
  let v9 : BitVec 32 := Scalar.remsi arg0 c2_i32
  let c0_i32_35 : BitVec 32 := 0#32
  ![v9.toNat, 0]
def k0_off6 (i : grid0.Coords) : Fin 3 → Nat :=
  let arg0 : BitVec 32 := BitVec.ofNat 32 (i 0).val
  let c2_i32 : BitVec 32 := 2#32
  let v9 : BitVec 32 := Scalar.remsi arg0 c2_i32
  let c0_i32_36 : BitVec 32 := 0#32
  let c0_i32_37 : BitVec 32 := 0#32
  ![v9.toNat, 0, 0]
def k0_off7 (i : grid0.Coords) : Fin 2 → Nat :=
  let arg0 : BitVec 32 := BitVec.ofNat 32 (i 0).val
  let c2_i32_34 : BitVec 32 := 2#32
  let v62 : BitVec 32 := Scalar.addi arg0 c2_i32_34
  let c2048_i32 : BitVec 32 := 2048#32
  let v63 : BitVec 32 := Scalar.muli v62 c2048_i32
  let c0_i32_38 : BitVec 32 := 0#32
  ![v63.toNat, 0]
def k0_off8 (i : grid0.Coords) : Fin 2 → Nat :=
  let arg0 : BitVec 32 := BitVec.ofNat 32 (i 0).val
  let c2_i32 : BitVec 32 := 2#32
  let v9 : BitVec 32 := Scalar.remsi arg0 c2_i32
  let c1_i32_40 : BitVec 32 := 1#32
  ![v9.toNat, 1]
def k0_cond4 (i : grid0.Coords) : BitVec 1 :=
  let arg0 : BitVec 32 := BitVec.ofNat 32 (i 0).val
  let c15_i32 : BitVec 32 := 15#32
  let v59 : BitVec 1 := Scalar.cmpi .eq arg0 c15_i32
  let v60 : BitVec 32 := Scalar.extui v59
  let c0_i32_33 : BitVec 32 := 0#32
  let v61 : BitVec 1 := Scalar.cmpi .ne v60 c0_i32_33
  v61

def k0_off9 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : Index := Scalar.indexCast v2
  let c0_36 : Index := 0#32
  let c0_37 : Index := 0#32
  let c0_38 : Index := 0#32
  ![v64.toNat, 0, 0, 0]
def k0_off10 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v69 : Index := Scalar.indexCast v2
  let c0_41 : Index := 0#32
  let c0_42 : Index := 0#32
  let c0_43 : Index := 0#32
  ![v69.toNat, 0, 0, 0]
def k0_off11 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v75 : Index := Scalar.indexCast v2
  let c1 : Index := 1#32
  let c0_46 : Index := 0#32
  let c0_47 : Index := 0#32
  ![v75.toNat, 1, 0, 0]
def k0_off12 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v80 : Index := Scalar.indexCast v2
  let c1_50 : Index := 1#32
  let c0_51 : Index := 0#32
  let c0_52 : Index := 0#32
  ![v80.toNat, 1, 0, 0]
def k0_off13 (d0 : Dev nD) : Fin 2 → Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![0, v2.toNat]
def k0_off14 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_60 : BitVec 32 := 0#32
  let c0_i32_61 : BitVec 32 := 0#32
  let c0_i32_62 : BitVec 32 := 0#32
  ![v2.toNat, 0, 0, 0]
def k0_dev4 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_53 : BitVec 32 := 1#32
  let v84 : BitVec 32 := Scalar.addi v2 c1_i32_53
  let c4_i32_54 : BitVec 32 := 4#32
  let v85 : BitVec 32 := Scalar.remsi v84 c4_i32_54
  let c1_i32_58 : BitVec 32 := 1#32
  let v86 : BitVec 32 := Scalar.muli v85 c1_i32_58
  let v87 : BitVec 32 := Scalar.addi c0_i32_59 v86
  v87.toNat
def k0_off15 (d0 : Dev nD) : Fin 2 → Nat :=
  let c1_i32_66 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![1, v2.toNat]
def k0_off16 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_71 : BitVec 32 := 0#32
  let c0_i32_72 : BitVec 32 := 0#32
  let c0_i32_73 : BitVec 32 := 0#32
  ![v2.toNat, 0, 0, 0]
def k0_dev5 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_53 : BitVec 32 := 1#32
  let v84 : BitVec 32 := Scalar.addi v2 c1_i32_53
  let c4_i32_54 : BitVec 32 := 4#32
  let v85 : BitVec 32 := Scalar.remsi v84 c4_i32_54
  let c1_i32_69 : BitVec 32 := 1#32
  let v96 : BitVec 32 := Scalar.muli v85 c1_i32_69
  let v97 : BitVec 32 := Scalar.addi c0_i32_70 v96
  v97.toNat
def k0_dev6 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_77 : BitVec 32 := 2#32
  let v106 : BitVec 32 := Scalar.addi v2 c2_i32_77
  let c4_i32_78 : BitVec 32 := 4#32
  let v107 : BitVec 32 := Scalar.remsi v106 c4_i32_78
  let c1_i32_82 : BitVec 32 := 1#32
  let v108 : BitVec 32 := Scalar.muli v107 c1_i32_82
  let v109 : BitVec 32 := Scalar.addi c0_i32_83 v108
  v109.toNat
def k0_dev7 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_77 : BitVec 32 := 2#32
  let v106 : BitVec 32 := Scalar.addi v2 c2_i32_77
  let c4_i32_78 : BitVec 32 := 4#32
  let v107 : BitVec 32 := Scalar.remsi v106 c4_i32_78
  let c1_i32_93 : BitVec 32 := 1#32
  let v118 : BitVec 32 := Scalar.muli v107 c1_i32_93
  let v119 : BitVec 32 := Scalar.addi c0_i32_94 v118
  v119.toNat
def k0_dev8 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v128 : BitVec 32 := Scalar.addi v2 c3_i32
  let c4_i32_101 : BitVec 32 := 4#32
  let v129 : BitVec 32 := Scalar.remsi v128 c4_i32_101
  let c1_i32_105 : BitVec 32 := 1#32
  let v130 : BitVec 32 := Scalar.muli v129 c1_i32_105
  let v131 : BitVec 32 := Scalar.addi c0_i32_106 v130
  v131.toNat
def k0_dev9 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v128 : BitVec 32 := Scalar.addi v2 c3_i32
  let c4_i32_101 : BitVec 32 := 4#32
  let v129 : BitVec 32 := Scalar.remsi v128 c4_i32_101
  let c1_i32_116 : BitVec 32 := 1#32
  let v140 : BitVec 32 := Scalar.muli v129 c1_i32_116
  let v141 : BitVec 32 := Scalar.addi c0_i32_117 v140
  v141.toNat
def k0_off17 (d0 : Dev nD) (c1_i32_124 : BitVec 32) : Fin 2 → Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v150 : BitVec 32 := Scalar.addi v2 c1_i32_124
  let c4_i32_125 : BitVec 32 := 4#32
  let v151 : BitVec 32 := Scalar.remsi v150 c4_i32_125
  ![0, v151.toNat]
def k0_off18 (d0 : Dev nD) (c1_i32_124 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v150 : BitVec 32 := Scalar.addi v2 c1_i32_124
  let c4_i32_125 : BitVec 32 := 4#32
  let v151 : BitVec 32 := Scalar.remsi v150 c4_i32_125
  let c0_i32_131 : BitVec 32 := 0#32
  let c0_i32_132 : BitVec 32 := 0#32
  let c0_i32_133 : BitVec 32 := 0#32
  ![v151.toNat, 0, 0, 0]
def k0_off19 (d0 : Dev nD) (c1_i32_124 : BitVec 32) : Fin 2 → Nat :=
  let c1_i32_137 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v150 : BitVec 32 := Scalar.addi v2 c1_i32_124
  let c4_i32_125 : BitVec 32 := 4#32
  let v151 : BitVec 32 := Scalar.remsi v150 c4_i32_125
  ![1, v151.toNat]
def k0_off20 (d0 : Dev nD) (c1_i32_124 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v150 : BitVec 32 := Scalar.addi v2 c1_i32_124
  let c4_i32_125 : BitVec 32 := 4#32
  let v151 : BitVec 32 := Scalar.remsi v150 c4_i32_125
  let c0_i32_142 : BitVec 32 := 0#32
  let c0_i32_143 : BitVec 32 := 0#32
  let c0_i32_144 : BitVec 32 := 0#32
  ![v151.toNat, 0, 0, 0]
def k0_off21 (d0 : Dev nD) (c0_i32_200 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v209 : BitVec 32 := Scalar.addi v2 c0_i32_200
  let c4_i32_201 : BitVec 32 := 4#32
  let v210 : BitVec 32 := Scalar.remsi v209 c4_i32_201
  let v211 : Index := Scalar.indexCast v210
  let c0_202 : Index := 0#32
  let c0_203 : Index := 0#32
  let c0_204 : Index := 0#32
  ![v211.toNat, 0, 0, 0]
def k0_off22 (d0 : Dev nD) (c0_i32_200 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v209 : BitVec 32 := Scalar.addi v2 c0_i32_200
  let c4_i32_201 : BitVec 32 := 4#32
  let v210 : BitVec 32 := Scalar.remsi v209 c4_i32_201
  let v216 : Index := Scalar.indexCast v210
  let c0_205 : Index := 0#32
  let c0_206 : Index := 0#32
  let c0_207 : Index := 0#32
  ![v216.toNat, 0, 0, 0]
def k0_off23 (d0 : Dev nD) (c0_i32_239 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v277 : BitVec 32 := Scalar.addi v2 c0_i32_239
  let c4_i32_240 : BitVec 32 := 4#32
  let v278 : BitVec 32 := Scalar.remsi v277 c4_i32_240
  let v279 : Index := Scalar.indexCast v278
  let c1_241 : Index := 1#32
  let c0_242 : Index := 0#32
  let c0_243 : Index := 0#32
  ![v279.toNat, 1, 0, 0]
def k0_off24 (d0 : Dev nD) (c0_i32_239 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v277 : BitVec 32 := Scalar.addi v2 c0_i32_239
  let c4_i32_240 : BitVec 32 := 4#32
  let v278 : BitVec 32 := Scalar.remsi v277 c4_i32_240
  let v284 : Index := Scalar.indexCast v278
  let c1_244 : Index := 1#32
  let c0_245 : Index := 0#32
  let c0_246 : Index := 0#32
  ![v284.toNat, 1, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S128x1024 : Shape := ⟨2, ![128, 1024]⟩
abbrev S1024x1024 : Shape := ⟨2, ![1024, 1024]⟩
abbrev S131072x2x128 : Shape := ⟨3, ![131072, 2, 128]⟩
abbrev S128x8x128 : Shape := ⟨3, ![128, 8, 128]⟩
abbrev S131072x2x4x128 : Shape := ⟨4, ![131072, 2, 4, 128]⟩
abbrev S131072x8x128 : Shape := ⟨3, ![131072, 8, 128]⟩
abbrev S8x128x131072 : Shape := ⟨3, ![8, 128, 131072]⟩
abbrev S_ : Shape := ⟨0, ![]⟩
abbrev S8x128 : Shape := ⟨2, ![8, 128]⟩
abbrev S8x128x1 : Shape := ⟨3, ![8, 128, 1]⟩
abbrev S8x128x128 : Shape := ⟨3, ![8, 128, 128]⟩
abbrev S128x8x1 : Shape := ⟨3, ![128, 8, 1]⟩

abbrev nBuf : Space → Nat
  | .hbm => 31
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S1024x1024, .f32⟩
  | .hbm, ⟨3, _⟩ => ⟨S131072x2x128, .f32⟩
  | .hbm, ⟨4, _⟩ => ⟨S131072x2x128, .f32⟩
  | .hbm, ⟨5, _⟩ => ⟨S128x1024, .f32⟩
  | .hbm, ⟨6, _⟩ => ⟨S128x8x128, .f32⟩
  | .hbm, ⟨7, _⟩ => ⟨S131072x2x4x128, .f32⟩
  | .hbm, ⟨8, _⟩ => ⟨S131072x8x128, .f32⟩
  | .hbm, ⟨9, _⟩ => ⟨S131072x2x4x128, .f32⟩
  | .hbm, ⟨10, _⟩ => ⟨S131072x8x128, .f32⟩
  | .hbm, ⟨11, _⟩ => ⟨S8x128x131072, .f32⟩
  | .hbm, ⟨12, _⟩ => ⟨S_, .f32⟩
  | .hbm, ⟨13, _⟩ => ⟨S8x128x131072, .f32⟩
  | .hbm, ⟨14, _⟩ => ⟨S8x128x131072, .f32⟩
  | .hbm, ⟨15, _⟩ => ⟨S_, .f32⟩
  | .hbm, ⟨16, _⟩ => ⟨S8x128, .f32⟩
  | .hbm, ⟨17, _⟩ => ⟨S8x128x1, .f32⟩
  | .hbm, ⟨18, _⟩ => ⟨S8x128x131072, .f32⟩
  | .hbm, ⟨19, _⟩ => ⟨S8x128x131072, .f32⟩
  | .hbm, ⟨20, _⟩ => ⟨S8x128x131072, .f32⟩
  | .hbm, ⟨21, _⟩ => ⟨S_, .f32⟩
  | .hbm, ⟨22, _⟩ => ⟨S8x128, .f32⟩
  | .hbm, ⟨23, _⟩ => ⟨S8x128x1, .f32⟩
  | .hbm, ⟨24, _⟩ => ⟨S8x128x128, .f32⟩
  | .hbm, ⟨25, _⟩ => ⟨S128x8x128, .f32⟩
  | .hbm, ⟨26, _⟩ => ⟨S128x8x1, .f32⟩
  | .hbm, ⟨27, _⟩ => ⟨S128x8x128, .f32⟩
  | .hbm, ⟨28, _⟩ => ⟨S128x8x128, .f32⟩
  | .hbm, ⟨29, _⟩ => ⟨S128x1024, .f32⟩
  | .hbm, ⟨30, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Ideal.Sched.lean ====
/-
The exchange between the four devices, written as a schedule of the rounds library.

Every device `c` has, besides the staging semaphores of the pipeline and the four semaphores of its own local
copies, fifteen cells that other devices or its own remote copies credit:

* cell 0, the barrier semaphore: each of the three other devices signals it once, in the first grid step. The
  signal of device `d` hands over slot `c` of `d`'s two receive buffers, and the record that `d`'s receive cells
  for `c` are at round 0: this is what `c` needs before it may copy into them.
* cells 1 to 6, the send semaphores: `c`'s own six remote copies credit them when the source is read; each gives
  back the share of the source that the copy borrowed.
* cells 7 to 14, the receive semaphores: cell `7 + s` is credited by device `s`'s copy of its weighted sums into slot
  `s` of `c`'s buffer, cell `11 + s` by its copy of the sums of weights.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.FrameBody
public import Idealize.ShloMosaic.Lib.Ring
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the exchange's, and the counters of the local copies -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's copy of the rounds algebra, the left of the right half. -/
def ER : Emb UB (MT nD τ sig Unit (Elt F) ℕ UU ℕ) := (Emb.inl : Emb UB (UB × Counters)).trans embR

instance ER_landsIn : (ER : Emb UB (MT nD τ sig Unit (Elt F) ℕ UU ℕ)).LandsIn (upEmb : UEmb _ (MT nD τ sig Unit (Elt F) ℕ UU ℕ)) := by
  unfold ER; infer_instance

/-! ## Devices, memrefs and cells -/

set_option backward.proofsInPublic true in
/-- The device `k` places after `c` on the ring of four. -/
def pr (c : Dev nD) (k : Fin 4) : Dev nD := ⟨(c.val + k.val) % 4, Nat.mod_lt _ (by decide)⟩

/-- Slot `s` of the buffer of weighted sums, as the program spells it. -/
theorem accInb (s : Dev nD) : ∀ a, (![s.val, 0, 0, 0] : Fin 4 → ℕ) a + S1x2x128x512.size a ≤ S4x2x128x512.size a := by revert s; decide
theorem lInb (s : Dev nD) : ∀ a, (![s.val, 0, 0, 0] : Fin 4 → ℕ) a + S1x2x8x512.size a ≤ S4x2x8x512.size a := by revert s; decide
def aM (s : Dev nD) : Memref sig .tc .vmem S2x128x512 .bf16 :=
  ((Memref.whole cc0_scratch7).slice (Rect.unit (s := S4x2x128x512) ![s.val, 0, 0, 0] S1x2x128x512.size (accInb s)) (fun _ => rfl)).squeeze S2x128x512 squeezes_S1x2x128x512_S2x128x512
/-- Slot `s` of the buffer of sums of weights. -/
def lM (s : Dev nD) : Memref sig .tc .vmem S2x8x512 .f32 :=
  ((Memref.whole cc0_scratch8).slice (Rect.unit (s := S4x2x8x512) ![s.val, 0, 0, 0] S1x2x8x512.size (lInb s)) (fun _ => rfl)).squeeze S2x8x512 squeezes_S1x2x8x512_S2x8x512

abbrev aLoc (c : Dev nD) : Loc nD τ sig := (c : Thread nD τ).loc cc0_scratch7
abbrev lLoc (c : Dev nD) : Loc nD τ sig := (c : Thread nD τ).loc cc0_scratch8
/-- The elements of slot `s` of either buffer. -/
def aSet (s : Dev nD) : Finset S4x2x128x512.Idx := (Rect.unit (s := S4x2x128x512) ![s.val, 0, 0, 0] S1x2x128x512.size (accInb s)).set
def lSet (s : Dev nD) : Finset S4x2x8x512.Idx := (Rect.unit (s := S4x2x8x512) ![s.val, 0, 0, 0] S1x2x8x512.size (lInb s)).set

theorem aM_set (s : Dev nD) : (aM s).view.set = aSet s := by
  unfold aM aSet
  exact (View.set_reshape _ _).trans (View.set_slice_whole _ _)
theorem lM_set (s : Dev nD) : (lM s).view.set = lSet s := by
  unfold lM lSet
  exact (View.set_reshape _ _).trans (View.set_slice_whole _ _)

/-- The runtime's barrier semaphore. -/
abbrev barS : Sem sig := (SemArray.scalar (sig.barrier 0 rfl) : Sems sig S_).sem
/-- The fifteen cells of a device that the exchange uses. -/
abbrev csem : Fin 15 → SemLoc sig
  | 0 => .reg barS | 1 => .dma 8 | 2 => .dma 9 | 3 => .dma 10 | 4 => .dma 11 | 5 => .dma 12 | 6 => .dma 13
  | 7 => .dma 14 | 8 => .dma 15 | 9 => .dma 16 | 10 => .dma 17 | 11 => .dma 18 | 12 => .dma 19 | 13 => .dma 20 | 14 => .dma 21
/-- Which of the fifteen a semaphore is. -/
def idx : SemLoc sig → Option (Fin 15)
  | .reg _ => some 0
  | .dma q => if h : 8 ≤ q.val then some ⟨q.val - 7, by have h22 : q.val < 22 := q.isLt; omega⟩ else none

theorem idx_csem (k : Fin 15) : idx (csem k) = some k := by revert k; decide

abbrev kcell (ck : Dev nD × Fin 15) : GSem nD τ sig := ((ck.1 : Thread nD τ), csem ck.2)

/-- The send cell of the copy to the device `d` places on (`d = 1, 2, 3`) and the receive cell for device `s`. -/
abbrev sA (d : Fin 3) : Fin 15 := ⟨1 + d.val, by omega⟩
abbrev sL (d : Fin 3) : Fin 15 := ⟨4 + d.val, by omega⟩
abbrev rA (s : Dev nD) : Fin 15 := ⟨7 + s.val, by have h4 : s.val < 4 := s.isLt; omega⟩
abbrev rL (s : Dev nD) : Fin 15 := ⟨11 + s.val, by have h4 : s.val < 4 := s.isLt; omega⟩

/-- What a copy of a slot credits. -/
abbrev NA : ℕ := (aM 0).view.dmaCredit
abbrev NL : ℕ := (lM 0).view.dmaCredit
theorem NA_pos : 0 < NA := View.dmaCredit_pos _ (by decide)
theorem NL_pos : 0 < NL := View.dmaCredit_pos _ (by decide)
theorem aM_credit (s : Dev nD) : (aM s).view.dmaCredit = NA := rfl
theorem lM_credit (s : Dev nD) : (lM s).view.dmaCredit = NL := rfl

/-! ## The payloads -/

/-- The three shares of its own slot that a device lends to its copies; it keeps the left half for its loads. -/
def qs : Fin 3 → PosShare TreeShare
  | 0 => fullShare.right.left | 1 => fullShare.right.right.left | 2 => fullShare.right.right.right

/-- The contents of the two exchange buffers once everything has arrived: one function for all devices. `aG` is
    exact; of `lG` only row 0 of each slot is meant. -/
structure Con (F : FTy → Type) where
  aG : S4x2x128x512.Idx → Elt F .bf16
  lG : S4x2x8x512.Idx → Elt F .f32

/-- `f` agrees with `g` on row 0 of every slot. -/
def Row0 (g f : S4x2x8x512.Idx → Elt F .f32) : Prop := ∀ i : S4x2x8x512.Idx, (i 2).val = 0 → f i = g i

def aPts (c s : Dev nD) (q : PosShare TreeShare) (f : S4x2x128x512.Idx → Elt F .bf16) : sProp 𝕄 := iprop(aLoc c ↦[aSet s]{q} f)
def lPts (c s : Dev nD) (q : PosShare TreeShare) (f : S4x2x8x512.Idx → Elt F .f32) : sProp 𝕄 := iprop(lLoc c ↦[lSet s]{q} f)

instance aPts_storable (c s : Dev nD) (q) (f) : BI.Storable (upEmb : UEmb _ 𝕄) (aPts (F := F) c s q f) := by unfold aPts; infer_instance
instance lPts_storable (c s : Dev nD) (q) (f) : BI.Storable (upEmb : UEmb _ 𝕄) (lPts (F := F) c s q f) := by unfold lPts; infer_instance

/-- What the signal of `d` hands `c`: slot `c` of `d`'s two buffers, at any contents, and that `d`'s receive cells for
    `c` are at round 0. -/
def barPay (d c : Dev nD) : sProp 𝕄 :=
  iprop((∃ f, aPts d c fullShare f) ∗ (∃ f, lPts d c fullShare f) ∗ reached ER (kcell (d, rA c)) 0 ∗ reached ER (kcell (d, rL c)) 0)
def sendPayA (C : Con F) (c : Dev nD) (d : Fin 3) : sProp 𝕄 := aPts c c (qs d) C.aG
def sendPayL (c : Dev nD) (d : Fin 3) : sProp 𝕄 := iprop(∃ f, lPts c c (qs d) f)
def recvPayA (C : Con F) (c s : Dev nD) : sProp 𝕄 := aPts c s fullShare C.aG
def recvPayL (C : Con F) (c s : Dev nD) : sProp 𝕄 := iprop(∃ f, ⌜Row0 C.lG f⌝ ∗ lPts c s fullShare f)

def payK (C : Con F) (c : Dev nD) (d : Fin 4) : Fin 15 → sProp 𝕄
  | 0 => barPay d c
  | 1 => sendPayA C c 0 | 2 => sendPayA C c 1 | 3 => sendPayA C c 2
  | 4 => sendPayL c 0 | 5 => sendPayL c 1 | 6 => sendPayL c 2
  | 7 => recvPayA C c 0 | 8 => recvPayA C c 1 | 9 => recvPayA C c 2 | 10 => recvPayA C c 3
  | 11 => recvPayL C c 0 | 12 => recvPayL C c 1 | 13 => recvPayL C c 2 | 14 => recvPayL C c 3

def dutK (c : Dev nD) : Fin 15 → Finset (Fin 4)
  | 0 => Finset.univ.erase c
  | 1 => {c} | 2 => {c} | 3 => {c} | 4 => {c} | 5 => {c} | 6 => {c}
  | 7 => {(0 : Fin 4)} \ {c} | 8 => {(1 : Fin 4)} \ {c} | 9 => {(2 : Fin 4)} \ {c} | 10 => {(3 : Fin 4)} \ {c}
  | 11 => {(0 : Fin 4)} \ {c} | 12 => {(1 : Fin 4)} \ {c} | 13 => {(2 : Fin 4)} \ {c} | 14 => {(3 : Fin 4)} \ {c}

def amtK : Fin 15 → ℕ
  | 0 => 1
  | 1 => NA | 2 => NA | 3 => NA | 4 => NL | 5 => NL | 6 => NL
  | 7 => NA | 8 => NA | 9 => NA | 10 => NA | 11 => NL | 12 => NL | 13 => NL | 14 => NL

theorem amtK_pos (k : Fin 15) : 0 < amtK k := by
  have hA := NA_pos; have hL := NL_pos
  fin_cases k <;> first | exact Nat.one_pos | exact hA | exact hL

instance payK_storable (C : Con F) (c : Dev nD) (d : Fin 4) (k : Fin 15) : BI.Storable (upEmb : UEmb _ 𝕄) (payK C c d k) := by
  fin_cases k <;> dsimp only [payK] <;> first | (unfold barPay; infer_instance) | (unfold sendPayA; infer_instance) | (unfold sendPayL; infer_instance) | (unfold recvPayA; infer_instance) | (unfold recvPayL; infer_instance)

/-- One round on every cell, with the duties of the table above. -/
def exRd (C : Con F) : Rounds.Schedule (GSem nD τ sig) (Fin 4) 𝕄 where
  duties g r := if r = 0 ∧ g.1.2 = .tc then (match idx g.2 with | some k => dutK g.1.1 k | none => ∅) else ∅
  unitless _ := False
  amount g _ _ := match idx g.2 with | some k => amtK k | none => 1
  payload g _ d := match idx g.2 with | some k => payK C g.1.1 d k | none => iprop(emp)
  amount_pos g _ _ _ := by
    split
    · exact amtK_pos _
    · exact Nat.one_pos

instance exRd_payload_storable (C : Con F) (g : GSem nD τ sig) (r : ℕ) (d : Fin 4) :
    BI.Storable (upEmb : UEmb _ 𝕄) ((exRd (F := F) C).payload g r d) := by
  show BI.Storable upEmb (match idx g.2 with | some k => payK C g.1.1 d k | none => iprop(emp))
  split <;> infer_instance

section Tables
variable (C : Con F) (c : Dev nD) (k : Fin 15)

theorem duties_k : (exRd C).duties (kcell (c, k)) 0 = dutK c k := by
  dsimp only [exRd]; rw [if_pos ⟨rfl, rfl⟩, idx_csem]
theorem duties_later (g : GSem nD τ sig) : ∀ r, 1 ≤ r → (exRd C).duties g r = ∅ :=
  fun r hr => by dsimp only [exRd]; rw [if_neg fun h => by omega]
theorem amount_k (d : Fin 4) : (exRd C).amount (kcell (c, k)) 0 d = amtK k := by
  dsimp only [exRd]; rw [idx_csem]
theorem payload_k (d : Fin 4) : (exRd C).payload (kcell (c, k)) 0 d = payK C c d k := by
  dsimp only [exRd]; rw [idx_csem]
theorem expect_k : (exRd C).expect (kcell (c, k)) 0 = (dutK c k).card * amtK k := by
  unfold Schedule.expect Schedule.amountOf
  rw [duties_k, Finset.sum_congr rfl fun d _ => amount_k C c k d, Finset.sum_const, smul_eq_mul]
theorem rest_k : bigSep ((exRd C).duties (kcell (c, k)) 0 \ ∅) (fun d => (exRd C).payload (kcell (c, k)) 0 d) = bigSep (dutK c k) (fun d => payK C c d k) := by
  rw [Finset.sdiff_empty, duties_k]
  exact congrArg _ (funext fun d => payload_k C c k d)

/-- A cell with one duty: what its wait takes and hands over. -/
theorem expect_one {d : Fin 4} (h : dutK c k = {d}) : (exRd C).expect (kcell (c, k)) 0 = amtK k := by
  rw [expect_k, h, Finset.card_singleton, one_mul]
theorem rest_one {d : Fin 4} (h : dutK c k = {d}) :
    bigSep ((exRd C).duties (kcell (c, k)) 0 \ ∅) (fun d => (exRd C).payload (kcell (c, k)) 0 d) = payK C c d k := by
  rw [rest_k, h, bigSep_singleton]

theorem expect_bar : (exRd C).expect (kcell (c, 0)) 0 = 3 := by
  rw [expect_k]
  have h : (dutK c 0).card = 3 := by revert c; decide
  rw [h]; rfl
theorem rest_bar : bigSep ((exRd C).duties (kcell (c, 0)) 0 \ ∅) (fun d => (exRd C).payload (kcell (c, 0)) 0 d)
    = iprop(barPay (pr c 1) c ∗ barPay (pr c 2) c ∗ barPay (pr c 3) c) := by
  rw [rest_k, bigSep_eq_bigSepL_of_eq [pr c 1, pr c 2, pr c 3] (by revert c; decide) (by revert c; decide), bigSepL_cons_cons, bigSepL_cons_cons, bigSepL_singleton]
  rfl

end Tables

theorem dutK_sA (c : Dev nD) (d : Fin 3) : dutK c (sA d) = {c} := by revert c d; decide
theorem dutK_sL (c : Dev nD) (d : Fin 3) : dutK c (sL d) = {c} := by revert c d; decide
theorem dutK_rA {c s : Dev nD} (h : s ≠ c) : dutK c (rA s) = {s} := by revert c s; decide
theorem dutK_rL {c s : Dev nD} (h : s ≠ c) : dutK c (rL s) = {s} := by revert c s; decide
theorem dutK_rA_self (c : Dev nD) : dutK c (rA c) = ∅ := by revert c; decide
theorem dutK_rL_self (c : Dev nD) : dutK c (rL c) = ∅ := by revert c; decide
theorem mem_dutK_bar {c d : Dev nD} (h : d ≠ c) : (d : Fin 4) ∈ dutK c 0 := Finset.mem_erase.mpr ⟨h, Finset.mem_univ _⟩
theorem amtK_sA (d : Fin 3) : amtK (sA d) = NA := by fin_cases d <;> rfl
theorem amtK_sL (d : Fin 3) : amtK (sL d) = NL := by fin_cases d <;> rfl
theorem amtK_rA (s : Dev nD) : amtK (rA s) = NA := by fin_cases s <;> rfl
theorem amtK_rL (s : Dev nD) : amtK (rL s) = NL := by fin_cases s <;> rfl
theorem payK_sA (C : Con F) (c : Dev nD) (e : Fin 4) (d : Fin 3) : payK C c e (sA d) = sendPayA C c d := by fin_cases d <;> rfl
theorem payK_sL (C : Con F) (c : Dev nD) (e : Fin 4) (d : Fin 3) : payK C c e (sL d) = sendPayL c d := by fin_cases d <;> rfl
theorem payK_rA (C : Con F) (c : Dev nD) (e : Fin 4) (s : Dev nD) : payK C c e (rA s) = recvPayA C c s := by fin_cases s <;> rfl
theorem payK_rL (C : Con F) (c : Dev nD) (e : Fin 4) (s : Dev nD) : payK C c e (rL s) = recvPayL C c s := by fin_cases s <;> rfl

/-- The device of duty 0 of a send cell. -/
theorem pr_ne (c : Dev nD) (d : Fin 3) : pr c d.succ ≠ c := by revert c d; decide

/-! ## What each device owes; the levels -/

/-- The credit device `c` owes the receive cells of the device `d + 1` places on. -/
def owA (c : Dev nD) (d : Fin 3) : CellTallies nD τ sig Unit := tallyAt (kcell (pr c d.succ, rA c)) () NA
def owL (c : Dev nD) (d : Fin 3) : CellTallies nD τ sig Unit := tallyAt (kcell (pr c d.succ, rL c)) () NL
def owB (c : Dev nD) (d : Fin 3) : CellTallies nD τ sig Unit := tallyAt (kcell (pr c d.succ, 0)) () 1
/-- After the handshake: the six copies, the first one peeling the last summand. -/
def O₁ (c : Dev nD) : CellTallies nD τ sig Unit := owL c 2 + owA c 2 + owL c 1 + owA c 1 + owL c 0 + owA c 0
/-- At launch: those and the three signals. -/
def O₀ (c : Dev nD) : CellTallies nD τ sig Unit := O₁ c + owB c 2 + owB c 1 + owB c 0

def L (g : GSem nD τ sig) : Finset Unit := if g.1.2 = .tc then {()} else ∅
/-- Barrier cells at 1, receive cells at 2, everything else at 0. -/
def lvS (sm : SemLoc sig) : ℕ := match idx sm with
  | some k => if k = 0 then 1 else if 7 ≤ k.val then 2 else 0
  | none => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_rA (s : Dev nD) : lvS (csem (rA s)) = 2 := by revert s; decide
theorem lvS_rL (s : Dev nD) : lvS (csem (rL s)) = 2 := by revert s; decide
theorem lvS_bar : lvS (csem 0) = 1 := by decide

/-- Everything owed lies on a TensorCore's cell at level at least `n`. -/
def Above (n : ℕ) (O : CellTallies nD τ sig Unit) : Prop := ∀ g u, 0 < O g u → g.1.2 = .tc ∧ n ≤ lvS g.2

theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (p : Dev nD) (sm : SemLoc sig) (a : ℕ) (h : n ≤ lvS sm) : Above n (tallyAt ((p : Thread nD τ), sm) () a) := fun g u hg => by
  rw [tallyAt_apply] at hg
  by_cases he : g = ((p : Thread nD τ), sm) ∧ u = ()
  · rw [he.1]; exact ⟨rfl, h⟩
  · rw [if_neg he] at hg; exact absurd hg (Nat.lt_irrefl 0)
theorem above_zero (n : ℕ) : Above n 0 := fun g u hg => absurd hg (Nat.lt_irrefl 0)
theorem above_owA (c : Dev nD) (d : Fin 3) : Above 2 (owA c d) := above_tally _ _ _ (lvS_rA c).ge
theorem above_owL (c : Dev nD) (d : Fin 3) : Above 2 (owL c d) := above_tally _ _ _ (lvS_rL c).ge
theorem above_mono {n k : ℕ} (h : k ≤ n) {O : CellTallies nD τ sig Unit} (hO : Above n O) : Above k O := fun g u hg => ⟨(hO g u hg).1, h.trans (hO g u hg).2⟩
theorem above_O₁ (c : Dev nD) : Above 2 (O₁ c) :=
  above_add (above_add (above_add (above_add (above_add (above_owL c 2) (above_owA c 2)) (above_owL c 1)) (above_owA c 1)) (above_owL c 0)) (above_owA c 0)
theorem above_O₀ (c : Dev nD) : Above 1 (O₀ c) :=
  above_add (above_add (above_add (above_mono (by decide) (above_O₁ c)) (above_tally _ _ _ lvS_bar.ge)) (above_tally _ _ _ lvS_bar.ge)) (above_tally _ _ _ lvS_bar.ge)

/-- A device may wait at a cell below everything it owes. -/
theorem mayWait_of (c : Dev nD) (sm : SemLoc sig) (n : ℕ) (h : lvS sm ≤ n) (O : CellTallies nD τ sig Unit) (hO : Above (n + 1) O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact h)
    (fun g u hg => Nat.lt_of_succ_le (hO g u hg).2)

end Cert.KernelIdeal.Run

end
-- ==== Proof.Ideal.Copies.lean ====
/-
The double-buffered local copies: chunk `n` (`2048` rows) of this device's keys and values is copied from HBM into slot
`n % 2` of the two chunk buffers, started two grid steps before it is used (the first two in step 0).
-/
module

public import proofs.«01_k».proof.Proof.Ideal.Sched

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The memrefs, at any offsets -/

abbrev InbSlot (o : Fin 3 → ℕ) : Prop := ∀ a, o a + S1x2048x256.size a ≤ S2x2048x256.size a
abbrev InbRows (o : Fin 2 → ℕ) : Prop := ∀ a, o a + S2048x256.size a ≤ S32768x256.size a
abbrev InbSem (o : Fin 2 → ℕ) : Prop := ∀ a, o a + S1x1.size a ≤ S2x2.size a

/-- A slot of the buffer of key chunks. -/
abbrev kSlot (o : Fin 3 → ℕ) (h : InbSlot o) : Memref sig .tc .vmem S2048x256 .f32 :=
  ((Memref.whole cc0_scratch4).slice (Rect.unit (s := S2x2048x256) o S1x2048x256.size h) (fun _ => rfl)).squeeze S2048x256 squeezes_S1x2048x256_S2048x256
/-- A slot of the buffer of value chunks. -/
abbrev vSlot (o : Fin 3 → ℕ) (h : InbSlot o) : Memref sig .tc .vmem S2048x256 .f32 :=
  ((Memref.whole cc0_scratch5).slice (Rect.unit (s := S2x2048x256) o S1x2048x256.size h) (fun _ => rfl)).squeeze S2048x256 squeezes_S1x2048x256_S2048x256
/-- Rows of the device's keys in HBM, both heads side by side. -/
abbrev kRows (o : Fin 2 → ℕ) (h : InbRows o) : Memref sig .tc .hbm S2048x256 .f32 :=
  ((Memref.whole main_arg3).reshape S32768x256 reshapes_S32768x2x128_S32768x256.1 reshapes_S32768x2x128_S32768x256.2 (Memref.isWhole_whole _).contiguous).slice
    (Rect.unit (s := S32768x256) o S2048x256.size h) (fun _ => rfl)
/-- Rows of the device's values in HBM. -/
abbrev vRows (o : Fin 2 → ℕ) (h : InbRows o) : Memref sig .tc .hbm S2048x256 .f32 :=
  ((Memref.whole main_arg4).reshape S32768x256 reshapes_S32768x2x128_S32768x256.1 reshapes_S32768x2x128_S32768x256.2 (Memref.isWhole_whole _).contiguous).slice
    (Rect.unit (s := S32768x256) o S2048x256.size h) (fun _ => rfl)
/-- A semaphore of the local copies. -/
abbrev cSem (o : Fin 2 → ℕ) (h : InbSem o) : DmaSem sig :=
  ((cc0_scratch6.slice (Rect.unit (s := S2x2) o S1x1.size h)).squeeze S_ squeezes_S1x1_S_).sem

abbrev NC : ℕ := (kSlot ![0, 0, 0] inb_S2x2048x256_S1x2048x256_0_0_0).view.amount (.dma (sig := sig) (cSem ![0, 0] inb_S2x2_S1x1_0_0))

/-! ## What is held -/

/-- A slot at given contents; a block of rows in HBM at given contents. -/
abbrev kSlotPts (c : Dev nD) (o : Fin 3 → ℕ) (h : InbSlot o) (f : S2x2048x256.Idx → Elt F .f32) : sProp 𝕄 :=
  iprop((kSlot o h).view.loc (c : Thread nD τ) ↦[(kSlot o h).view.set]{fullShare} f)
abbrev vSlotPts (c : Dev nD) (o : Fin 3 → ℕ) (h : InbSlot o) (f : S2x2048x256.Idx → Elt F .f32) : sProp 𝕄 :=
  iprop((vSlot o h).view.loc (c : Thread nD τ) ↦[(vSlot o h).view.set]{fullShare} f)
abbrev kRowsPts (c : Dev nD) (o : Fin 2 → ℕ) (h : InbRows o) (f : S32768x2x128.Idx → Elt F .f32) : sProp 𝕄 :=
  iprop((kRows o h).view.loc (c : Thread nD τ) ↦[(kRows o h).view.set]{fullShare} f)
abbrev vRowsPts (c : Dev nD) (o : Fin 2 → ℕ) (h : InbRows o) (f : S32768x2x128.Idx → Elt F .f32) : sProp 𝕄 :=
  iprop((vRows o h).view.loc (c : Thread nD τ) ↦[(vRows o h).view.set]{fullShare} f)

/-- What a slot holds once rows `oh` have been copied into it, over what it held. -/
abbrev kLand (od : Fin 3 → ℕ) (hd : InbSlot od) (oh : Fin 2 → ℕ) (hh : InbRows oh) (K : S32768x2x128.Idx → Elt F .f32) (fd : S2x2048x256.Idx → Elt F .f32) :
    S2x2048x256.Idx → Elt F .f32 :=
  (kSlot od hd).view.write (Elt F) fd ((kRows oh hh).view.read (Elt F) K) Finset.univ
abbrev vLand (od : Fin 3 → ℕ) (hd : InbSlot od) (oh : Fin 2 → ℕ) (hh : InbRows oh) (K : S32768x2x128.Idx → Elt F .f32) (fd : S2x2048x256.Idx → Elt F .f32) :
    S2x2048x256.Idx → Elt F .f32 :=
  (vSlot od hd).view.write (Elt F) fd ((vRows oh hh).view.read (Elt F) K) Finset.univ

/-- A copy of rows of the keys into a slot, under way. -/
def kFl (c : Dev nD) (os : Fin 2 → ℕ) (hs : InbSem os) (od : Fin 3 → ℕ) (hd : InbSlot od) (oh : Fin 2 → ℕ) (hh : InbRows oh)
    (K : S32768x2x128.Idx → Elt F .f32) : sProp 𝕄 :=
  iprop(∃ fd, Transfers.Flight countersEmb (c : Thread nD τ) (.dma (cSem os hs)) () NC
    iprop(kSlotPts c od hd (kLand od hd oh hh K fd) ∗ kRowsPts c oh hh K))
def vFl (c : Dev nD) (os : Fin 2 → ℕ) (hs : InbSem os) (od : Fin 3 → ℕ) (hd : InbSlot od) (oh : Fin 2 → ℕ) (hh : InbRows oh)
    (K : S32768x2x128.Idx → Elt F .f32) : sProp 𝕄 :=
  iprop(∃ fd, Transfers.Flight countersEmb (c : Thread nD τ) (.dma (cSem os hs)) () NC
    iprop(vSlotPts c od hd (vLand od hd oh hh K fd) ∗ vRowsPts c oh hh K))

theorem kFl_congr (c : Dev nD) {os os' : Fin 2 → ℕ} (es : os = os') {od od' : Fin 3 → ℕ} (ed : od = od') {oh oh' : Fin 2 → ℕ} (eh : oh = oh')
    (hs : InbSem os) (hd : InbSlot od) (hh : InbRows oh) (hs' : InbSem os') (hd' : InbSlot od') (hh' : InbRows oh') (K : S32768x2x128.Idx → Elt F .f32) :
    kFl c os hs od hd oh hh K = kFl c os' hs' od' hd' oh' hh' K := by subst es ed eh; rfl
theorem vFl_congr (c : Dev nD) {os os' : Fin 2 → ℕ} (es : os = os') {od od' : Fin 3 → ℕ} (ed : od = od') {oh oh' : Fin 2 → ℕ} (eh : oh = oh')
    (hs : InbSem os) (hd : InbSlot od) (hh : InbRows oh) (hs' : InbSem os') (hd' : InbSlot od') (hh' : InbRows oh') (K : S32768x2x128.Idx → Elt F .f32) :
    vFl c os hs od hd oh hh K = vFl c os' hs' od' hd' oh' hh' K := by subst es ed eh; rfl

/-! ## The program at the kernel's own buffers -/

abbrev body (i : grid0.Coords) : Prog (TpuEff nD τ sig (Elt F) Λ₀ .tc) PUnit :=
  cc0_body i (Memref.whole cc0_stg0_0) (Memref.isWhole_whole _) (Memref.whole cc0_stg1_0) (Memref.isWhole_whole _) (Memref.whole cc0_stg2_0) (Memref.isWhole_whole _)
    (Memref.whole main_arg3) (Memref.isWhole_whole _) (Memref.whole main_arg4) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 (Memref.whole cc0_scratch7) (Memref.isWhole_whole _) (Memref.whole cc0_scratch8) (Memref.isWhole_whole _) cc0_scratch9 cc0_scratch10

abbrev 𝒱₀ : Variants := Variants.none
abbrev pts (c : Dev nD) (b : Ref sig .tc) (X : b.ty.Contents (Elt F)) : sProp 𝕄 := iprop((Memref.whole b).view.loc (c : Thread nD τ) ↦{fullShare} X)

end Cert.KernelIdeal.Run

end
-- ==== Proof.Ideal.State.lean ====
/-
The ghost state of the exchange, and one rule per synchronising operation of the kernel.
-/
module

public import proofs.«01_k».proof.Proof.Ideal.Copies

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The ghost state -/

variable (C : Con F) (K : Dev nD × Fin 15 → ℕ)

/-- Every cell's invariant, and that every cell is at round 0 or later. -/
def records : sProp 𝕄 :=
  iprop((bigSep Finset.univ fun ck => cellInv ER (exRd C) (K ck) (kcell ck)) ∗ bigSep Finset.univ fun ck => reached ER (kcell ck) 0)

instance records_persistent : BI.Persistent (records C K) := by unfold records; infer_instance

theorem inv_at (ck : Dev nD × Fin 15) : records C K ⊢ cellInv ER (exRd C) (K ck) (kcell ck) := by
  have h : (bigSep Finset.univ fun ck : Dev nD × Fin 15 => (cellInv ER (exRd C) (K ck) (kcell ck) : sProp 𝕄)) ⊢ cellInv ER (exRd C) (K ck) (kcell ck) :=
    bigSep_elim (Finset.mem_univ ck)
  unfold records
  iintro ⟨H, -⟩
  iapply h; iexact H
theorem reached_at (ck : Dev nD × Fin 15) : records C K ⊢ (reached ER (kcell ck) 0 : sProp 𝕄) := by
  have h : (bigSep Finset.univ fun ck : Dev nD × Fin 15 => (reached ER (kcell ck) 0 : sProp 𝕄)) ⊢ reached ER (kcell ck) 0 :=
    bigSep_elim (Finset.mem_univ ck)
  unfold records
  iintro ⟨-, H⟩
  iapply h; iexact H

/-- The wait for the whole of a one-duty cell's round 0, nothing owed: what its duty hands over, and the counter at zero. -/
theorem wait_one (c : Dev nD) (k : Fin 15) {d : Fin 4} (h : dutK c k = {d}) {α : Type} {w : TpuEff nD τ sig (Elt F) Λ₀ .tc PUnit}
    (hw : ∀ J : PUnit → sProp 𝕄, wpE (defs₀ (F := F)) 𝒱₀ (c : Thread nD τ) none Set.univ w J = waitSpec (c : Thread nD τ) Set.univ (csem k) (amtK k) J)
    {kk : PUnit → Prog (TpuEff nD τ sig (Elt F) Λ₀ .tc) α} {Q : α → sProp 𝕄} (W : Waits sig Unit) :
    iprop(records C K ∗ cred (tallyAt (kcell (c, k)) () (amtK k)) ∗ owes (c : Thread nD τ) 0 W ∗ atPos ER (kcell (c, k)) 0 ∅ 0)
      ⊢ iprop(((owes (c : Thread nD τ) 0 (insert (csem k, ()) W) ∗ semVal (kcell (c, k)) 0 ∗ payK C c d k)
          -∗ wp frame (wpE (defs₀ (F := F)) 𝒱₀ (c : Thread nD τ) none) Set.univ (kk ⟨⟩) Q)
        -∗ wp frame (wpE (defs₀ (F := F)) 𝒱₀ (c : Thread nD τ) none) Set.univ (.op w kk) Q) := by
  iintro ⟨#HR, Hc, HO, Hat⟩ Hk
  ihave #HI := (inv_at C K (c, k)) $$ HR
  iapply (Rounds.wp_wait_rest_token 𝒱₀ ER (exRd C) (c : Thread nD τ) none (κ := K (c, k))
      hw (Set.mem_univ _) () (O := 0) (W := W) (R := 0) (m := 0) (T := ∅)
      (by rw [Nat.zero_add]; exact (expect_one C c k h).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (exRd C) (Set.mem_univ (K (c, k))) (fun h => h) (R := 0 + 1) (duties_later C (kcell (c, k)))) $$ [Hat] with Hz
  · isplitr; · iexact HI
    iexact Hat
  ihave Hp := (Entails.of_eq (rest_one C c k h)) $$ Hpay
  iapply Hk
  isplitl [HO]; · iexact HO
  isplitl [Hz] <;> iassumption

/-- A cell with no duty closes at once. -/
theorem close_none (c : Dev nD) (k : Fin 15) (h : dutK c k = ∅) :
    iprop(records C K ∗ atPos ER (kcell (c, k)) 0 ∅ 0) ⊢ iprop(|={Set.univ}=> semVal (kcell (c, k)) 0) := by
  iintro ⟨#HR, Hat⟩
  ihave #HI := (inv_at C K (c, k)) $$ HR
  imod (Rounds.cell_close ER (exRd C) (Set.mem_univ (K (c, k))) (fun h => h) (R := 0)
    (fun r _ => by
      rcases Nat.eq_zero_or_pos r with rfl | hr
      · rw [duties_k, h]
      · exact duties_later C _ r hr)) $$ [Hat] with Hz
  · isplitr; · iexact HI
    iexact Hat
  imodintro; iexact Hz

/-- The handshake's wait: the three peers' slots for this device. -/
theorem wait_bar (c : Dev nD) {α : Type} {w : TpuEff nD τ sig (Elt F) Λ₀ .tc PUnit}
    (hw : ∀ J : PUnit → sProp 𝕄, wpE (defs₀ (F := F)) 𝒱₀ (c : Thread nD τ) none Set.univ w J = waitSpec (c : Thread nD τ) Set.univ (csem 0) 3 J)
    {kk : PUnit → Prog (TpuEff nD τ sig (Elt F) Λ₀ .tc) α} {Q : α → sProp 𝕄} (W : Waits sig Unit) :
    iprop(records C K ∗ levAts L lv ∗ cred (tallyAt (kcell (c, 0)) () 3) ∗ owes (c : Thread nD τ) (O₁ c) W ∗ atPos ER (kcell (c, 0)) 0 ∅ 0)
      ⊢ iprop(((owes (c : Thread nD τ) (O₁ c) (insert (csem 0, ()) W) ∗ semVal (kcell (c, 0)) 0
            ∗ barPay (pr c 1) c ∗ barPay (pr c 2) c ∗ barPay (pr c 3) c)
          -∗ wp frame (wpE (defs₀ (F := F)) 𝒱₀ (c : Thread nD τ) none) Set.univ (kk ⟨⟩) Q)
        -∗ wp frame (wpE (defs₀ (F := F)) 𝒱₀ (c : Thread nD τ) none) Set.univ (.op w kk) Q) := by
  iintro ⟨#HR, #Hlev, Hc, HO, Hat⟩ Hk
  ihave #HI := (inv_at C K (c, 0)) $$ HR
  iapply (Rounds.wp_wait_rest_token 𝒱₀ ER (exRd C) (c : Thread nD τ) none (κ := K (c, 0))
      hw (Set.mem_univ _) () (O := O₁ c) (W := W) (R := 0) (m := 0) (T := ∅)
      (by rw [Nat.zero_add]; exact (expect_bar C c).symm)) $$ [Hc HO Hat]
  · isplitr; · iexact HI
    isplitl [Hc]; · iexact Hc
    isplitl [HO]; · iexact HO
    isplitr; · iapply (mayWait_of c (csem 0) 1 lvS_bar.le (O₁ c) (above_O₁ c)); iexact Hlev
    iexact Hat
  iintro ⟨HO, Hat, -, Hpay⟩
  imod (Rounds.cell_close ER (exRd C) (Set.mem_univ (K (c, 0))) (fun h => h) (R := 0 + 1) (duties_later C (kcell (c, 0)))) $$ [Hat] with Hz
  · isplitr; · iexact HI
    iexact Hat
  ihave Hp := (Entails.of_eq (rest_bar C c)) $$ Hpay
  iapply Hk
  isplitl [HO]; · iexact HO
  isplitl [Hz] <;> iassumption

/-- The handshake's wait as the kernel writes it. -/
theorem wait_bar_op (c : Dev nD) {α : Type} {kk : PUnit → Prog (TpuEff nD τ sig (Elt F) Λ₀ .tc) α} {Q : α → sProp 𝕄} (W : Waits sig Unit) :
    iprop(records C K ∗ levAts L lv ∗ cred (tallyAt (kcell (c, 0)) () 3) ∗ owes (c : Thread nD τ) (O₁ c) W ∗ atPos ER (kcell (c, 0)) 0 ∅ 0)
      ⊢ iprop(((owes (c : Thread nD τ) (O₁ c) (insert (csem 0, ()) W) ∗ semVal (kcell (c, 0)) 0
            ∗ barPay (pr c 1) c ∗ barPay (pr c 2) c ∗ barPay (pr c 3) c)
          -∗ wp frame (wpE (defs₀ (F := F)) 𝒱₀ (c : Thread nD τ) none) Set.univ (kk ⟨⟩) Q)
        -∗ wp frame (wpE (defs₀ (F := F)) 𝒱₀ (c : Thread nD τ) none) Set.univ (.op (.semWait barS 3) kk) Q) :=
  wait_bar C K c (wpE_semWait_eq 𝒱₀ (c : Thread nD τ) none Set.univ) W

/-- The signal to the device `d + 1` places on: that device's slots of this device's receive buffers go with it. -/
theorem signal_one (c p : Dev nD) (d : Fin 3) (hp : p = pr c d.succ) (O : CellTallies nD τ sig Unit)
    {α : Type} {kk : PUnit → Prog (TpuEff nD τ sig (Elt F) Λ₀ .tc) α} {Q : α → sProp 𝕄} (W : Waits sig Unit) :
    iprop(records C K ∗ owes (c : Thread nD τ) (O + owB c d) W ∗ dutyTok ER (kcell (pr c d.succ, 0)) 0 c
        ∗ (∃ f, aPts c (pr c d.succ) fullShare f) ∗ (∃ f, lPts c (pr c d.succ) fullShare f))
      ⊢ iprop((owes (c : Thread nD τ) O W -∗ wp frame (wpE (defs₀ (F := F)) 𝒱₀ (c : Thread nD τ) none) Set.univ (kk ⟨⟩) Q)
        -∗ wp frame (wpE (defs₀ (F := F)) 𝒱₀ (c : Thread nD τ) none) Set.univ (.op (.semSignal (p : Thread nD τ) barS 1) kk) Q) := by
  subst hp
  iintro ⟨#HR, HO, Ht, Ha, Hl⟩ Hk
  iapply (Rounds.wp_signal 𝒱₀ ER (exRd C) (c : Thread nD τ) none (dst := (pr c d.succ : Thread nD τ)) (sem := barS) (r := 0) (κ := K (pr c d.succ, 0))
      (d := (c : Fin 4)) (by rw [duties_k C (pr c d.succ) 0]; exact mem_dutK_bar (pr_ne c d).symm) (amount_k C (pr c d.succ) 0 c) () O rfl) $$ [HO Ht Ha Hl]
  · isplitr; · iapply (inv_at C K (pr c d.succ, 0)); iexact HR
    isplitl [HO]; · iexact HO
    isplitl [Ht]; · iexact Ht
    isplitl [Ha Hl]
    · rw [payload_k C (pr c d.succ) 0 c, show payK C (pr c d.succ) c 0 = barPay c (pr c d.succ) from rfl]
      unfold barPay
      isplitl [Ha]; · iexact Ha
      isplitl [Hl]; · iexact Hl
      isplitr
      · iapply (reached_at C K (c, rA (pr c d.succ))); iexact HR
      · iapply (reached_at C K (c, rL (pr c d.succ))); iexact HR
    · iapply (reached_at C K (pr c d.succ, 0)); iexact HR
  iexact Hk

end Cert.KernelIdeal.Run

end
-- ==== Proof.Ideal.Sends.lean ====
/-
The slots of the exchange buffers and the six remote copies.
-/
module

public import proofs.«01_k».proof.Proof.Ideal.State

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Slots -/

theorem mem_aSet {s : Dev nD} {i : S4x2x128x512.Idx} : i ∈ aSet s ↔ (i 0).val = s.val := by
  unfold aSet
  rw [Rect.mem_set_unit]
  constructor
  · intro h; have h0 := h 0; simp only [S1x2x128x512] at h0; change s.val ≤ (i 0).val ∧ (i 0).val < s.val + 1 at h0; omega
  · intro h a
    have ha := (i a).isLt
    fin_cases a
    · change s.val ≤ (i 0).val ∧ (i 0).val < s.val + 1; omega
    · exact ⟨Nat.zero_le _, by simpa using (i 1).isLt⟩
    · exact ⟨Nat.zero_le _, by simpa using (i 2).isLt⟩
    · exact ⟨Nat.zero_le _, by simpa using (i 3).isLt⟩
theorem mem_lSet {s : Dev nD} {i : S4x2x8x512.Idx} : i ∈ lSet s ↔ (i 0).val = s.val := by
  unfold lSet
  rw [Rect.mem_set_unit]
  constructor
  · intro h; have h0 := h 0; change s.val ≤ (i 0).val ∧ (i 0).val < s.val + 1 at h0; omega
  · intro h a
    fin_cases a
    · change s.val ≤ (i 0).val ∧ (i 0).val < s.val + 1; omega
    · exact ⟨Nat.zero_le _, by simpa using (i 1).isLt⟩
    · exact ⟨Nat.zero_le _, by simpa using (i 2).isLt⟩
    · exact ⟨Nat.zero_le _, by simpa using (i 3).isLt⟩

theorem aSet_disjoint (b b' : Dev nD) (h : b ≠ b') : Disjoint (aSet b) (aSet b') := by
  rw [Finset.disjoint_left]; intro i hi hi'
  exact h (Fin.ext ((mem_aSet.mp hi).symm.trans (mem_aSet.mp hi')))
theorem lSet_disjoint (b b' : Dev nD) (h : b ≠ b') : Disjoint (lSet b) (lSet b') := by
  rw [Finset.disjoint_left]; intro i hi hi'
  exact h (Fin.ext ((mem_lSet.mp hi).symm.trans (mem_lSet.mp hi')))
theorem aSet_cover : Finset.univ.biUnion aSet = Finset.univ := by
  ext i; simp only [Finset.mem_biUnion, Finset.mem_univ, true_and, iff_true]
  exact ⟨⟨(i 0).val, (i 0).isLt⟩, mem_aSet.mpr rfl⟩
theorem lSet_cover : Finset.univ.biUnion lSet = Finset.univ := by
  ext i; simp only [Finset.mem_biUnion, Finset.mem_univ, true_and, iff_true]
  exact ⟨⟨(i 0).val, (i 0).isLt⟩, mem_lSet.mpr rfl⟩

/-- What a copy of a slot leaves there: the source's contents. -/
theorem aM_write (s : Dev nD) (fd g : S4x2x128x512.Idx → Elt F .bf16) :
    ∀ i ∈ aSet s, (aM s).view.write (Elt F) fd ((aM s).view.read (Elt F) g) Finset.univ i = g i := by
  intro i hi
  rw [← aM_set] at hi
  obtain ⟨x, -, rfl⟩ := Finset.mem_map.mp hi
  exact (View.write_emb_of_mem _ _ (Finset.mem_univ _)).trans rfl
theorem lM_write (s : Dev nD) (fd g : S4x2x8x512.Idx → Elt F .f32) :
    ∀ i ∈ lSet s, (lM s).view.write (Elt F) fd ((lM s).view.read (Elt F) g) Finset.univ i = g i := by
  intro i hi
  rw [← lM_set] at hi
  obtain ⟨x, -, rfl⟩ := Finset.mem_map.mp hi
  exact (View.write_emb_of_mem _ _ (Finset.mem_univ _)).trans rfl

/-- A slot whose row 0 is right can be held at contents whose row 0 is right everywhere. -/
theorem lPts_row0 (g : S4x2x8x512.Idx → Elt F .f32) (c s : Dev nD) (q : PosShare TreeShare) (f : S4x2x8x512.Idx → Elt F .f32)
    (h : ∀ i ∈ lSet s, (i 2).val = 0 → f i = g i) : lPts c s q f ⊢ iprop(∃ f', ⌜Row0 g f'⌝ ∗ lPts c s q f') := by
  classical
  iintro H
  iexists (fun i => if i ∈ lSet s then f i else g i)
  isplitr
  · ipureintro
    intro i hi
    by_cases hs : i ∈ lSet s
    · dsimp only; rw [if_pos hs]; exact h i hs hi
    · dsimp only; rw [if_neg hs]
  · unfold lPts
    have e : (lLoc c ↦[lSet s]{q} f : sProp 𝕄) = (lLoc c ↦[lSet s]{q} (fun i => if i ∈ lSet s then f i else g i)) :=
      pointsTo_congr (fun i hi => (if_pos hi).symm)
    iapply (Entails.of_eq e); iexact H

/-! ## The remote copies -/

theorem aM_amount (c : Dev nD) : (aM c).view.amount (csem (rA c)) = NA := by fin_cases c <;> rfl
theorem lM_amount (c : Dev nD) : (lM c).view.amount (csem (rL c)) = NL := by fin_cases c <;> rfl

variable (C : Con F) (K : Dev nD × Fin 15 → ℕ)

/-- The copy of this device's slot of weighted sums to the device `d + 1` places on. -/
theorem send_acc (c p : Dev nD) (d : Fin 3) (hp : p = pr c d.succ) {src : Memref sig .tc .vmem S2x128x512 .bf16} (hs : src = aM c)
    {dst : Memref sig (Dev.tc p : Thread nD τ).2.kind .vmem S2x128x512 .bf16} (ht : dst = aM c)
    {sS sR : SemLoc sig} (hS : sS = csem (sA d)) (hR : sR = csem (rA c))
    {hsc : dst.view.ref.isScScratch = false} {hsrc : src.view.WordExact} {hdst : dst.view.WordExact}
    {hsem : DmaTarget.Typed .vmem sR (.remote (Dev.tc p : Thread nD τ) dst sS hsc)}
    {α : Type} {Q : α → sProp 𝕄} {k : PUnit → Prog (TpuEff nD τ sig (Elt F) Λ₀ .tc) α} (O : CellTallies nD τ sig Unit) (W : Waits sig Unit) :
    iprop(records C K ∗ aPts c c (qs d) C.aG ∗ (∃ f, aPts (pr c d.succ) c fullShare f) ∗ owes (c : Thread nD τ) (O + owA c d) W
        ∗ dutyTok ER (kcell (c, sA d)) 0 c ∗ dutyTok ER (kcell (pr c d.succ, rA c)) 0 c)
      ⊢ iprop(((cred (tallyAt (kcell (c, sA d)) () NA) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p : Thread nD τ) dst sS hsc) sR hsrc hdst hsem) k) Q) := by
  subst hp hs ht hS hR
  iintro ⟨#HR, Hs, ⟨%f, Hd⟩, HO, Ht1, Ht2⟩ Hk
  iapply (Rounds.wp_send_pointsTo 𝒱₀ ER (exRd C) (c : Thread nD τ) none (κ₁ := K (c, sA d)) (κ₂ := K (pr c d.succ, rA c))
    (src := aM c) (dst := aM c) (sS := csem (sA d)) (sem := csem (rA c)) (c' := (pr c d.succ : Thread nD τ))
    (r₁ := 0) (r₂ := 0) (d₁ := (c : Fin 4)) (d₂ := (c : Fin 4)) (q := qs d) (fs := C.aG) (fd := f)
    (by rw [duties_k C c (sA d), dutK_sA]; exact Finset.mem_singleton_self _) (by rw [duties_k C (pr c d.succ) (rA c), dutK_rA (pr_ne c d).symm]; exact Finset.mem_singleton_self _)
    () () NA (aM_amount c) ((amount_k C c (sA d) c).trans (amtK_sA d)) ((amount_k C (pr c d.succ) (rA c) c).trans (amtK_rA c)) O rfl (W := W)
    (by rw [payload_k C c (sA d), payK_sA]; unfold sendPayA aPts; rw [← aM_set]; exact BI.Entails.refl _)
    (by
      rw [payload_k C (pr c d.succ) (rA c), payK_rA]; unfold recvPayA aPts
      have e : (((aM c).view.loc (pr c d.succ : Thread nD τ)) ↦[(aM c).view.set]{fullShare} ((aM c).view.write (Elt F) f ((aM c).view.read (Elt F) C.aG) Finset.univ) : sProp 𝕄)
          = (aLoc (pr c d.succ) ↦[aSet c]{fullShare} C.aG) := by
        rw [aM_set]; exact pointsTo_congr (aM_write c f C.aG)
      exact Entails.of_eq e)) $$ [Hs Hd HO Ht1 Ht2]
  · isplitr; · iapply (inv_at C K (c, sA d)); iexact HR
    isplitr; · iapply (inv_at C K (pr c d.succ, rA c)); iexact HR
    isplitl [Hs]; · unfold aPts; rw [aM_set]; iexact Hs
    isplitl [Hd]; · unfold aPts; rw [aM_set]; iexact Hd
    isplitl [HO]; · iexact HO
    isplitl [Ht1]; · iexact Ht1
    isplitr; · iapply (reached_at C K (c, sA d)); iexact HR
    isplitl [Ht2]; · iexact Ht2
    iapply (reached_at C K (pr c d.succ, rA c)); iexact HR
  iexact Hk

/-- The copy of this device's slot of sums of weights to the device `d + 1` places on. -/
theorem send_l (c p : Dev nD) (d : Fin 3) (hp : p = pr c d.succ) {src : Memref sig .tc .vmem S2x8x512 .f32} (hs : src = lM c)
    {dst : Memref sig (Dev.tc p : Thread nD τ).2.kind .vmem S2x8x512 .f32} (ht : dst = lM c)
    {sS sR : SemLoc sig} (hS : sS = csem (sL d)) (hR : sR = csem (rL c))
    {hsc : dst.view.ref.isScScratch = false} {hsrc : src.view.WordExact} {hdst : dst.view.WordExact}
    {hsem : DmaTarget.Typed .vmem sR (.remote (Dev.tc p : Thread nD τ) dst sS hsc)}
    {α : Type} {Q : α → sProp 𝕄} {k : PUnit → Prog (TpuEff nD τ sig (Elt F) Λ₀ .tc) α} (O : CellTallies nD τ sig Unit) (W : Waits sig Unit)
    (g : S4x2x8x512.Idx → Elt F .f32) (hg : Row0 C.lG g) :
    iprop(records C K ∗ lPts c c (qs d) g ∗ (∃ f, lPts (pr c d.succ) c fullShare f) ∗ owes (c : Thread nD τ) (O + owL c d) W
        ∗ dutyTok ER (kcell (c, sL d)) 0 c ∗ dutyTok ER (kcell (pr c d.succ, rL c)) 0 c)
      ⊢ iprop(((cred (tallyAt (kcell (c, sL d)) () NL) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p : Thread nD τ) dst sS hsc) sR hsrc hdst hsem) k) Q) := by
  subst hp hs ht hS hR
  iintro ⟨#HR, Hs, ⟨%f, Hd⟩, HO, Ht1, Ht2⟩ Hk
  iapply (Rounds.wp_send_pointsTo 𝒱₀ ER (exRd C) (c : Thread nD τ) none (κ₁ := K (c, sL d)) (κ₂ := K (pr c d.succ, rL c))
    (src := lM c) (dst := lM c) (sS := csem (sL d)) (sem := csem (rL c)) (c' := (pr c d.succ : Thread nD τ))
    (r₁ := 0) (r₂ := 0) (d₁ := (c : Fin 4)) (d₂ := (c : Fin 4)) (q := qs d) (fs := g) (fd := f)
    (by rw [duties_k C c (sL d), dutK_sL]; exact Finset.mem_singleton_self _) (by rw [duties_k C (pr c d.succ) (rL c), dutK_rL (pr_ne c d).symm]; exact Finset.mem_singleton_self _)
    () () NL (lM_amount c) ((amount_k C c (sL d) c).trans (amtK_sL d)) ((amount_k C (pr c d.succ) (rL c) c).trans (amtK_rL c)) O rfl (W := W)
    (by
      rw [payload_k C c (sL d), payK_sL]; unfold sendPayL lPts; rw [← lM_set]
      iintro H; iexists g; iexact H)
    (by
      rw [payload_k C (pr c d.succ) (rL c), payK_rL]; unfold recvPayL lPts
      have e : (((lM c).view.loc (pr c d.succ : Thread nD τ)) ↦[(lM c).view.set]{fullShare} ((lM c).view.write (Elt F) f ((lM c).view.read (Elt F) g) Finset.univ) : sProp 𝕄)
          = (lLoc (pr c d.succ) ↦[lSet c]{fullShare} g) := by
        rw [lM_set]; exact pointsTo_congr (lM_write c f g)
      refine (Entails.of_eq e).trans ?_
      iintro H; iexists g; isplitr; · (ipureintro; exact hg)
      iexact H)) $$ [Hs Hd HO Ht1 Ht2]
  · isplitr; · iapply (inv_at C K (c, sL d)); iexact HR
    isplitr; · iapply (inv_at C K (pr c d.succ, rL c)); iexact HR
    isplitl [Hs]; · unfold lPts; rw [lM_set]; iexact Hs
    isplitl [Hd]; · unfold lPts; rw [lM_set]; iexact Hd
    isplitl [HO]; · iexact HO
    isplitl [Ht1]; · iexact Ht1
    isplitr; · iapply (reached_at C K (c, sL d)); iexact HR
    isplitl [Ht2]; · iexact Ht2
    iapply (reached_at C K (pr c d.succ, rL c)); iexact HR
  iexact Hk

end Cert.KernelIdeal.Run

end
-- ==== Proof.Ideal.Vals.lean ====
/-
What the kernel's buffers hold, as functions of a device's arguments.
-/
module

public import proofs.«01_k».proof.Proof.Ideal.Copies
public import Idealize.ShloMosaic.Lib.Pipeline.Value

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- An update of the whole array is the update. -/
theorem updateSlice_whole {α : Type} {s : Shape} (x u : s.Idx → α) {start : Fin s.rank → ℕ} (h : s.Slices start s) (h0 : ∀ a, start a = 0) :
    updateSlice x u start h = u := by
  funext i
  unfold updateSlice
  rw [dif_pos (fun a => by have := (i a).isLt; rw [h0]; exact ⟨Nat.zero_le _, by simpa using this⟩)]
  congr 1; funext a; apply Fin.ext
  show (i a).val - start a = (i a).val
  rw [h0, Nat.sub_zero]

/-! ## Reading a chunk that has landed -/

/-- A rectangle read after a whole write through it, reshaped: the written values in row-major order. -/
theorem read_landed {sp : Space} {s s' : Shape} {e : EltTy} (v : View sig .tc sp s e) (r : Rect s) (h : s'.numel = r.shape.numel)
    (g : s'.Idx → Elt F e) (fd : v.ty.Contents (Elt F)) :
    v.readAt (Elt F) r.toLoadRect (((v.slice r).reshape s' h).write (Elt F) fd g Finset.univ) = fun j => g (Shape.reshapeEquiv h.symm j) := by
  funext j
  have hw := View.write_emb_of_mem (v := (v.slice r).reshape s' h) fd g (Finset.mem_univ (Shape.reshapeEquiv h.symm j))
  have hx : ((v.slice r).reshape s' h).emb (Shape.reshapeEquiv h.symm j) = (v.slice r).emb j := by
    rw [View.emb_reshape, Function.Embedding.trans_apply]
    exact congrArg _ ((Shape.reshapeEquiv_reshapeEquiv _ _ j).trans (Shape.reshapeEquiv_self _ j))
  rw [hx] at hw
  show cast _ (((v.slice r).reshape s' h).write (Elt F) fd g Finset.univ ((v.slice r).emb j)) = _
  rw [hw]
  simp

/-- Rows `2048 n …` of the keys, as a slot of the chunk buffer shows them. -/
theorem rowsInb (n : ℕ) : InbRows ![2048 * (n % 16), 0] := by
  have h : n % 16 < 16 := Nat.mod_lt _ (by decide)
  intro a
  fin_cases a
  · show 2048 * (n % 16) + 2048 ≤ 32768; omega
  · show 0 + 256 ≤ 256; omega
def kChunk (K : S32768x2x128.Idx → Elt F .f32) (n : ℕ) : Vec F S1x2048x256 .f32 :=
  fun j => (kRows ![2048 * (n % 16), 0] (rowsInb n)).view.read (Elt F) K (Shape.reshapeEquiv squeezes_S1x2048x256_S2048x256.numel_eq.symm j)
def vChunk (V : S32768x2x128.Idx → Elt F .f32) (n : ℕ) : Vec F S1x2048x256 .f32 :=
  fun j => (vRows ![2048 * (n % 16), 0] (rowsInb n)).view.read (Elt F) V (Shape.reshapeEquiv squeezes_S1x2048x256_S2048x256.numel_eq.symm j)

theorem k_landed (K : S32768x2x128.Idx → Elt F .f32) (n : ℕ) {od od' : Fin 3 → ℕ} (e : od' = od) (hd : InbSlot od) (hd' : InbSlot od') {oh : Fin 2 → ℕ} (hh : InbRows oh)
    (eh : oh = ![2048 * (n % 16), 0]) (fd : S2x2048x256.Idx → Elt F .f32) :
    (Memref.whole cc0_scratch4).view.readAt (Elt F) (Rect.unit (s := S2x2048x256) od' S1x2048x256.size hd').toLoadRect (kLand od hd oh hh K fd) = kChunk K n := by
  subst e eh
  exact read_landed (Memref.whole cc0_scratch4).view (Rect.unit (s := S2x2048x256) od' S1x2048x256.size hd') squeezes_S1x2048x256_S2048x256.numel_eq
    ((kRows ![2048 * (n % 16), 0] hh).view.read (Elt F) K) fd
theorem v_landed (V : S32768x2x128.Idx → Elt F .f32) (n : ℕ) {od od' : Fin 3 → ℕ} (e : od' = od) (hd : InbSlot od) (hd' : InbSlot od') {oh : Fin 2 → ℕ} (hh : InbRows oh)
    (eh : oh = ![2048 * (n % 16), 0]) (fd : S2x2048x256.Idx → Elt F .f32) :
    (Memref.whole cc0_scratch5).view.readAt (Elt F) (Rect.unit (s := S2x2048x256) od' S1x2048x256.size hd').toLoadRect (vLand od hd oh hh V fd) = vChunk V n := by
  subst e eh
  exact read_landed (Memref.whole cc0_scratch5).view (Rect.unit (s := S2x2048x256) od' S1x2048x256.size hd') squeezes_S1x2048x256_S2048x256.numel_eq
    ((vRows ![2048 * (n % 16), 0] hh).view.read (Elt F) V) fd

/-! ## What the scratch buffers hold -/

/-- The projected inputs as the first step reads them. -/
def ldWq (Wq : cc0_stg1_0.ty.Contents (Elt F)) : Vec F S1024x1024 .f32 :=
  (Memref.whole cc0_stg1_0).view.readAt (Elt F) (Rect.unit (s := S1024x1024) ![0, 0] S1024x1024.size inb_S1024x1024_S1024x1024_0_0).toLoadRect Wq
def ldX (X : cc0_stg0_0.ty.Contents (Elt F)) : Vec F S128x1024 .f32 :=
  (Memref.whole cc0_stg0_0).view.readAt (Elt F) (Rect.unit (s := S128x1024) ![0, 0] S128x1024.size inb_S128x1024_S128x1024_0_0).toLoadRect X

/-- The buffer of queries after the eight stores of step 0, over contents `Q`. -/
def qsOver (X : cc0_stg0_0.ty.Contents (Elt F)) (Wq : cc0_stg1_0.ty.Contents (Elt F)) (Q : cc0_scratch0.ty.Contents (Elt F)) : cc0_scratch0.ty.Contents (Elt F) :=
  (Memref.whole cc0_scratch0).view.writes (Elt F) Q
      [⟨Rect.unit (s := S256x1024) ![128, 896] S128x128.size inb_S256x1024_S128x128_128_896, k0_pay16 (k0_pay6 (ldWq Wq) (ldX X))⟩,
        ⟨Rect.unit (s := S256x1024) ![128, 768] S128x128.size inb_S256x1024_S128x128_128_768, k0_pay15 (k0_pay6 (ldWq Wq) (ldX X))⟩,
        ⟨Rect.unit (s := S256x1024) ![128, 640] S128x128.size inb_S256x1024_S128x128_128_640, k0_pay14 (k0_pay6 (ldWq Wq) (ldX X))⟩,
        ⟨Rect.unit (s := S256x1024) ![128, 512] S128x128.size inb_S256x1024_S128x128_128_512, k0_pay13 (k0_pay6 (ldWq Wq) (ldX X))⟩,
        ⟨Rect.unit (s := S256x1024) ![0, 384] S128x128.size inb_S256x1024_S128x128_0_384, k0_pay12 (k0_pay6 (ldWq Wq) (ldX X))⟩,
        ⟨Rect.unit (s := S256x1024) ![0, 256] S128x128.size inb_S256x1024_S128x128_0_256, k0_pay11 (k0_pay6 (ldWq Wq) (ldX X))⟩,
        ⟨Rect.unit (s := S256x1024) ![0, 128] S128x128.size inb_S256x1024_S128x128_0_128, k0_pay10 (k0_pay6 (ldWq Wq) (ldX X))⟩,
        ⟨Rect.unit (s := S256x1024) ![0, 0] S128x128.size inb_S256x1024_S128x128_0_0, k0_pay9 (k0_pay8 (ldWq Wq) (ldX X))⟩]
/-- The queries from step 0 on: the buffer is cleared first. -/
def qsC (X : cc0_stg0_0.ty.Contents (Elt F)) (Wq : cc0_stg1_0.ty.Contents (Elt F)) : cc0_scratch0.ty.Contents (Elt F) := qsOver X Wq k0_pay7
def ldQ (Q : cc0_scratch0.ty.Contents (Elt F)) : Vec F S256x1024 .bf16 :=
  (Memref.whole cc0_scratch0).view.readAt (Elt F) (Rect.unit (s := S256x1024) ![0, 0] S256x1024.size inb_S256x1024_S256x1024_0_0).toLoadRect Q

/-- One step's stores into the sums of weighted values and into the sums of weights. -/
def accW (kc vc : FVec F S2048x256 .bf16) (q : Vec F S256x1024 .bf16) (A : cc0_scratch1.ty.Contents (Elt F)) : cc0_scratch1.ty.Contents (Elt F) :=
  (Memref.whole cc0_scratch1).view.writes (Elt F) A
    [⟨Rect.unit (s := S128x1024) ![0, 512] S128x512.size inb_S128x1024_S128x512_0_512,
        k0_pay5 kc vc q ((Memref.whole cc0_scratch1).view.readAt (Elt F) (Rect.unit (s := S128x1024) ![0, 512] S128x512.size inb_S128x1024_S128x512_0_512).toLoadRect A)⟩,
      ⟨Rect.unit (s := S128x1024) ![0, 0] S128x512.size inb_S128x1024_S128x512_0_0,
        k0_pay4 kc vc q ((Memref.whole cc0_scratch1).view.readAt (Elt F) (Rect.unit (s := S128x1024) ![0, 0] S128x512.size inb_S128x1024_S128x512_0_0).toLoadRect A)⟩]
def lW (kc : FVec F S2048x256 .bf16) (q : Vec F S256x1024 .bf16) (Lf : cc0_scratch2.ty.Contents (Elt F)) : cc0_scratch2.ty.Contents (Elt F) :=
  (Memref.whole cc0_scratch2).view.writes (Elt F) Lf
    [⟨Rect.unit (s := S8x1024) ![0, 0] S1x1024.size inb_S8x1024_S1x1024_0_0,
        k0_pay2 kc q ((Memref.whole cc0_scratch2).view.readAt (Elt F) (Rect.unit (s := S8x1024) ![0, 0] S1x1024.size inb_S8x1024_S1x1024_0_0).toLoadRect Lf)⟩]

section Folds
variable (X : cc0_stg0_0.ty.Contents (Elt F)) (Wq : cc0_stg1_0.ty.Contents (Elt F)) (K V : S32768x2x128.Idx → Elt F .f32)

/-- The two accumulators after `n` chunks. -/
def accAt : ℕ → cc0_scratch1.ty.Contents (Elt F)
  | 0 => k0_pay41 (k0_pay17 (F := F))
  | n + 1 => accW (k0_pay43 (kChunk K n)) (k0_pay44 (vChunk V n)) (ldQ (qsC X Wq)) (accAt n)
def lAt : ℕ → cc0_scratch2.ty.Contents (Elt F)
  | 0 => k0_pay42 (F := F)
  | n + 1 => lW (k0_pay43 (kChunk K n)) (ldQ (qsC X Wq)) (lAt n)

end Folds

/-! ## A store over a whole buffer -/

theorem qs_cleared (Q : cc0_scratch0.ty.Contents (Elt F)) (w : Vec F S256x1024 .bf16) (h : ∀ a, (![0, 0] : Fin 2 → ℕ) a + S256x1024.size a ≤ S256x1024.size a) :
    (Memref.whole cc0_scratch0).view.writes (Elt F) Q [⟨Rect.unit (s := S256x1024) ![0, 0] S256x1024.size h, w⟩] = w :=
  (View.write_whole_slice_unit cc0_scratch0 ![0, 0] S256x1024.size h Q w).trans (updateSlice_whole Q w _ (by decide))
theorem acc_cleared (A : cc0_scratch1.ty.Contents (Elt F)) (w : Vec F S128x1024 .f32) (h : ∀ a, (![0, 0] : Fin 2 → ℕ) a + S128x1024.size a ≤ S128x1024.size a) :
    (Memref.whole cc0_scratch1).view.writes (Elt F) A [⟨Rect.unit (s := S128x1024) ![0, 0] S128x1024.size h, w⟩] = w :=
  (View.write_whole_slice_unit cc0_scratch1 ![0, 0] S128x1024.size h A w).trans (updateSlice_whole A w _ (by decide))
theorem l_cleared (A : cc0_scratch2.ty.Contents (Elt F)) (w : Vec F S8x1024 .f32) (h : ∀ a, (![0, 0] : Fin 2 → ℕ) a + S8x1024.size a ≤ S8x1024.size a) :
    (Memref.whole cc0_scratch2).view.writes (Elt F) A [⟨Rect.unit (s := S8x1024) ![0, 0] S8x1024.size h, w⟩] = w :=
  (View.write_whole_slice_unit cc0_scratch2 ![0, 0] S8x1024.size h A w).trans (updateSlice_whole A w _ (by decide))

end Cert.KernelIdeal.Run

end
-- ==== Proof.Ideal.Step.lean ====
/-
The local copies by chunk number.
-/
module

public import proofs.«01_k».proof.Proof.Ideal.Sends
public import proofs.«01_k».proof.Proof.Ideal.Vals

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The copies by chunk number -/

theorem slotInb (n : ℕ) : InbSlot ![n % 2, 0, 0] := by
  have h : n % 2 < 2 := Nat.mod_lt _ (by decide)
  intro a; fin_cases a
  · show n % 2 + 1 ≤ 2; omega
  · show 0 + 2048 ≤ 2048; omega
  · show 0 + 256 ≤ 256; omega
theorem semInb (n j : ℕ) (hj : j < 2) : InbSem ![n % 2, j] := by
  have h : n % 2 < 2 := Nat.mod_lt _ (by decide)
  intro a; fin_cases a
  · show n % 2 + 1 ≤ 2; omega
  · show j + 1 ≤ 2; omega

/-- The copies of chunk `n`, under way. -/
def flK (c : Dev nD) (n : ℕ) (K : S32768x2x128.Idx → Elt F .f32) : sProp 𝕄 :=
  kFl c ![n % 2, 0] (semInb n 0 (by decide)) ![n % 2, 0, 0] (slotInb n) ![2048 * (n % 16), 0] (rowsInb n) K
def flV (c : Dev nD) (n : ℕ) (V : S32768x2x128.Idx → Elt F .f32) : sProp 𝕄 :=
  vFl c ![n % 2, 1] (semInb n 1 (by decide)) ![n % 2, 0, 0] (slotInb n) ![2048 * (n % 16), 0] (rowsInb n) V
/-- The slots of chunk `n` with no copy under way, and their semaphores at zero. -/
def freeS (c : Dev nD) (n : ℕ) : sProp 𝕄 :=
  iprop((∃ f, kSlotPts c ![n % 2, 0, 0] (slotInb n) f) ∗ (∃ f, vSlotPts c ![n % 2, 0, 0] (slotInb n) f)
    ∗ semVal ((c : Thread nD τ), .dma (cSem ![n % 2, 0] (semInb n 0 (by decide)))) 0 ∗ semVal ((c : Thread nD τ), .dma (cSem ![n % 2, 1] (semInb n 1 (by decide)))) 0)
/-- Chunk `n` of the keys and of the values, at rest in HBM. -/
def home (c : Dev nD) (n : ℕ) (K V : S32768x2x128.Idx → Elt F .f32) : sProp 𝕄 :=
  iprop(kRowsPts c ![2048 * (n % 16), 0] (rowsInb n) K ∗ vRowsPts c ![2048 * (n % 16), 0] (rowsInb n) V)

theorem kRows_congr (c : Dev nD) {o o' : Fin 2 → ℕ} (e : o = o') (h : InbRows o) (h' : InbRows o') (K : S32768x2x128.Idx → Elt F .f32) :
    kRowsPts c o h K = kRowsPts c o' h' K := by subst e; rfl
theorem vRows_congr (c : Dev nD) {o o' : Fin 2 → ℕ} (e : o = o') (h : InbRows o) (h' : InbRows o') (K : S32768x2x128.Idx → Elt F .f32) :
    vRowsPts c o h K = vRowsPts c o' h' K := by subst e; rfl
theorem kSlot_congr (c : Dev nD) {o o' : Fin 3 → ℕ} (e : o = o') (h : InbSlot o) (h' : InbSlot o') (f : S2x2048x256.Idx → Elt F .f32) :
    kSlotPts c o h f = kSlotPts c o' h' f := by subst e; rfl
theorem vSlot_congr (c : Dev nD) {o o' : Fin 3 → ℕ} (e : o = o') (h : InbSlot o) (h' : InbSlot o') (f : S2x2048x256.Idx → Elt F .f32) :
    vSlotPts c o h f = vSlotPts c o' h' f := by subst e; rfl
theorem cVal_congr (c : Dev nD) {o o' : Fin 2 → ℕ} (e : o = o') (h : InbSem o) (h' : InbSem o') :
    (semVal ((c : Thread nD τ), .dma (cSem o h)) 0 : sProp 𝕄) = semVal ((c : Thread nD τ), .dma (cSem o' h')) 0 := by subst e; rfl

/-- The semaphores of the local copies are at level 0. -/
theorem lvS_cSem (n j : ℕ) (hj : j < 2) {o : Fin 2 → ℕ} (h : InbSem o) (e : o = ![n % 2, j]) : lvS (.dma (cSem o h) : SemLoc sig) ≤ 0 := by
  subst e
  have h2 : n % 2 < 2 := Nat.mod_lt _ (by decide)
  obtain ⟨a, ha⟩ : ∃ a, a = n % 2 := ⟨_, rfl⟩
  revert h
  rw [← ha]
  intro h
  have : a = 0 ∨ a = 1 := by omega
  have : j = 0 ∨ j = 1 := by omega
  rcases ‹a = 0 ∨ a = 1› with rfl | rfl <;> rcases ‹j = 0 ∨ j = 1› with rfl | rfl
  · show lvS (.dma (cSem ![0, 0] inb_S2x2_S1x1_0_0) : SemLoc sig) ≤ 0; decide
  · show lvS (.dma (cSem ![0, 1] inb_S2x2_S1x1_0_1) : SemLoc sig) ≤ 0; decide
  · show lvS (.dma (cSem ![1, 0] inb_S2x2_S1x1_1_0) : SemLoc sig) ≤ 0; decide
  · show lvS (.dma (cSem ![1, 1] inb_S2x2_S1x1_1_1) : SemLoc sig) ≤ 0; decide

theorem wait_cSem (c : Dev nD) (n j : ℕ) (hj : j < 2) {o : Fin 2 → ℕ} (h : InbSem o) (e : o = ![n % 2, j]) :
    (levAts L lv : sProp 𝕄) ⊢ MayWait (c : Thread nD τ) (.dma (cSem o h)) () (O₁ c) :=
  mayWait_of c _ 0 (lvS_cSem n j hj h e) (O₁ c) (above_mono (by decide) (above_O₁ c))

/-- A copy as its issue leaves it. -/
theorem kFl_of_writes (c : Dev nD) (os : Fin 2 → ℕ) (hs : InbSem os) (od : Fin 3 → ℕ) (hd : InbSlot od) (oh : Fin 2 → ℕ) (hh : InbRows oh)
    (K : S32768x2x128.Idx → Elt F .f32) (f : S2x2048x256.Idx → Elt F .f32) :
    Transfers.Flight countersEmb (c : Thread nD τ) (.dma (cSem os hs)) () NC
      iprop(kSlotPts c od hd ((kSlot od hd).view.writes (Elt F) f [⟨Rect.whole S2048x256, (kRows oh hh).view.read (Elt F) K⟩]) ∗ kRowsPts c oh hh K)
    ⊢ kFl c os hs od hd oh hh K := by
  iintro H
  unfold kFl; iexists f
  have e : kLand od hd oh hh K f = (kSlot od hd).view.writes (Elt F) f [⟨Rect.whole S2048x256, (kRows oh hh).view.read (Elt F) K⟩] :=
    View.write_univ_eq_writes_whole (L := []) ..
  rw [e]; iexact H
theorem vFl_of_writes (c : Dev nD) (os : Fin 2 → ℕ) (hs : InbSem os) (od : Fin 3 → ℕ) (hd : InbSlot od) (oh : Fin 2 → ℕ) (hh : InbRows oh)
    (V : S32768x2x128.Idx → Elt F .f32) (f : S2x2048x256.Idx → Elt F .f32) :
    Transfers.Flight countersEmb (c : Thread nD τ) (.dma (cSem os hs)) () NC
      iprop(vSlotPts c od hd ((vSlot od hd).view.writes (Elt F) f [⟨Rect.whole S2048x256, (vRows oh hh).view.read (Elt F) V⟩]) ∗ vRowsPts c oh hh V)
    ⊢ vFl c os hs od hd oh hh V := by
  iintro H
  unfold vFl; iexists f
  have e : vLand od hd oh hh V f = (vSlot od hd).view.writes (Elt F) f [⟨Rect.whole S2048x256, (vRows oh hh).view.read (Elt F) V⟩] :=
    View.write_univ_eq_writes_whole (L := []) ..
  rw [e]; iexact H

theorem kFl_open (c : Dev nD) {os : Fin 2 → ℕ} {hs : InbSem os} {od : Fin 3 → ℕ} {hd : InbSlot od} {oh : Fin 2 → ℕ} {hh : InbRows oh}
    {K : S32768x2x128.Idx → Elt F .f32} : kFl c os hs od hd oh hh K ⊢ iprop(∃ fd, Transfers.Flight countersEmb (c : Thread nD τ) (.dma (cSem os hs)) () NC
    iprop(kSlotPts c od hd (kLand od hd oh hh K fd) ∗ kRowsPts c oh hh K)) := .refl
theorem vFl_open (c : Dev nD) {os : Fin 2 → ℕ} {hs : InbSem os} {od : Fin 3 → ℕ} {hd : InbSlot od} {oh : Fin 2 → ℕ} {hh : InbRows oh}
    {V : S32768x2x128.Idx → Elt F .f32} : vFl c os hs od hd oh hh V ⊢ iprop(∃ fd, Transfers.Flight countersEmb (c : Thread nD τ) (.dma (cSem os hs)) () NC
    iprop(vSlotPts c od hd (vLand od hd oh hh V fd) ∗ vRowsPts c oh hh V)) := .refl

theorem freeS_of (c : Dev nD) (n : ℕ) {o1 o3 : Fin 2 → ℕ} {o2 : Fin 3 → ℕ} (e1 : ![n % 2, 0] = o1) (e2 : ![n % 2, 0, 0] = o2) (e3 : ![n % 2, 1] = o3)
    (h1 : InbSem o1) (h2 : InbSlot o2) (h3 : InbSem o3) (f g : S2x2048x256.Idx → Elt F .f32) :
    iprop(kSlotPts c o2 h2 f ∗ vSlotPts c o2 h2 g ∗ semVal ((c : Thread nD τ), .dma (cSem o1 h1)) 0 ∗ semVal ((c : Thread nD τ), .dma (cSem o3 h3)) 0)
      ⊢ freeS c n := by
  subst e1; subst e2; subst e3
  unfold freeS
  iintro ⟨H1, H2, H3, H4⟩
  isplitl [H1]; · iexists f; iexact H1
  isplitl [H2]; · iexists g; iexact H2
  isplitl [H3] <;> iassumption

end Cert.KernelIdeal.Run

end
-- ==== Proof.Ideal.First.lean ====
/-
The first grid step: the accumulators, the first copies, the handshake, chunk 0.
-/
module

public import proofs.«01_k».proof.Proof.Ideal.Step

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem free_even (c : Dev nD) : freeS (F := F) c 0 ⊢ iprop((∃ f, kSlotPts c ![0, 0, 0] inb_S2x2048x256_S1x2048x256_0_0_0 f) ∗ (∃ f, vSlotPts c ![0, 0, 0] inb_S2x2048x256_S1x2048x256_0_0_0 f)
    ∗ semVal ((c : Thread nD τ), .dma (cSem ![0, 0] inb_S2x2_S1x1_0_0)) 0 ∗ semVal ((c : Thread nD τ), .dma (cSem ![0, 1] inb_S2x2_S1x1_0_1)) 0) := .refl
theorem free_odd (c : Dev nD) : freeS (F := F) c 1 ⊢ iprop((∃ f, kSlotPts c ![1, 0, 0] inb_S2x2048x256_S1x2048x256_1_0_0 f) ∗ (∃ f, vSlotPts c ![1, 0, 0] inb_S2x2048x256_S1x2048x256_1_0_0 f)
    ∗ semVal ((c : Thread nD τ), .dma (cSem ![1, 0] inb_S2x2_S1x1_1_0)) 0 ∗ semVal ((c : Thread nD τ), .dma (cSem ![1, 1] inb_S2x2_S1x1_1_1)) 0) := .refl

/-- The queries' buffer as step 0 leaves it: cleared whole, then one store per head. -/
def qsRaw (X : cc0_stg0_0.ty.Contents (Elt F)) (Wq : cc0_stg1_0.ty.Contents (Elt F)) (Q : cc0_scratch0.ty.Contents (Elt F)) : cc0_scratch0.ty.Contents (Elt F) :=
  (Memref.whole cc0_scratch0).view.writes (Elt F) Q
      [⟨Rect.unit (s := S256x1024) ![128, 896] S128x128.size inb_S256x1024_S128x128_128_896, k0_pay16 (k0_pay6 (ldWq Wq) (ldX X))⟩,
        ⟨Rect.unit (s := S256x1024) ![128, 768] S128x128.size inb_S256x1024_S128x128_128_768, k0_pay15 (k0_pay6 (ldWq Wq) (ldX X))⟩,
        ⟨Rect.unit (s := S256x1024) ![128, 640] S128x128.size inb_S256x1024_S128x128_128_640, k0_pay14 (k0_pay6 (ldWq Wq) (ldX X))⟩,
        ⟨Rect.unit (s := S256x1024) ![128, 512] S128x128.size inb_S256x1024_S128x128_128_512, k0_pay13 (k0_pay6 (ldWq Wq) (ldX X))⟩,
        ⟨Rect.unit (s := S256x1024) ![0, 384] S128x128.size inb_S256x1024_S128x128_0_384, k0_pay12 (k0_pay6 (ldWq Wq) (ldX X))⟩,
        ⟨Rect.unit (s := S256x1024) ![0, 256] S128x128.size inb_S256x1024_S128x128_0_256, k0_pay11 (k0_pay6 (ldWq Wq) (ldX X))⟩,
        ⟨Rect.unit (s := S256x1024) ![0, 128] S128x128.size inb_S256x1024_S128x128_0_128, k0_pay10 (k0_pay6 (ldWq Wq) (ldX X))⟩,
        ⟨Rect.unit (s := S256x1024) ![0, 0] S128x128.size inb_S256x1024_S128x128_0_0, k0_pay9 (k0_pay8 (ldWq Wq) (ldX X))⟩,
        ⟨Rect.unit (s := S256x1024) ![0, 0] S256x1024.size inb_S256x1024_S256x1024_0_0, k0_pay7⟩]
theorem qsRaw_eq (X : cc0_stg0_0.ty.Contents (Elt F)) (Wq : cc0_stg1_0.ty.Contents (Elt F)) (Q : cc0_scratch0.ty.Contents (Elt F)) : qsRaw X Wq Q = qsC X Wq := by
  have h : qsRaw X Wq Q = qsOver X Wq ((Memref.whole cc0_scratch0).view.writes (Elt F) Q
      [⟨Rect.unit (s := S256x1024) ![0, 0] S256x1024.size inb_S256x1024_S256x1024_0_0, k0_pay7⟩]) := by
    unfold qsRaw qsOver
    simp only [View.writes]
  rw [h, qs_cleared]; rfl

set_option maxHeartbeats 1000000 in
/-- Step 0: the queries are formed, chunks 0 to 2 sent for, the peers told that this device runs and heard from, chunk 0 taken in. -/
theorem step_first (C : Con F) (Kg : Dev nD × Fin 15 → ℕ) (c : Dev nD) (i : grid0.Coords) (ht : (i 0).val = 0)
    (h1 : (Scalar.cmpi .ne (Scalar.extui (Scalar.cmpi .eq (BitVec.ofNat 32 (i 0).val) 0#32) : BitVec 32) 0#32 : BitVec 1) = 1#1)
    (h2 : k0_cond2 i = 1#1) (h3 : k0_cond3 i = 1#1) (h4 : ¬ k0_cond4 i = 1#1)
    (X : cc0_stg0_0.ty.Contents (Elt F)) (Wq : cc0_stg1_0.ty.Contents (Elt F)) (K V : S32768x2x128.Idx → Elt F .f32)
    (Q : cc0_scratch0.ty.Contents (Elt F)) (A : cc0_scratch1.ty.Contents (Elt F)) (Lf : cc0_scratch2.ty.Contents (Elt F))
    (W : Waits sig Unit) (Kt : PUnit → sProp 𝕄) :
    iprop(records C Kg ∗ levAts L lv ∗ owes (c : Thread nD τ) (O₀ c) W
      ∗ cred (tallyAt (kcell (c, 0)) () 3) ∗ atPos ER (kcell (c, 0)) 0 ∅ 0
      ∗ (dutyTok ER (kcell (pr c 1, 0)) 0 c ∗ dutyTok ER (kcell (pr c 2, 0)) 0 c ∗ dutyTok ER (kcell (pr c 3, 0)) 0 c)
      ∗ ((∃ f, aPts c (pr c 1) fullShare f) ∗ (∃ f, aPts c (pr c 2) fullShare f) ∗ (∃ f, aPts c (pr c 3) fullShare f))
      ∗ ((∃ f, lPts c (pr c 1) fullShare f) ∗ (∃ f, lPts c (pr c 2) fullShare f) ∗ (∃ f, lPts c (pr c 3) fullShare f))
      ∗ freeS c 0 ∗ freeS c 1 ∗ home c 0 K V ∗ home c 1 K V ∗ home c 2 K V
      ∗ pts c cc0_stg0_0 X ∗ pts c cc0_stg1_0 Wq
      ∗ pts c cc0_scratch0 Q ∗ pts c cc0_scratch1 A ∗ pts c cc0_scratch2 Lf
      ∗ (∀ W', (owes (c : Thread nD τ) (O₁ c) W' ∗ semVal (kcell (c, 0)) 0
          ∗ barPay (pr c 1) c ∗ barPay (pr c 2) c ∗ barPay (pr c 3) c
          ∗ flK c 1 K ∗ flV c 1 V ∗ flK c 2 K ∗ flV c 2 V ∗ home c 0 K V
          ∗ pts c cc0_stg0_0 X ∗ pts c cc0_stg1_0 Wq
          ∗ pts c cc0_scratch0 (qsC X Wq) ∗ pts c cc0_scratch1 (accAt X Wq K V 1) ∗ pts c cc0_scratch2 (lAt X Wq K 1)) -∗ Kt ⟨⟩))
      ⊢ wp frame (wpE (defs₀ (F := F)) 𝒱₀ (c : Thread nD τ) none) Set.univ (body (F := F) i) Kt := by
  have o1 : ![0, 0] = k0_off1 i := by rw [k0_off1_eq, ht]
  have o2 : ![0, 0, 0] = k0_off2 i := by rw [k0_off2_eq, ht]
  have o3 : ![0, 1] = k0_off3 i := by rw [k0_off3_eq, ht]
  have o7 : ![2048 * (2 % 16), 0] = k0_off7 i := by rw [k0_off7_eq, ht]
  have hh : InbRows ![2048 * (0 % 16), 0] := rowsInb 0
  have eH0 : home c 0 K V = iprop(kRowsPts c ![0,0] inb_S32768x256_S2048x256_0_0 K ∗ vRowsPts c ![0,0] inb_S32768x256_S2048x256_0_0 V) := rfl
  have eH1 : home c 1 K V = iprop(kRowsPts c ![2048,0] inb_S32768x256_S2048x256_2048_0 K ∗ vRowsPts c ![2048,0] inb_S32768x256_S2048x256_2048_0 V) := rfl
  have eH2 : home c 2 K V = iprop(kRowsPts c (k0_off7 i) (k0_off7_inb i h3) K ∗ vRowsPts c (k0_off7 i) (k0_off7_inb i h3) V) := by
    unfold home; rw [kRows_congr c o7 _ (k0_off7_inb i h3) K, vRows_congr c o7 _ (k0_off7_inb i h3) V]
  have eK' : flK c 2 K = kFl c (k0_off1 i) (k0_off1_inb i) (k0_off2 i) (k0_off2_inb i) (k0_off7 i) (k0_off7_inb i h3) K :=
    kFl_congr c o1 o2 o7 _ _ _ _ _ _ K
  have eV' : flV c 2 V = vFl c (k0_off3 i) (k0_off3_inb i) (k0_off2 i) (k0_off2_inb i) (k0_off7 i) (k0_off7_inb i h3) V :=
    vFl_congr c o3 o2 o7 _ _ _ _ _ _ V
  have e4 : k0_off4 i = k0_off2 i := (k0_off4_eq i).trans (k0_off2_eq i).symm
  have e5 : k0_off5 i = k0_off1 i := (k0_off5_eq i).trans (k0_off1_eq i).symm
  have e6 : k0_off6 i = k0_off2 i := (k0_off6_eq i).trans (k0_off2_eq i).symm
  have e8 : k0_off8 i = k0_off3 i := (k0_off8_eq i).trans (k0_off3_eq i).symm
  have hm1 : (levAts L lv : sProp 𝕄) ⊢ MayWait (c : Thread nD τ) (.dma (cSem (k0_off1 i) (k0_off1_inb i))) () (O₁ c) := wait_cSem c 0 0 (by decide) _ o1.symm
  have hm3 : (levAts L lv : sProp 𝕄) ⊢ MayWait (c : Thread nD τ) (.dma (cSem (k0_off3 i) (k0_off3_inb i))) () (O₁ c) := wait_cSem c 0 1 (by decide) _ o3.symm
  have eF1 : flK c 1 K = kFl c ![1, 0] inb_S2x2_S1x1_1_0 ![1, 0, 0] inb_S2x2048x256_S1x2048x256_1_0_0 ![2048, 0] inb_S32768x256_S2048x256_2048_0 K :=
    kFl_congr c rfl rfl rfl _ _ _ _ _ _ K
  have eW1 : flV c 1 V = vFl c ![1, 1] inb_S2x2_S1x1_1_1 ![1, 0, 0] inb_S2x2048x256_S1x2048x256_1_0_0 ![2048, 0] inb_S32768x256_S2048x256_2048_0 V :=
    vFl_congr c rfl rfl rfl _ _ _ _ _ _ V
  simp only [eF1, eW1, eK', eV', eH0, eH1, eH2]
  simp only [body, cc0_body_eq_skeleton]; unfold cc0_body_skel
  simp only [k0_part14_eq_skeleton]; unfold k0_part14_skel
  simp only [e4, e5, e6, e8, dif_pos h3, dif_neg h4, dif_pos h2, if_pos h1]
  iintro ⟨#HR, #Hlev, HO, Hc, Hat, ⟨Ht1, Ht2, Ht3⟩, ⟨Ha1, Ha2, Ha3⟩, ⟨Hl1, Hl2, Hl3⟩, Hf0, Hf1, ⟨HkR0, HvR0⟩, ⟨HkR1, HvR1⟩, ⟨HkR2, HvR2⟩, HX, HW, HQ, HA, HL, Hk⟩
  ihave ⟨⟨%k0, Hk0⟩, ⟨%v0, Hv0⟩, Hs00, Hs01⟩ := (free_even c) $$ Hf0
  ihave ⟨⟨%k1, Hk1⟩, ⟨%v1, Hv1⟩, Hs10, Hs11⟩ := (free_odd c) $$ Hf1
  ihave Hm1 := hm1 $$ Hlev
  ihave Hm3 := hm3 $$ Hlev
  sl_exec
  iapply (signal_one C Kg c _ 0 (Fin.ext (k0_dev1_eq c)) (O₁ c + owB c 2 + owB c 1) W) $$ [HO Ht1 Ha1 Hl1]
  · isplitr; · iexact HR
    isplitl [HO]; · iexact HO
    isplitl [Ht1]; · iexact Ht1
    isplitl [Ha1]; · iexact Ha1
    iexact Hl1
  iintro HO
  sl_exec
  iapply (signal_one C Kg c _ 1 (Fin.ext (k0_dev2_eq c)) (O₁ c + owB c 2) W) $$ [HO Ht2 Ha2 Hl2]
  · isplitr; · iexact HR
    isplitl [HO]; · iexact HO
    isplitl [Ht2]; · iexact Ht2
    isplitl [Ha2]; · iexact Ha2
    iexact Hl2
  iintro HO
  sl_exec
  iapply (signal_one C Kg c _ 2 (Fin.ext (k0_dev3_eq c)) (O₁ c) W) $$ [HO Ht3 Ha3 Hl3]
  · isplitr; · iexact HR
    isplitl [HO]; · iexact HO
    isplitl [Ht3]; · iexact Ht3
    isplitl [Ha3]; · iexact Ha3
    iexact Hl3
  iintro HO
  sl_exec
  iapply (wait_bar_op C Kg c W) $$ [Hc HO Hat]
  · isplitr; · iexact HR
    isplitr; · iexact Hlev
    isplitl [Hc]; · iexact Hc
    isplitl [HO] <;> iassumption
  iintro ⟨HO, Hz, Hb1, Hb2, Hb3⟩
  sl_exec
  ihave HQ : pts c cc0_scratch0 (qsRaw X Wq Q) $$ [HQ]
  · unfold qsRaw; iexact HQ
  rw [qsRaw_eq X Wq Q]
  ihave HA : pts c cc0_scratch1 (accAt X Wq K V 0) $$ [HA]
  · rw [show accAt X Wq K V 0 = _ from (acc_cleared A (k0_pay41 (k0_pay17 (F := F))) inb_S128x1024_S128x1024_0_0).symm]; iexact HA
  ihave HL : pts c cc0_scratch2 (lAt X Wq K 0) $$ [HL]
  · rw [show lAt X Wq K 0 = _ from (l_cleared Lf (k0_pay42 (F := F)) inb_S8x1024_S8x1024_0_0).symm]; iexact HL
  ihave HK0 : kFl c ![0, 0] inb_S2x2_S1x1_0_0 ![0, 0, 0] inb_S2x2048x256_S1x2048x256_0_0_0 ![0, 0] inb_S32768x256_S2048x256_0_0 K $$ [Hs00]
  · iapply (kFl_of_writes c ![0, 0] inb_S2x2_S1x1_0_0 ![0, 0, 0] inb_S2x2048x256_S1x2048x256_0_0_0 ![0, 0] inb_S32768x256_S2048x256_0_0 K k0); iexact Hs00
  ihave HV0 : vFl c ![0, 1] inb_S2x2_S1x1_0_1 ![0, 0, 0] inb_S2x2048x256_S1x2048x256_0_0_0 ![0, 0] inb_S32768x256_S2048x256_0_0 V $$ [Hs01]
  · iapply (vFl_of_writes c ![0, 1] inb_S2x2_S1x1_0_1 ![0, 0, 0] inb_S2x2048x256_S1x2048x256_0_0_0 ![0, 0] inb_S32768x256_S2048x256_0_0 V v0); iexact Hs01
  ihave HK1 : kFl c ![1, 0] inb_S2x2_S1x1_1_0 ![1, 0, 0] inb_S2x2048x256_S1x2048x256_1_0_0 ![2048, 0] inb_S32768x256_S2048x256_2048_0 K $$ [Hs10]
  · iapply (kFl_of_writes c ![1, 0] inb_S2x2_S1x1_1_0 ![1, 0, 0] inb_S2x2048x256_S1x2048x256_1_0_0 ![2048, 0] inb_S32768x256_S2048x256_2048_0 K k1); iexact Hs10
  ihave HV1 : vFl c ![1, 1] inb_S2x2_S1x1_1_1 ![1, 0, 0] inb_S2x2048x256_S1x2048x256_1_0_0 ![2048, 0] inb_S32768x256_S2048x256_2048_0 V $$ [Hs11]
  · iapply (vFl_of_writes c ![1, 1] inb_S2x2_S1x1_1_1 ![1, 0, 0] inb_S2x2048x256_S1x2048x256_1_0_0 ![2048, 0] inb_S32768x256_S2048x256_2048_0 V v1); iexact Hs11
  ihave HK0 := (Entails.of_eq (kFl_congr c o1 o2 (rfl : ![0, 0] = ![2048 * (0 % 16), 0]) _ _ _ (k0_off1_inb i) (k0_off2_inb i) hh K)) $$ HK0
  ihave HV0 := (Entails.of_eq (vFl_congr c o3 o2 (rfl : ![0, 0] = ![2048 * (0 % 16), 0]) _ _ _ (k0_off3_inb i) (k0_off2_inb i) hh V)) $$ HV0
  ihave ⟨%fK, HK⟩ := (kFl_open c) $$ HK0
  ihave ⟨%fV, HV⟩ := (vFl_open c) $$ HV0
  sl_exec
  have kl := k_landed K 0 e4 (k0_off2_inb i) (k0_off4_inb i) hh rfl fK
  have vl := v_landed V 0 e4 (k0_off2_inb i) (k0_off4_inb i) hh rfl fV
  have eA : accW (k0_pay43 ((Memref.whole cc0_scratch4).view.readAt (Elt F) (Rect.unit (s := S2x2048x256) (k0_off4 i) S1x2048x256.size (k0_off4_inb i)).toLoadRect
        (kLand (k0_off2 i) (k0_off2_inb i) ![2048 * (0 % 16), 0] hh K fK)))
      (k0_pay44 ((Memref.whole cc0_scratch5).view.readAt (Elt F) (Rect.unit (s := S2x2048x256) (k0_off4 i) S1x2048x256.size (k0_off4_inb i)).toLoadRect
        (vLand (k0_off2 i) (k0_off2_inb i) ![2048 * (0 % 16), 0] hh V fV))) (ldQ (qsC X Wq)) (accAt X Wq K V 0) = accAt X Wq K V (0 + 1) := by
    rw [kl, vl]; rfl
  have eL : lW (k0_pay43 ((Memref.whole cc0_scratch4).view.readAt (Elt F) (Rect.unit (s := S2x2048x256) (k0_off4 i) S1x2048x256.size (k0_off4_inb i)).toLoadRect
        (kLand (k0_off2 i) (k0_off2_inb i) ![2048 * (0 % 16), 0] hh K fK))) (ldQ (qsC X Wq)) (lAt X Wq K 0) = lAt X Wq K (0 + 1) := by
    rw [kl]; rfl
  rw [← eA, ← eL]
  rw [wp_ret]; imodintro
  iapply Hk
  isplitl [HO]; · iexact HO
  isplitl [Hz]; · iexact Hz
  isplitl [Hb1]; · iexact Hb1
  isplitl [Hb2]; · iexact Hb2
  isplitl [Hb3]; · iexact Hb3
  isplitl [HK1]; · iexact HK1
  isplitl [HV1]; · iexact HV1
  isplitl [HK]
  · iapply (kFl_of_writes c (k0_off1 i) (k0_off1_inb i) (k0_off2 i) (k0_off2_inb i) (k0_off7 i) (k0_off7_inb i h3) K (kLand (k0_off2 i) (k0_off2_inb i) ![2048 * (0 % 16), 0] hh K fK))
    iexact HK
  isplitl [HV]
  · iapply (vFl_of_writes c (k0_off3 i) (k0_off3_inb i) (k0_off2 i) (k0_off2_inb i) (k0_off7 i) (k0_off7_inb i h3) V (vLand (k0_off2 i) (k0_off2_inb i) ![2048 * (0 % 16), 0] hh V fV))
    iexact HV
  isplitl [HK_src HV_src]
  · isplitl [HK_src]; · iexact HK_src
    iexact HV_src
  isplitl [HX]; · iexact HX
  isplitl [HW]; · iexact HW
  isplitl [HQ]; · iexact HQ
  isplitl [HA]; · iexact HA
  iexact HL

end Cert.KernelIdeal.Run

end
-- ==== Proof.Ideal.Mid.lean ====
/-
A grid step between the first and the last two.
-/
module

public import proofs.«01_k».proof.Proof.Ideal.Step

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxHeartbeats 2000000 in
/-- Steps 1 to 13: chunk `t` is taken in, chunk `t + 2` sent for. -/
theorem step_mid (c : Dev nD) (i : grid0.Coords) (t : ℕ) (ht : (i 0).val = t) (ht14 : t < 14)
    (h1 : ¬ (Scalar.cmpi .ne (Scalar.extui (Scalar.cmpi .eq (BitVec.ofNat 32 (i 0).val) 0#32) : BitVec 32) 0#32 : BitVec 1) = 1#1)
    (h2 : ¬ k0_cond2 i = 1#1) (h3 : k0_cond3 i = 1#1) (h4 : ¬ k0_cond4 i = 1#1)
    (X : cc0_stg0_0.ty.Contents (Elt F)) (Wq : cc0_stg1_0.ty.Contents (Elt F))
    (K V : S32768x2x128.Idx → Elt F .f32) (W : Waits sig Unit) (Kt : PUnit → sProp 𝕄) :
    iprop(levAts L lv ∗ owes (c : Thread nD τ) (O₁ c) W ∗ flK c t K ∗ flV c t V ∗ home c (t + 2) K V
      ∗ pts c cc0_scratch0 (qsC X Wq) ∗ pts c cc0_scratch1 (accAt X Wq K V t) ∗ pts c cc0_scratch2 (lAt X Wq K t)
      ∗ (∀ W', (owes (c : Thread nD τ) (O₁ c) W' ∗ flK c (t + 2) K ∗ flV c (t + 2) V ∗ home c t K V
          ∗ pts c cc0_scratch0 (qsC X Wq) ∗ pts c cc0_scratch1 (accAt X Wq K V (t + 1)) ∗ pts c cc0_scratch2 (lAt X Wq K (t + 1))) -∗ Kt ⟨⟩))
      ⊢ wp frame (wpE (defs₀ (F := F)) 𝒱₀ (c : Thread nD τ) none) Set.univ (body (F := F) i) Kt := by
  have o1 : ![t % 2, 0] = k0_off1 i := by rw [k0_off1_eq, ht]
  have o2 : ![t % 2, 0, 0] = k0_off2 i := by rw [k0_off2_eq, ht]
  have o3 : ![t % 2, 1] = k0_off3 i := by rw [k0_off3_eq, ht]
  have o7 : ![2048 * ((t + 2) % 16), 0] = k0_off7 i := by rw [k0_off7_eq, ht, Nat.mod_eq_of_lt (by omega)]; congr 1
  have p2 : (t + 2) % 2 = t % 2 := by omega
  have hh : InbRows ![2048 * (t % 16), 0] := rowsInb t
  have eK : flK c t K = kFl c (k0_off1 i) (k0_off1_inb i) (k0_off2 i) (k0_off2_inb i) ![2048 * (t % 16), 0] hh K := kFl_congr c o1 o2 rfl _ _ _ _ _ _ K
  have eV : flV c t V = vFl c (k0_off3 i) (k0_off3_inb i) (k0_off2 i) (k0_off2_inb i) ![2048 * (t % 16), 0] hh V := vFl_congr c o3 o2 rfl _ _ _ _ _ _ V
  have eK' : flK c (t + 2) K = kFl c (k0_off1 i) (k0_off1_inb i) (k0_off2 i) (k0_off2_inb i) (k0_off7 i) (k0_off7_inb i h3) K :=
    kFl_congr c (by rw [p2]; exact o1) (by rw [p2]; exact o2) o7 _ _ _ _ _ _ K
  have eV' : flV c (t + 2) V = vFl c (k0_off3 i) (k0_off3_inb i) (k0_off2 i) (k0_off2_inb i) (k0_off7 i) (k0_off7_inb i h3) V :=
    vFl_congr c (by rw [p2]; exact o3) (by rw [p2]; exact o2) o7 _ _ _ _ _ _ V
  have eH : home c (t + 2) K V = iprop(kRowsPts c (k0_off7 i) (k0_off7_inb i h3) K ∗ vRowsPts c (k0_off7 i) (k0_off7_inb i h3) V) := by
    unfold home; rw [kRows_congr c o7 _ (k0_off7_inb i h3) K, vRows_congr c o7 _ (k0_off7_inb i h3) V]
  have e4 : k0_off4 i = k0_off2 i := (k0_off4_eq i).trans (k0_off2_eq i).symm
  have e5 : k0_off5 i = k0_off1 i := (k0_off5_eq i).trans (k0_off1_eq i).symm
  have e6 : k0_off6 i = k0_off2 i := (k0_off6_eq i).trans (k0_off2_eq i).symm
  have e8 : k0_off8 i = k0_off3 i := (k0_off8_eq i).trans (k0_off3_eq i).symm
  have hm1 : (levAts L lv : sProp 𝕄) ⊢ MayWait (c : Thread nD τ) (.dma (cSem (k0_off1 i) (k0_off1_inb i))) () (O₁ c) := wait_cSem c t 0 (by decide) _ o1.symm
  have hm3 : (levAts L lv : sProp 𝕄) ⊢ MayWait (c : Thread nD τ) (.dma (cSem (k0_off3 i) (k0_off3_inb i))) () (O₁ c) := wait_cSem c t 1 (by decide) _ o3.symm
  rw [eK, eV, eK', eV', eH]
  simp only [body, cc0_body_eq_skeleton]; unfold cc0_body_skel
  simp only [k0_part14_eq_skeleton]; unfold k0_part14_skel
  simp only [e4, e5, e6, e8]
  iintro ⟨#Hlev, HO, HK, HV, ⟨HkR, HvR⟩, HQ, HA, HL, Hk⟩
  ihave ⟨%fK, HK⟩ := (kFl_open c) $$ HK
  ihave ⟨%fV, HV⟩ := (vFl_open c) $$ HV
  ihave Hm1 := hm1 $$ Hlev
  ihave Hm3 := hm3 $$ Hlev
  sl_exec
  have eA : accW (k0_pay43 ((Memref.whole cc0_scratch4).view.readAt (Elt F) (Rect.unit (s := S2x2048x256) (k0_off4 i) S1x2048x256.size (k0_off4_inb i)).toLoadRect
        (kLand (k0_off2 i) (k0_off2_inb i) ![2048 * (t % 16), 0] hh K fK)))
      (k0_pay44 ((Memref.whole cc0_scratch5).view.readAt (Elt F) (Rect.unit (s := S2x2048x256) (k0_off4 i) S1x2048x256.size (k0_off4_inb i)).toLoadRect
        (vLand (k0_off2 i) (k0_off2_inb i) ![2048 * (t % 16), 0] hh V fV))) (ldQ (qsC X Wq)) (accAt X Wq K V t) = accAt X Wq K V (t + 1) := by
    rw [k_landed K t e4 _ _ hh rfl fK, v_landed V t e4 _ _ hh rfl fV]; rfl
  have eL : lW (k0_pay43 ((Memref.whole cc0_scratch4).view.readAt (Elt F) (Rect.unit (s := S2x2048x256) (k0_off4 i) S1x2048x256.size (k0_off4_inb i)).toLoadRect
        (kLand (k0_off2 i) (k0_off2_inb i) ![2048 * (t % 16), 0] hh K fK))) (ldQ (qsC X Wq)) (lAt X Wq K t) = lAt X Wq K (t + 1) := by
    rw [k_landed K t e4 _ _ hh rfl fK]; rfl
  rw [← eA, ← eL]
  rw [wp_ret]; imodintro
  iapply Hk
  isplitl [HO]; · iexact HO
  isplitl [HK]
  · iapply (kFl_of_writes c (k0_off1 i) (k0_off1_inb i) (k0_off2 i) (k0_off2_inb i) (k0_off7 i) (k0_off7_inb i h3) K (kLand (k0_off2 i) (k0_off2_inb i) ![2048 * (t % 16), 0] hh K fK))
    iexact HK
  isplitl [HV]
  · iapply (vFl_of_writes c (k0_off3 i) (k0_off3_inb i) (k0_off2 i) (k0_off2_inb i) (k0_off7 i) (k0_off7_inb i h3) V (vLand (k0_off2 i) (k0_off2_inb i) ![2048 * (t % 16), 0] hh V fV))
    iexact HV
  isplitl [HK_src HV_src]
  · unfold home; isplitl [HK_src] <;> iassumption
  isplitl [HQ]; · iexact HQ
  isplitl [HA]; · iexact HA
  iexact HL

end Cert.KernelIdeal.Run

end
-- ==== Proof.Ideal.Epi.lean ====
/-
The last grid step's program, cut where the exchange begins, and the shares of the exchange buffers.
-/
module

public import proofs.«01_k».proof.Proof.Ideal.Step

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The program after the last chunk -/

abbrev PP (F : FTy → Type) [FloatOps F] (α : Type) : Type 1 := Prog (TpuEff nD τ sig (Elt F) Λ₀ .tc) α

section Prog
variable (i : grid0.Coords) (c : Dev nD) (v2 : BitVec 32) (h4 : k0_cond4 i = 1#1)

def P3 : PP F (BitVec 32) := k0_part3 (F := F) i (Memref.whole cc0_stg0_0) (Memref.isWhole_whole _) (Memref.whole cc0_stg1_0) (Memref.isWhole_whole _) (Memref.whole cc0_stg2_0) (Memref.isWhole_whole _)
    (Memref.whole main_arg3) (Memref.isWhole_whole _) (Memref.whole main_arg4) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 (Memref.whole cc0_scratch7) (Memref.isWhole_whole _) (Memref.whole cc0_scratch8) (Memref.isWhole_whole _) cc0_scratch9 cc0_scratch10 c v2 h4
def P4 (v85 : BitVec 32) : PP F (BitVec 32) := k0_part4 (F := F) i (Memref.whole cc0_stg0_0) (Memref.isWhole_whole _) (Memref.whole cc0_stg1_0) (Memref.isWhole_whole _) (Memref.whole cc0_stg2_0) (Memref.isWhole_whole _)
    (Memref.whole main_arg3) (Memref.isWhole_whole _) (Memref.whole main_arg4) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 (Memref.whole cc0_scratch7) (Memref.isWhole_whole _) (Memref.whole cc0_scratch8) (Memref.isWhole_whole _) cc0_scratch9 cc0_scratch10 c v2 h4 v85
def P5 (v107 : BitVec 32) : PP F PUnit := k0_part5 (F := F) i (Memref.whole cc0_stg0_0) (Memref.isWhole_whole _) (Memref.whole cc0_stg1_0) (Memref.isWhole_whole _) (Memref.whole cc0_stg2_0) (Memref.isWhole_whole _)
    (Memref.whole main_arg3) (Memref.isWhole_whole _) (Memref.whole main_arg4) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 (Memref.whole cc0_scratch7) (Memref.isWhole_whole _) (Memref.whole cc0_scratch8) (Memref.isWhole_whole _) cc0_scratch9 cc0_scratch10 c v2 h4 v107
def P6 : PP F PUnit := k0_part6 (F := F) i (Memref.whole cc0_stg0_0) (Memref.isWhole_whole _) (Memref.whole cc0_stg1_0) (Memref.isWhole_whole _) (Memref.whole cc0_stg2_0) (Memref.isWhole_whole _)
    (Memref.whole main_arg3) (Memref.isWhole_whole _) (Memref.whole main_arg4) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 (Memref.whole cc0_scratch7) (Memref.isWhole_whole _) (Memref.whole cc0_scratch8) (Memref.isWhole_whole _) cc0_scratch9 cc0_scratch10 c v2 h4
def P7 : PP F PUnit := k0_part7 (F := F) i (Memref.whole cc0_stg0_0) (Memref.isWhole_whole _) (Memref.whole cc0_stg1_0) (Memref.isWhole_whole _) (Memref.whole cc0_stg2_0) (Memref.isWhole_whole _)
    (Memref.whole main_arg3) (Memref.isWhole_whole _) (Memref.whole main_arg4) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 (Memref.whole cc0_scratch7) (Memref.isWhole_whole _) (Memref.whole cc0_scratch8) (Memref.isWhole_whole _) cc0_scratch9 cc0_scratch10 c v2 h4
def P8 : PP F (Σ' (v206 : FVec F S1024x1024 .bf16) (v215 : FVec F S128x512 .f32) (v219 : FVec F S1x512 .f32) (v221 : BitVec 32), FVec F S128x512 .bf16) := k0_part8 (F := F) i (Memref.whole cc0_stg0_0) (Memref.isWhole_whole _) (Memref.whole cc0_stg1_0) (Memref.isWhole_whole _) (Memref.whole cc0_stg2_0) (Memref.isWhole_whole _)
    (Memref.whole main_arg3) (Memref.isWhole_whole _) (Memref.whole main_arg4) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 (Memref.whole cc0_scratch7) (Memref.isWhole_whole _) (Memref.whole cc0_scratch8) (Memref.isWhole_whole _) cc0_scratch9 cc0_scratch10 c v2 h4
def P9 (v215 : FVec F S128x512 .f32) (v219 : FVec F S1x512 .f32) (v221 : BitVec 32) (v224 : FVec F S128x512 .bf16) : PP F (Σ' (v254 : FVec F S128x512 .f32), FVec F S128x128 .bf16) := k0_part9 (F := F) i (Memref.whole cc0_stg0_0) (Memref.isWhole_whole _) (Memref.whole cc0_stg1_0) (Memref.isWhole_whole _) (Memref.whole cc0_stg2_0) (Memref.isWhole_whole _)
    (Memref.whole main_arg3) (Memref.isWhole_whole _) (Memref.whole main_arg4) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 (Memref.whole cc0_scratch7) (Memref.isWhole_whole _) (Memref.whole cc0_scratch8) (Memref.isWhole_whole _) cc0_scratch9 cc0_scratch10 c v2 h4 v215 v219 v221 v224
def P10 (v254 : FVec F S128x512 .f32) (v261 : FVec F S128x128 .bf16) : PP F (Σ' (v287 : FVec F S1x512 .f32), FVec F S128x512 .f32) := k0_part10 (F := F) i (Memref.whole cc0_stg0_0) (Memref.isWhole_whole _) (Memref.whole cc0_stg1_0) (Memref.isWhole_whole _) (Memref.whole cc0_stg2_0) (Memref.isWhole_whole _)
    (Memref.whole main_arg3) (Memref.isWhole_whole _) (Memref.whole main_arg4) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 (Memref.whole cc0_scratch7) (Memref.isWhole_whole _) (Memref.whole cc0_scratch8) (Memref.isWhole_whole _) cc0_scratch9 cc0_scratch10 c v2 h4 v254 v261
def P11 (v287 : FVec F S1x512 .f32) (v294 : FVec F S128x512 .f32) : PP F (Σ' (v322 : FVec F S128x512 .f32), FVec F S128x128 .f32) := k0_part11 (F := F) i (Memref.whole cc0_stg0_0) (Memref.isWhole_whole _) (Memref.whole cc0_stg1_0) (Memref.isWhole_whole _) (Memref.whole cc0_stg2_0) (Memref.isWhole_whole _)
    (Memref.whole main_arg3) (Memref.isWhole_whole _) (Memref.whole main_arg4) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 (Memref.whole cc0_scratch7) (Memref.isWhole_whole _) (Memref.whole cc0_scratch8) (Memref.isWhole_whole _) cc0_scratch9 cc0_scratch10 c v2 h4 v287 v294
def P12 (v206 : FVec F S1024x1024 .bf16) (v322 : FVec F S128x512 .f32) (v333 : FVec F S128x128 .f32) : PP F PUnit := k0_part12 (F := F) i (Memref.whole cc0_stg0_0) (Memref.isWhole_whole _) (Memref.whole cc0_stg1_0) (Memref.isWhole_whole _) (Memref.whole cc0_stg2_0) (Memref.isWhole_whole _)
    (Memref.whole main_arg3) (Memref.isWhole_whole _) (Memref.whole main_arg4) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 (Memref.whole cc0_scratch7) (Memref.isWhole_whole _) (Memref.whole cc0_scratch8) (Memref.isWhole_whole _) cc0_scratch9 cc0_scratch10 c h4 v206 v322 v333
def P13 : PP F PUnit := k0_part13 (F := F) i (Memref.whole cc0_stg0_0) (Memref.isWhole_whole _) (Memref.whole cc0_stg1_0) (Memref.isWhole_whole _) (Memref.whole cc0_stg2_0) (Memref.isWhole_whole _)
    (Memref.whole main_arg3) (Memref.isWhole_whole _) (Memref.whole main_arg4) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 (Memref.whole cc0_scratch7) (Memref.isWhole_whole _) (Memref.whole cc0_scratch8) (Memref.isWhole_whole _) cc0_scratch9 cc0_scratch10 c h4
/-- The wait that ends the program. -/
def PW : PP F PUnit :=
  Prog.lift (.waitDma2 ((cc0_scratch9.slice (Rect.unit (s := S2x3) ![1, 2] S1x1.size inb_S2x3_S1x1_1_2)).squeeze S_ squeezes_S1x1_S_).sem
    (((Memref.whole cc0_scratch8).slice (Rect.unit (s := S4x2x8x512) (k0_off16 c) S1x2x8x512.size (k0_off16_inb i c h4)) (fun _ => rfl)).squeeze S2x8x512 squeezes_S1x2x8x512_S2x8x512)
    (((Memref.whole cc0_scratch8).slice (Rect.unit (s := S4x2x8x512) (k0_off16 c) S1x2x8x512.size (k0_off16_inb i c h4)) (fun _ => rfl)).squeeze S2x8x512 squeezes_S1x2x8x512_S2x8x512)
    ((View.wordExact_bits rfl).reshape _ _) ((View.wordExact_bits rfl).reshape _ _))
/-- The exchange and the output. -/
def epiProg : PP F PUnit := do
  let v85 ← P3 (F := F) i c v2 h4
  let v107 ← P4 (F := F) i c v2 h4 v85
  P5 (F := F) i c v2 h4 v107
  P6 (F := F) i c v2 h4
  P7 (F := F) i c v2 h4
  let ⟨v206, v215, v219, v221, v224⟩ ← P8 (F := F) i c v2 h4
  let ⟨v254, v261⟩ ← P9 (F := F) i c v2 h4 v215 v219 v221 v224
  let ⟨v287, v294⟩ ← P10 (F := F) i c v2 h4 v254 v261
  let ⟨v322, v333⟩ ← P11 (F := F) i c v2 h4 v287 v294
  P12 (F := F) i c h4 v206 v322 v333
  P13 (F := F) i c h4
  PW (F := F) i c h4
  pure ⟨⟩
end Prog

/-- A step that fetches nothing, with what comes after it. -/
def lateProg (i : grid0.Coords) (E : Dev nD → BitVec 32 → Prog (TpuEff nD τ sig (Elt F) Λ₀ .tc) PUnit) : Prog (TpuEff nD τ sig (Elt F) Λ₀ .tc) PUnit := do
  let ⟨arg0, d0, v2, v25, v29, v30⟩ : Σ' (arg0 : BitVec 32) (d0 : Dev nD) (v2 : BitVec 32) (v25 : FVec F S2048x256 .bf16) (v29 : FVec F S2048x256 .bf16), Vec F S256x1024 .bf16 ← k0_part14 (F := F) i (Memref.whole cc0_stg0_0) (Memref.isWhole_whole _) (Memref.whole cc0_stg1_0) (Memref.isWhole_whole _) (Memref.whole cc0_stg2_0) (Memref.isWhole_whole _)
    (Memref.whole main_arg3) (Memref.isWhole_whole _) (Memref.whole main_arg4) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 (Memref.whole cc0_scratch7) (Memref.isWhole_whole _) (Memref.whole cc0_scratch8) (Memref.isWhole_whole _) cc0_scratch9 cc0_scratch10
  let v34 : Vec F S1x1024 .f32 ← Prog.lift (.load (Memref.whole cc0_scratch2) (Rect.unit (s := S8x1024) ![0, 0] S1x1024.size inb_S8x1024_S1x1024_0_0).toLoadRect (View.loadsAt_vmem h_S1x1024))
  let v39 : Vec F S1x1024 .f32 ← Prog.lift (.load (Memref.whole cc0_scratch2) (Rect.unit (s := S8x1024) ![0, 0] S1x1024.size inb_S8x1024_S1x1024_0_0).toLoadRect (View.loadsAt_vmem h_S1x1024))
  Prog.lift (.store (Memref.whole cc0_scratch2) (Rect.unit (s := S8x1024) ![0, 0] S1x1024.size inb_S8x1024_S1x1024_0_0) (k0_pay2 v25 v30 v34) Finset.univ (View.stores_vmem_bits_univ h_S1x1024 rfl) (.inl rfl))
  let v43 : Vec F S128x512 .f32 ← Prog.lift (.load (Memref.whole cc0_scratch1) (Rect.unit (s := S128x1024) ![0, 0] S128x512.size inb_S128x1024_S128x512_0_0).toLoadRect (View.loadsAt_vmem h_S128x512))
  let v46 : Vec F S128x512 .f32 ← Prog.lift (.load (Memref.whole cc0_scratch1) (Rect.unit (s := S128x1024) ![0, 0] S128x512.size inb_S128x1024_S128x512_0_0).toLoadRect (View.loadsAt_vmem h_S128x512))
  Prog.lift (.store (Memref.whole cc0_scratch1) (Rect.unit (s := S128x1024) ![0, 0] S128x512.size inb_S128x1024_S128x512_0_0) (k0_pay4 v25 v29 v30 v43) Finset.univ (View.stores_vmem_bits_univ h_S128x512 rfl) (.inl rfl))
  let v49 : Vec F S128x512 .f32 ← Prog.lift (.load (Memref.whole cc0_scratch1) (Rect.unit (s := S128x1024) ![0, 512] S128x512.size inb_S128x1024_S128x512_0_512).toLoadRect (View.loadsAt_vmem h_S128x512))
  let v52 : Vec F S128x512 .f32 ← Prog.lift (.load (Memref.whole cc0_scratch1) (Rect.unit (s := S128x1024) ![0, 512] S128x512.size inb_S128x1024_S128x512_0_512).toLoadRect (View.loadsAt_vmem h_S128x512))
  Prog.lift (.store (Memref.whole cc0_scratch1) (Rect.unit (s := S128x1024) ![0, 512] S128x512.size inb_S128x1024_S128x512_0_512) (k0_pay5 v25 v29 v30 v49) Finset.univ (View.stores_vmem_bits_univ h_S128x512 rfl) (.inl rfl))
  E d0 v2

set_option maxRecDepth 65536 in
theorem body_last (i : grid0.Coords) (h3 : ¬ k0_cond3 i = 1#1) (h4 : k0_cond4 i = 1#1) : body (F := F) i = lateProg i (fun c v2 => epiProg i c v2 h4) := by
  simp only [body, cc0_body_eq_skeleton]; unfold cc0_body_skel
  simp only [dif_pos h4, dif_neg h3]
  unfold lateProg epiProg
  rfl

end Cert.KernelIdeal.Run

end
-- ==== Proof.Ideal.Late.lean ====
/-
The last two grid steps up to the exchange.
-/
module

public import proofs.«01_k».proof.Proof.Ideal.Epi

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxHeartbeats 2000000 in
/-- Steps 14 and 15: the chunk is taken in and nothing sent for; then whatever follows. -/
theorem late_run (c : Dev nD) (i : grid0.Coords) (t : ℕ) (ht : (i 0).val = t)
    (h1 : ¬ (Scalar.cmpi .ne (Scalar.extui (Scalar.cmpi .eq (BitVec.ofNat 32 (i 0).val) 0#32) : BitVec 32) 0#32 : BitVec 1) = 1#1)
    (E : Dev nD → BitVec 32 → Prog (TpuEff nD τ sig (Elt F) Λ₀ .tc) PUnit)
    (X : cc0_stg0_0.ty.Contents (Elt F)) (Wq : cc0_stg1_0.ty.Contents (Elt F))
    (K V : S32768x2x128.Idx → Elt F .f32) (W : Waits sig Unit) (Kt : PUnit → sProp 𝕄) :
    iprop(levAts L lv ∗ owes (c : Thread nD τ) (O₁ c) W ∗ flK c t K ∗ flV c t V
      ∗ pts c cc0_scratch0 (qsC X Wq) ∗ pts c cc0_scratch1 (accAt X Wq K V t) ∗ pts c cc0_scratch2 (lAt X Wq K t)
      ∗ (∀ W' v2, (owes (c : Thread nD τ) (O₁ c) W' ∗ freeS c t ∗ home c t K V
          ∗ pts c cc0_scratch0 (qsC X Wq) ∗ pts c cc0_scratch1 (accAt X Wq K V (t + 1)) ∗ pts c cc0_scratch2 (lAt X Wq K (t + 1))) -∗ wp frame (wpE (defs₀ (F := F)) 𝒱₀ (c : Thread nD τ) none) Set.univ (E c v2) Kt))
      ⊢ wp frame (wpE (defs₀ (F := F)) 𝒱₀ (c : Thread nD τ) none) Set.univ (lateProg i E) Kt := by
  have o1 : ![t % 2, 0] = k0_off1 i := by rw [k0_off1_eq, ht]
  have o2 : ![t % 2, 0, 0] = k0_off2 i := by rw [k0_off2_eq, ht]
  have o3 : ![t % 2, 1] = k0_off3 i := by rw [k0_off3_eq, ht]
  have hh : InbRows ![2048 * (t % 16), 0] := rowsInb t
  have eK : flK c t K = kFl c (k0_off1 i) (k0_off1_inb i) (k0_off2 i) (k0_off2_inb i) ![2048 * (t % 16), 0] hh K := kFl_congr c o1 o2 rfl _ _ _ _ _ _ K
  have eV : flV c t V = vFl c (k0_off3 i) (k0_off3_inb i) (k0_off2 i) (k0_off2_inb i) ![2048 * (t % 16), 0] hh V := vFl_congr c o3 o2 rfl _ _ _ _ _ _ V
  have e4 : k0_off4 i = k0_off2 i := (k0_off4_eq i).trans (k0_off2_eq i).symm
  have e5 : k0_off5 i = k0_off1 i := (k0_off5_eq i).trans (k0_off1_eq i).symm
  have e6 : k0_off6 i = k0_off2 i := (k0_off6_eq i).trans (k0_off2_eq i).symm
  have e8 : k0_off8 i = k0_off3 i := (k0_off8_eq i).trans (k0_off3_eq i).symm
  have hm1 : (levAts L lv : sProp 𝕄) ⊢ MayWait (c : Thread nD τ) (.dma (cSem (k0_off1 i) (k0_off1_inb i))) () (O₁ c) := wait_cSem c t 0 (by decide) _ o1.symm
  have hm3 : (levAts L lv : sProp 𝕄) ⊢ MayWait (c : Thread nD τ) (.dma (cSem (k0_off3 i) (k0_off3_inb i))) () (O₁ c) := wait_cSem c t 1 (by decide) _ o3.symm
  rw [eK, eV]
  unfold lateProg
  simp only [k0_part14_eq_skeleton]; unfold k0_part14_skel
  simp only [e4, e5, e6, e8]
  iintro ⟨#Hlev, HO, HK, HV, HQ, HA, HL, Hk⟩
  ihave ⟨%fK, HK⟩ := (kFl_open c) $$ HK
  ihave ⟨%fV, HV⟩ := (vFl_open c) $$ HV
  ihave Hm1 := hm1 $$ Hlev
  ihave Hm3 := hm3 $$ Hlev
  sl_exec
  have eA : accW (k0_pay43 ((Memref.whole cc0_scratch4).view.readAt (Elt F) (Rect.unit (s := S2x2048x256) (k0_off4 i) S1x2048x256.size (k0_off4_inb i)).toLoadRect
        (kLand (k0_off2 i) (k0_off2_inb i) ![2048 * (t % 16), 0] hh K fK)))
      (k0_pay44 ((Memref.whole cc0_scratch5).view.readAt (Elt F) (Rect.unit (s := S2x2048x256) (k0_off4 i) S1x2048x256.size (k0_off4_inb i)).toLoadRect
        (vLand (k0_off2 i) (k0_off2_inb i) ![2048 * (t % 16), 0] hh V fV))) (ldQ (qsC X Wq)) (accAt X Wq K V t) = accAt X Wq K V (t + 1) := by
    rw [k_landed K t e4 _ _ hh rfl fK, v_landed V t e4 _ _ hh rfl fV]; rfl
  have eL : lW (k0_pay43 ((Memref.whole cc0_scratch4).view.readAt (Elt F) (Rect.unit (s := S2x2048x256) (k0_off4 i) S1x2048x256.size (k0_off4_inb i)).toLoadRect
        (kLand (k0_off2 i) (k0_off2_inb i) ![2048 * (t % 16), 0] hh K fK))) (ldQ (qsC X Wq)) (lAt X Wq K t) = lAt X Wq K (t + 1) := by
    rw [k_landed K t e4 _ _ hh rfl fK]; rfl
  rw [← eA, ← eL]
  iapply Hk
  isplitl [HO]; · iexact HO
  isplitl [HK_dst HV_dst HK HV]
  · iapply (freeS_of c t o1 o2 o3 (k0_off1_inb i) (k0_off2_inb i) (k0_off3_inb i) (kLand (k0_off2 i) (k0_off2_inb i) ![2048 * (t % 16), 0] hh K fK)
      (vLand (k0_off2 i) (k0_off2_inb i) ![2048 * (t % 16), 0] hh V fV))
    isplitl [HK_dst]; · iexact HK_dst
    isplitl [HV_dst]; · iexact HV_dst
    isplitl [HK]; · iexact HK
    iexact HV
  isplitl [HK_src HV_src]
  · unfold home; isplitl [HK_src] <;> iassumption
  isplitl [HQ]; · iexact HQ
  isplitl [HA]; · iexact HA
  iexact HL

set_option maxRecDepth 65536 in
theorem body_late (i : grid0.Coords) (h3 : ¬ k0_cond3 i = 1#1) (h4 : ¬ k0_cond4 i = 1#1) : body (F := F) i = lateProg i (fun _ _ => pure ⟨⟩) := by
  simp only [body, cc0_body_eq_skeleton]; unfold cc0_body_skel
  simp only [dif_neg h4, dif_neg h3]
  unfold lateProg
  rfl

/-- Step 14. -/
theorem step_late (c : Dev nD) (i : grid0.Coords) (t : ℕ) (ht : (i 0).val = t)
    (h1 : ¬ (Scalar.cmpi .ne (Scalar.extui (Scalar.cmpi .eq (BitVec.ofNat 32 (i 0).val) 0#32) : BitVec 32) 0#32 : BitVec 1) = 1#1)
    (h3 : ¬ k0_cond3 i = 1#1) (h4 : ¬ k0_cond4 i = 1#1)
    (X : cc0_stg0_0.ty.Contents (Elt F)) (Wq : cc0_stg1_0.ty.Contents (Elt F))
    (K V : S32768x2x128.Idx → Elt F .f32) (W : Waits sig Unit) (Kt : PUnit → sProp 𝕄) :
    iprop(levAts L lv ∗ owes (c : Thread nD τ) (O₁ c) W ∗ flK c t K ∗ flV c t V
      ∗ pts c cc0_scratch0 (qsC X Wq) ∗ pts c cc0_scratch1 (accAt X Wq K V t) ∗ pts c cc0_scratch2 (lAt X Wq K t)
      ∗ (∀ W', (owes (c : Thread nD τ) (O₁ c) W' ∗ freeS c t ∗ home c t K V
          ∗ pts c cc0_scratch0 (qsC X Wq) ∗ pts c cc0_scratch1 (accAt X Wq K V (t + 1)) ∗ pts c cc0_scratch2 (lAt X Wq K (t + 1))) -∗ Kt ⟨⟩))
      ⊢ wp frame (wpE (defs₀ (F := F)) 𝒱₀ (c : Thread nD τ) none) Set.univ (body (F := F) i) Kt := by
  rw [body_late i h3 h4]
  iintro ⟨#Hlev, HO, HK, HV, HQ, HA, HL, Hk⟩
  iapply (late_run c i t ht h1 (fun _ _ => pure ⟨⟩) X Wq K V W Kt)
  isplitr; · iexact Hlev
  isplitl [HO]; · iexact HO
  isplitl [HK]; · iexact HK
  isplitl [HV]; · iexact HV
  isplitl [HQ]; · iexact HQ
  isplitl [HA]; · iexact HA
  isplitl [HL]; · iexact HL
  iintro %W' %v2 H
  rw [Prog.pure_eq_ret, wp_ret]; imodintro
  iapply Hk; iexact H

end Cert.KernelIdeal.Run

end
-- ==== Proof.Ideal.Home.lean ====
/-
The chunks of keys and values in HBM, and the slots they land in: the whole buffers cut into them and put together again.
-/
module

public import proofs.«01_k».proof.Proof.Ideal.Step

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem kSlot_set (n : ℕ) : ((kSlot ![n % 2, 0, 0] (slotInb n)).view.set : Finset S2x2048x256.Idx) = (Rect.unit (s := S2x2048x256) ![n % 2, 0, 0] S1x2048x256.size (slotInb n)).set :=
  (View.set_reshape _ _).trans (View.set_slice_whole _ _)
theorem mem_kSlot (n : ℕ) (i : S2x2048x256.Idx) : i ∈ ((kSlot ![n % 2, 0, 0] (slotInb n)).view.set : Finset S2x2048x256.Idx) ↔ (i 0).val = n % 2 := by
  rw [kSlot_set, Rect.mem_set_unit]
  constructor
  · intro h; have h0 := h 0; change n % 2 ≤ (i 0).val ∧ (i 0).val < n % 2 + 1 at h0; omega
  · intro h a
    have ha := (i a).isLt
    fin_cases a
    · change n % 2 ≤ (i 0).val ∧ (i 0).val < n % 2 + 1; omega
    · change 0 ≤ (i 1).val ∧ (i 1).val < 0 + 2048; change (i 1).val < 2048 at ha; omega
    · change 0 ≤ (i 2).val ∧ (i 2).val < 0 + 256; change (i 2).val < 256 at ha; omega

abbrev kFam (b : Fin 2) : Finset S2x2048x256.Idx := (kSlot ![b.val % 2, 0, 0] (slotInb b.val)).view.set
theorem kFam_disjoint (b b' : Fin 2) (h : b ≠ b') : Disjoint (kFam b) (kFam b') := by
  rw [Finset.disjoint_left]; intro i hi hi'
  have h1 := (mem_kSlot b.val i).mp hi
  have h2 := (mem_kSlot b'.val i).mp hi'
  apply h; apply Fin.ext; have := b.isLt; have := b'.isLt; omega
theorem kFam_cover : Finset.univ.biUnion kFam = Finset.univ := by
  ext i; simp only [Finset.mem_biUnion, Finset.mem_univ, true_and, iff_true]
  have h0 : (i 0).val < 2 := (i 0).isLt
  exact ⟨⟨(i 0).val, h0⟩, (mem_kSlot (i 0).val i).mpr (by omega)⟩

abbrev kLoc (c : Dev nD) : Loc nD τ sig := (c : Thread nD τ).loc cc0_scratch4

/-- The buffer of chunks is its two slots. -/
theorem k_split (c : Dev nD) (f : S2x2048x256.Idx → Elt F .f32) :
    (pts c cc0_scratch4 f : sProp 𝕄) = iprop(kSlotPts c ![0 % 2, 0, 0] (slotInb 0) f ∗ kSlotPts c ![1 % 2, 0, 0] (slotInb 1) f) := by
  have e := Ring.pointsTo_blocks (ℓ := kLoc c) (Val := Elt F) (Ix := Unit) (Name := ℕ) (U := UU) (Lvl := ℕ) (q := fullShare)
    (fun b : Fin 2 => (kFam b : Finset (Idx (kLoc c)))) kFam_disjoint kFam_cover f
  exact e.trans (BI.bigSep_fin_two _)
theorem k_join (c : Dev nD) :
    iprop((∃ f, kSlotPts c ![0 % 2, 0, 0] (slotInb 0) f) ∗ (∃ f, kSlotPts c ![1 % 2, 0, 0] (slotInb 1) f)) ⊢ (iprop(∃ f, pts c cc0_scratch4 f) : sProp 𝕄) := by
  iintro ⟨⟨%f, H0⟩, H1⟩
  have e := Ring.pointsTo_blocks_join_exists (ℓ := kLoc c) (Val := Elt F) (Ix := Unit) (Name := ℕ) (U := UU) (Lvl := ℕ) (q := fullShare)
    (fun b : Fin 2 => (kFam b : Finset (Idx (kLoc c)))) kFam_disjoint kFam_cover f
  rw [BI.bigSep_fin_two] at e
  have e' : iprop((∃ f, kSlotPts c ![0 % 2, 0, 0] (slotInb 0) f) ∗ (∃ f, kSlotPts c ![1 % 2, 0, 0] (slotInb 1) f)) ⊢ (iprop(∃ f, pts c cc0_scratch4 f) : sProp 𝕄) := e
  iapply e'
  isplitl [H0]; · iexists f; iexact H0
  iexact H1

abbrev kFlat : View sig .tc .hbm S32768x256 .f32 :=
  ((Memref.whole main_arg3).reshape S32768x256 reshapes_S32768x2x128_S32768x256.1 reshapes_S32768x2x128_S32768x256.2 (Memref.isWhole_whole _).contiguous).view
theorem kRows_set (o : Fin 2 → ℕ) (h : InbRows o) : ((kRows o h).view.set : Finset S32768x2x128.Idx) = (Rect.unit (s := S32768x256) o S2048x256.size h).set.map kFlat.emb :=
  View.set_slice _ _
abbrev kRow (n : ℕ) : Finset S32768x256.Idx := (Rect.unit (s := S32768x256) ![2048 * (n % 16), 0] S2048x256.size (rowsInb n)).set
theorem mem_kRow (n : ℕ) (i : S32768x256.Idx) : i ∈ kRow n ↔ (i 0).val / 2048 = n % 16 := by
  rw [Rect.mem_set_unit]
  constructor
  · intro h; have h0 := h 0; change 2048 * (n % 16) ≤ (i 0).val ∧ (i 0).val < 2048 * (n % 16) + 2048 at h0; omega
  · intro h a
    have ha := (i a).isLt
    fin_cases a
    · change 2048 * (n % 16) ≤ (i 0).val ∧ (i 0).val < 2048 * (n % 16) + 2048; omega
    · change 0 ≤ (i 1).val ∧ (i 1).val < 0 + 256; change (i 1).val < 256 at ha; omega
abbrev kBlk (b : Fin 16) : Finset S32768x2x128.Idx := (kRows ![2048 * (b.val % 16), 0] (rowsInb b.val)).view.set
theorem kBlk_disjoint (b b' : Fin 16) (h : b ≠ b') : Disjoint (kBlk b) (kBlk b') := by
  unfold kBlk
  rw [kRows_set, kRows_set, Finset.disjoint_map, Finset.disjoint_left]
  intro i hi hi'
  have h1 := (mem_kRow b.val i).mp hi
  have h2 := (mem_kRow b'.val i).mp hi'
  apply h; apply Fin.ext; have := b.isLt; have := b'.isLt; omega
theorem kBlk_cover : Finset.univ.biUnion kBlk = Finset.univ := by
  refine Finset.eq_univ_iff_forall.mpr fun x => ?_
  have hx : x ∈ (kFlat.set : Finset S32768x2x128.Idx) := by
    have e : (kFlat.set : Finset S32768x2x128.Idx) = Finset.univ := (View.set_reshape _ _).trans (View.set_whole _)
    rw [e]; exact Finset.mem_univ _
  obtain ⟨i, -, rfl⟩ := Finset.mem_map.mp hx
  have h0 : (i 0).val < 32768 := (i 0).isLt
  refine Finset.mem_biUnion.mpr ⟨⟨(i 0).val / 2048, by omega⟩, Finset.mem_univ _, ?_⟩
  unfold kBlk
  rw [kRows_set]
  exact Finset.mem_map_of_mem _ ((mem_kRow ((i 0).val / 2048) i).mpr (by omega))
theorem k_chunks (c : Dev nD) (K : S32768x2x128.Idx → Elt F .f32) :
    (pts c main_arg3 K : sProp 𝕄) = bigSep Finset.univ fun b : Fin 16 => kRowsPts c ![2048 * (b.val % 16), 0] (rowsInb b.val) K :=
  Ring.pointsTo_blocks (ℓ := (c : Thread nD τ).loc main_arg3) (Val := Elt F) (Ix := Unit) (Name := ℕ) (U := UU) (Lvl := ℕ) (q := fullShare)
    (fun b : Fin 16 => (kBlk b : Finset (Idx ((c : Thread nD τ).loc main_arg3)))) kBlk_disjoint kBlk_cover K

theorem vSlot_set (n : ℕ) : ((vSlot ![n % 2, 0, 0] (slotInb n)).view.set : Finset S2x2048x256.Idx) = (Rect.unit (s := S2x2048x256) ![n % 2, 0, 0] S1x2048x256.size (slotInb n)).set :=
  (View.set_reshape _ _).trans (View.set_slice_whole _ _)
theorem mem_vSlot (n : ℕ) (i : S2x2048x256.Idx) : i ∈ ((vSlot ![n % 2, 0, 0] (slotInb n)).view.set : Finset S2x2048x256.Idx) ↔ (i 0).val = n % 2 := by
  rw [vSlot_set, Rect.mem_set_unit]
  constructor
  · intro h; have h0 := h 0; change n % 2 ≤ (i 0).val ∧ (i 0).val < n % 2 + 1 at h0; omega
  · intro h a
    have ha := (i a).isLt
    fin_cases a
    · change n % 2 ≤ (i 0).val ∧ (i 0).val < n % 2 + 1; omega
    · change 0 ≤ (i 1).val ∧ (i 1).val < 0 + 2048; change (i 1).val < 2048 at ha; omega
    · change 0 ≤ (i 2).val ∧ (i 2).val < 0 + 256; change (i 2).val < 256 at ha; omega

abbrev vFam (b : Fin 2) : Finset S2x2048x256.Idx := (vSlot ![b.val % 2, 0, 0] (slotInb b.val)).view.set
theorem vFam_disjoint (b b' : Fin 2) (h : b ≠ b') : Disjoint (vFam b) (vFam b') := by
  rw [Finset.disjoint_left]; intro i hi hi'
  have h1 := (mem_vSlot b.val i).mp hi
  have h2 := (mem_vSlot b'.val i).mp hi'
  apply h; apply Fin.ext; have := b.isLt; have := b'.isLt; omega
theorem vFam_cover : Finset.univ.biUnion vFam = Finset.univ := by
  ext i; simp only [Finset.mem_biUnion, Finset.mem_univ, true_and, iff_true]
  have h0 : (i 0).val < 2 := (i 0).isLt
  exact ⟨⟨(i 0).val, h0⟩, (mem_vSlot (i 0).val i).mpr (by omega)⟩

abbrev vLoc (c : Dev nD) : Loc nD τ sig := (c : Thread nD τ).loc cc0_scratch5

/-- The buffer of chunks is its two slots. -/
theorem v_split (c : Dev nD) (f : S2x2048x256.Idx → Elt F .f32) :
    (pts c cc0_scratch5 f : sProp 𝕄) = iprop(vSlotPts c ![0 % 2, 0, 0] (slotInb 0) f ∗ vSlotPts c ![1 % 2, 0, 0] (slotInb 1) f) := by
  have e := Ring.pointsTo_blocks (ℓ := vLoc c) (Val := Elt F) (Ix := Unit) (Name := ℕ) (U := UU) (Lvl := ℕ) (q := fullShare)
    (fun b : Fin 2 => (vFam b : Finset (Idx (vLoc c)))) vFam_disjoint vFam_cover f
  exact e.trans (BI.bigSep_fin_two _)
theorem v_join (c : Dev nD) :
    iprop((∃ f, vSlotPts c ![0 % 2, 0, 0] (slotInb 0) f) ∗ (∃ f, vSlotPts c ![1 % 2, 0, 0] (slotInb 1) f)) ⊢ (iprop(∃ f, pts c cc0_scratch5 f) : sProp 𝕄) := by
  iintro ⟨⟨%f, H0⟩, H1⟩
  have e := Ring.pointsTo_blocks_join_exists (ℓ := vLoc c) (Val := Elt F) (Ix := Unit) (Name := ℕ) (U := UU) (Lvl := ℕ) (q := fullShare)
    (fun b : Fin 2 => (vFam b : Finset (Idx (vLoc c)))) vFam_disjoint vFam_cover f
  rw [BI.bigSep_fin_two] at e
  have e' : iprop((∃ f, vSlotPts c ![0 % 2, 0, 0] (slotInb 0) f) ∗ (∃ f, vSlotPts c ![1 % 2, 0, 0] (slotInb 1) f)) ⊢ (iprop(∃ f, pts c cc0_scratch5 f) : sProp 𝕄) := e
  iapply e'
  isplitl [H0]; · iexists f; iexact H0
  iexact H1

abbrev vFlat : View sig .tc .hbm S32768x256 .f32 :=
  ((Memref.whole main_arg4).reshape S32768x256 reshapes_S32768x2x128_S32768x256.1 reshapes_S32768x2x128_S32768x256.2 (Memref.isWhole_whole _).contiguous).view
theorem vRows_set (o : Fin 2 → ℕ) (h : InbRows o) : ((vRows o h).view.set : Finset S32768x2x128.Idx) = (Rect.unit (s := S32768x256) o S2048x256.size h).set.map vFlat.emb :=
  View.set_slice _ _
abbrev vRow (n : ℕ) : Finset S32768x256.Idx := (Rect.unit (s := S32768x256) ![2048 * (n % 16), 0] S2048x256.size (rowsInb n)).set
theorem mem_vRow (n : ℕ) (i : S32768x256.Idx) : i ∈ vRow n ↔ (i 0).val / 2048 = n % 16 := by
  rw [Rect.mem_set_unit]
  constructor
  · intro h; have h0 := h 0; change 2048 * (n % 16) ≤ (i 0).val ∧ (i 0).val < 2048 * (n % 16) + 2048 at h0; omega
  · intro h a
    have ha := (i a).isLt
    fin_cases a
    · change 2048 * (n % 16) ≤ (i 0).val ∧ (i 0).val < 2048 * (n % 16) + 2048; omega
    · change 0 ≤ (i 1).val ∧ (i 1).val < 0 + 256; change (i 1).val < 256 at ha; omega
abbrev vBlk (b : Fin 16) : Finset S32768x2x128.Idx := (vRows ![2048 * (b.val % 16), 0] (rowsInb b.val)).view.set
theorem vBlk_disjoint (b b' : Fin 16) (h : b ≠ b') : Disjoint (vBlk b) (vBlk b') := by
  unfold vBlk
  rw [vRows_set, vRows_set, Finset.disjoint_map, Finset.disjoint_left]
  intro i hi hi'
  have h1 := (mem_vRow b.val i).mp hi
  have h2 := (mem_vRow b'.val i).mp hi'
  apply h; apply Fin.ext; have := b.isLt; have := b'.isLt; omega
theorem vBlk_cover : Finset.univ.biUnion vBlk = Finset.univ := by
  refine Finset.eq_univ_iff_forall.mpr fun x => ?_
  have hx : x ∈ (vFlat.set : Finset S32768x2x128.Idx) := by
    have e : (vFlat.set : Finset S32768x2x128.Idx) = Finset.univ := (View.set_reshape _ _).trans (View.set_whole _)
    rw [e]; exact Finset.mem_univ _
  obtain ⟨i, -, rfl⟩ := Finset.mem_map.mp hx
  have h0 : (i 0).val < 32768 := (i 0).isLt
  refine Finset.mem_biUnion.mpr ⟨⟨(i 0).val / 2048, by omega⟩, Finset.mem_univ _, ?_⟩
  unfold vBlk
  rw [vRows_set]
  exact Finset.mem_map_of_mem _ ((mem_vRow ((i 0).val / 2048) i).mpr (by omega))
theorem v_chunks (c : Dev nD) (K : S32768x2x128.Idx → Elt F .f32) :
    (pts c main_arg4 K : sProp 𝕄) = bigSep Finset.univ fun b : Fin 16 => vRowsPts c ![2048 * (b.val % 16), 0] (rowsInb b.val) K :=
  Ring.pointsTo_blocks (ℓ := (c : Thread nD τ).loc main_arg4) (Val := Elt F) (Ix := Unit) (Name := ℕ) (U := UU) (Lvl := ℕ) (q := fullShare)
    (fun b : Fin 16 => (vBlk b : Finset (Idx ((c : Thread nD τ).loc main_arg4)))) vBlk_disjoint vBlk_cover K

/-- The chunks of `S`, at rest in HBM. -/
def homes (c : Dev nD) (S : Finset (Fin 16)) (K V : S32768x2x128.Idx → Elt F .f32) : sProp 𝕄 := bigSep S fun b : Fin 16 => home c b.val K V
theorem homes_all (c : Dev nD) (K V : S32768x2x128.Idx → Elt F .f32) :
    (iprop(pts c main_arg3 K ∗ pts c main_arg4 V) : sProp 𝕄) = homes c Finset.univ K V := by
  unfold homes home
  rw [k_chunks, v_chunks]
  exact (bigSep_sep' (M := 𝕄) Finset.univ (fun b : Fin 16 => kRowsPts c ![2048 * (b.val % 16), 0] (rowsInb b.val) K) (fun b : Fin 16 => vRowsPts c ![2048 * (b.val % 16), 0] (rowsInb b.val) V)).symm
theorem homes_take (c : Dev nD) (S : Finset (Fin 16)) (b : Fin 16) (h : b ∈ S) (K V : S32768x2x128.Idx → Elt F .f32) :
    (homes c S K V : sProp 𝕄) = (iprop(home c b.val K V ∗ homes c (S.erase b) K V) : sProp 𝕄) := BI.bigSep_erase h
theorem homes_put (c : Dev nD) (S S' : Finset (Fin 16)) (b : Fin 16) (h : b ∈ S') (e : S'.erase b = S) (K V : S32768x2x128.Idx → Elt F .f32) :
    (iprop(home c b.val K V ∗ homes c S K V) : sProp 𝕄) = homes c S' K V := by
  subst e; exact (BI.bigSep_erase (M := 𝕄) (Φ := fun b : Fin 16 => home c b.val K V) h).symm

/-- The chunks at rest before point `t`: all but the two under way. -/
def rest (t : ℕ) : Finset (Fin 16) := Finset.univ.filter fun b => ¬ (b.val = t ∨ b.val = t + 1)
theorem rest_next : ∀ t : Fin 16, 1 ≤ t.val → (h : t.val ≤ 13) →
    (⟨t.val + 2, by omega⟩ : Fin 16) ∈ rest t.val ∧ t ∈ rest (t.val + 1) ∧ (rest (t.val + 1)).erase t = (rest t.val).erase ⟨t.val + 2, by omega⟩ := by decide
theorem rest_late : ∀ t : Fin 16, 14 ≤ t.val → t ∈ rest (t.val + 1) ∧ (rest (t.val + 1)).erase t = rest t.val := by decide
theorem rest_16 : rest 16 = Finset.univ := by decide
theorem rest_1 : (0 : Fin 16) ∈ rest 1 ∧ (rest 1).erase 0 = ((Finset.univ.erase 0).erase 1).erase 2 := by decide

theorem freeS_two (c : Dev nD) (n : ℕ) : (freeS (F := F) c (n + 2) : sProp 𝕄) = freeS c n := by
  have e : (n + 2) % 2 = n % 2 := by omega
  have e3 : (![(n + 2) % 2, 0, 0] : Fin 3 → ℕ) = ![n % 2, 0, 0] := by rw [e]
  have e0 : (![(n + 2) % 2, 0] : Fin 2 → ℕ) = ![n % 2, 0] := by rw [e]
  have e1 : (![(n + 2) % 2, 1] : Fin 2 → ℕ) = ![n % 2, 1] := by rw [e]
  unfold freeS
  simp only [kSlot_congr (F := F) c e3 (slotInb (n + 2)) (slotInb n), vSlot_congr (F := F) c e3 (slotInb (n + 2)) (slotInb n),
    cVal_congr (F := F) c e0 (semInb (n + 2) 0 (by decide)) (semInb n 0 (by decide)), cVal_congr (F := F) c e1 (semInb (n + 2) 1 (by decide)) (semInb n 1 (by decide))]

/-- The copies' semaphores at zero. -/
def copyZ (c : Dev nD) : sProp 𝕄 :=
  iprop(semVal ((c : Thread nD τ), .dma 4) 0 ∗ semVal ((c : Thread nD τ), .dma 5) 0 ∗ semVal ((c : Thread nD τ), .dma 6) 0 ∗ semVal ((c : Thread nD τ), .dma 7) 0)
theorem cSem_00 : (SemLoc.dma (cSem ![0 % 2, 0] (semInb 0 0 (by decide))) : SemLoc sig) = .dma 4 := by
  have h : (SemLoc.dma (cSem ![0, 0] inb_S2x2_S1x1_0_0) : SemLoc sig) = .dma 4 := by decide
  exact h
theorem cSem_01 : (SemLoc.dma (cSem ![0 % 2, 1] (semInb 0 1 (by decide))) : SemLoc sig) = .dma 5 := by
  have h : (SemLoc.dma (cSem ![0, 1] inb_S2x2_S1x1_0_1) : SemLoc sig) = .dma 5 := by decide
  exact h
theorem cSem_10 : (SemLoc.dma (cSem ![1 % 2, 0] (semInb 1 0 (by decide))) : SemLoc sig) = .dma 6 := by
  have h : (SemLoc.dma (cSem ![1, 0] inb_S2x2_S1x1_1_0) : SemLoc sig) = .dma 6 := by decide
  exact h
theorem cSem_11 : (SemLoc.dma (cSem ![1 % 2, 1] (semInb 1 1 (by decide))) : SemLoc sig) = .dma 7 := by
  have h : (SemLoc.dma (cSem ![1, 1] inb_S2x2_S1x1_1_1) : SemLoc sig) = .dma 7 := by decide
  exact h

/-- The slots and their semaphores, before the first chunk and after the last. -/
theorem free_of (c : Dev nD) : iprop((∃ f, pts c cc0_scratch4 f) ∗ (∃ f, pts c cc0_scratch5 f) ∗ copyZ c) ⊢ (iprop(freeS c 0 ∗ freeS c 1) : sProp 𝕄) := by
  unfold freeS copyZ
  rw [cSem_00, cSem_01, cSem_10, cSem_11]
  iintro ⟨⟨%f, Hf⟩, ⟨%g, Hg⟩, z4, z5, z6, z7⟩
  ihave ⟨f0, f1⟩ := (Entails.of_eq (k_split c f)) $$ Hf
  ihave ⟨g0, g1⟩ := (Entails.of_eq (v_split c g)) $$ Hg
  isplitl [f0 g0 z4 z5]
  · isplitl [f0]; · iexists f; iexact f0
    isplitl [g0]; · iexists g; iexact g0
    isplitl [z4]; · iexact z4
    iexact z5
  · isplitl [f1]; · iexists f; iexact f1
    isplitl [g1]; · iexists g; iexact g1
    isplitl [z6]; · iexact z6
    iexact z7
theorem free_to (c : Dev nD) : iprop(freeS c 0 ∗ freeS c 1) ⊢ (iprop((∃ f, pts c cc0_scratch4 f) ∗ (∃ f, pts c cc0_scratch5 f) ∗ copyZ c) : sProp 𝕄) := by
  unfold freeS copyZ
  rw [cSem_00, cSem_01, cSem_10, cSem_11]
  iintro ⟨⟨f0, g0, z4, z5⟩, ⟨f1, g1, z6, z7⟩⟩
  isplitl [f0 f1]
  · iapply (k_join c)
    isplitl [f0]; · iexact f0
    iexact f1
  isplitl [g0 g1]
  · iapply (v_join c)
    isplitl [g0]; · iexact g0
    iexact g1
  isplitl [z4]; · iexact z4
  isplitl [z5]; · iexact z5
  isplitl [z6]; · iexact z6
  iexact z7

end Cert.KernelIdeal.Run

end
-- ==== Proof.Ideal.PartA.lean ====
/-
The exchange, first part: this device's sums go into its own slot.
-/
module

public import proofs.«01_k».proof.Proof.Ideal.Epi

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- An index of one half of a slot. -/
def ixA (p : Fin 128) (q : Fin 512) : S1x1x128x512.Idx := fun a => match a with
  | ⟨0, _⟩ => (0 : Fin 1)
  | ⟨1, _⟩ => (0 : Fin 1)
  | ⟨2, _⟩ => p
  | ⟨3, _⟩ => q
def ixL (q : Fin 512) : S1x1x1x512.Idx := fun a => match a with
  | ⟨0, _⟩ => (0 : Fin 1)
  | ⟨1, _⟩ => (0 : Fin 1)
  | ⟨2, _⟩ => (0 : Fin 1)
  | ⟨3, _⟩ => q

/-- A device's slot of weighted sums, from its accumulator: two halves of 512 columns, rounded. -/
def aOf (A : cc0_scratch1.ty.Contents (Elt F)) : S4x2x128x512.Idx → Elt F .bf16 := fun j =>
  if (j 1).val = 0
  then k0_pay18 ((Memref.whole cc0_scratch1).view.readAt (Elt F) (Rect.unit (s := S128x1024) ![0, 0] S128x512.size inb_S128x1024_S128x512_0_0).toLoadRect A) (ixA (j 2) (j 3))
  else k0_pay20 ((Memref.whole cc0_scratch1).view.readAt (Elt F) (Rect.unit (s := S128x1024) ![0, 512] S128x512.size inb_S128x1024_S128x512_0_512).toLoadRect A) (ixA (j 2) (j 3))
/-- Row 0 of its slot of sums of weights. -/
def lOf (Lf : cc0_scratch2.ty.Contents (Elt F)) : S4x2x8x512.Idx → Elt F .f32 := fun j =>
  if (j 1).val = 0
  then k0_pay19 ((Memref.whole cc0_scratch2).view.readAt (Elt F) (Rect.unit (s := S8x1024) ![0, 0] S1x512.size inb_S8x1024_S1x512_0_0).toLoadRect Lf) (ixL (j 3))
  else k0_pay21 ((Memref.whole cc0_scratch2).view.readAt (Elt F) (Rect.unit (s := S8x1024) ![0, 512] S1x512.size inb_S8x1024_S1x512_0_512).toLoadRect Lf) (ixL (j 3))

/-- The slot after the two stores. -/
def aRaw (i : grid0.Coords) (c : Dev nD) (h4 : k0_cond4 i = 1#1) (A : cc0_scratch1.ty.Contents (Elt F)) (f : S4x2x128x512.Idx → Elt F .bf16) : S4x2x128x512.Idx → Elt F .bf16 :=
  (Memref.whole cc0_scratch7).view.writes (Elt F) f
    [⟨Rect.unit (s := S4x2x128x512) (k0_off11 c) S1x1x128x512.size (k0_off11_inb i c h4),
        k0_pay20 ((Memref.whole cc0_scratch1).view.readAt (Elt F) (Rect.unit (s := S128x1024) ![0, 512] S128x512.size inb_S128x1024_S128x512_0_512).toLoadRect A)⟩,
      ⟨Rect.unit (s := S4x2x128x512) (k0_off9 c) S1x1x128x512.size (k0_off9_inb i c h4),
        k0_pay18 ((Memref.whole cc0_scratch1).view.readAt (Elt F) (Rect.unit (s := S128x1024) ![0, 0] S128x512.size inb_S128x1024_S128x512_0_0).toLoadRect A)⟩]
def lRaw (i : grid0.Coords) (c : Dev nD) (h4 : k0_cond4 i = 1#1) (Lf : cc0_scratch2.ty.Contents (Elt F)) (f : S4x2x8x512.Idx → Elt F .f32) : S4x2x8x512.Idx → Elt F .f32 :=
  (Memref.whole cc0_scratch8).view.writes (Elt F) f
    [⟨Rect.unit (s := S4x2x8x512) (k0_off12 c) S1x1x1x512.size (k0_off12_inb i c h4),
        k0_pay21 ((Memref.whole cc0_scratch2).view.readAt (Elt F) (Rect.unit (s := S8x1024) ![0, 512] S1x512.size inb_S8x1024_S1x512_0_512).toLoadRect Lf)⟩,
      ⟨Rect.unit (s := S4x2x8x512) (k0_off10 c) S1x1x1x512.size (k0_off10_inb i c h4),
        k0_pay19 ((Memref.whole cc0_scratch2).view.readAt (Elt F) (Rect.unit (s := S8x1024) ![0, 0] S1x512.size inb_S8x1024_S1x512_0_0).toLoadRect Lf)⟩]

/-- One store into a slot, element by element. -/
theorem updA {α : Type} (x : S4x2x128x512.Idx → α) (w : S1x1x128x512.Idx → α) (p r : ℕ) (h : S4x2x128x512.Slices ![p, r, 0, 0] S1x1x128x512)
    (j : S4x2x128x512.Idx) : updateSlice x w ![p, r, 0, 0] h j = if (j 0).val = p ∧ (j 1).val = r then w (ixA (j 2) (j 3)) else x j := by
  have h2 : (j 2).val < 128 := (j 2).isLt
  have h3 : (j 3).val < 512 := (j 3).isLt
  unfold updateSlice
  by_cases hc : (j 0).val = p ∧ (j 1).val = r
  · rw [if_pos hc, dif_pos]
    · congr 1; funext a; apply Fin.ext
      fin_cases a
      · show (j 0).val - p = 0; omega
      · show (j 1).val - r = 0; omega
      · rfl
      · rfl
    · intro a
      fin_cases a
      · show p ≤ (j 0).val ∧ (j 0).val < p + 1; omega
      · show r ≤ (j 1).val ∧ (j 1).val < r + 1; omega
      · show 0 ≤ (j 2).val ∧ (j 2).val < 0 + 128; omega
      · show 0 ≤ (j 3).val ∧ (j 3).val < 0 + 512; omega
  · rw [if_neg hc, dif_neg]
    intro h
    have a0 : p ≤ (j 0).val ∧ (j 0).val < p + 1 := h 0
    have a1 : r ≤ (j 1).val ∧ (j 1).val < r + 1 := h 1
    omega
theorem updL {α : Type} (x : S4x2x8x512.Idx → α) (w : S1x1x1x512.Idx → α) (p r : ℕ) (h : S4x2x8x512.Slices ![p, r, 0, 0] S1x1x1x512)
    (j : S4x2x8x512.Idx) : updateSlice x w ![p, r, 0, 0] h j = if (j 0).val = p ∧ (j 1).val = r ∧ (j 2).val = 0 then w (ixL (j 3)) else x j := by
  have h3 : (j 3).val < 512 := (j 3).isLt
  unfold updateSlice
  by_cases hc : (j 0).val = p ∧ (j 1).val = r ∧ (j 2).val = 0
  · rw [if_pos hc, dif_pos]
    · congr 1; funext a; apply Fin.ext
      fin_cases a
      · show (j 0).val - p = 0; omega
      · show (j 1).val - r = 0; omega
      · show (j 2).val - 0 = 0; omega
      · rfl
    · intro a
      fin_cases a
      · show p ≤ (j 0).val ∧ (j 0).val < p + 1; omega
      · show r ≤ (j 1).val ∧ (j 1).val < r + 1; omega
      · show 0 ≤ (j 2).val ∧ (j 2).val < 0 + 1; omega
      · show 0 ≤ (j 3).val ∧ (j 3).val < 0 + 512; omega
  · rw [if_neg hc, dif_neg]
    intro h
    have a0 : p ≤ (j 0).val ∧ (j 0).val < p + 1 := h 0
    have a1 : r ≤ (j 1).val ∧ (j 1).val < r + 1 := h 1
    have a2 : 0 ≤ (j 2).val ∧ (j 2).val < 0 + 1 := h 2
    omega
theorem wrA (x : S4x2x128x512.Idx → Elt F .bf16) (w : Vec F S1x1x128x512 .bf16) (p r : ℕ) {off : Fin 4 → ℕ} (e : off = ![p, r, 0, 0])
    (h : ∀ a, off a + S1x1x128x512.size a ≤ S4x2x128x512.size a) (j : S4x2x128x512.Idx) :
    ((Memref.whole cc0_scratch7).view.slice (Rect.unit (s := S4x2x128x512) off S1x1x128x512.size h)).write (Elt F) x w Finset.univ j
      = if (j 0).val = p ∧ (j 1).val = r then w (ixA (j 2) (j 3)) else x j := by
  subst e
  exact (congrFun (View.write_whole_slice_unit cc0_scratch7 ![p, r, 0, 0] S1x1x128x512.size h x w) j).trans (updA x w p r _ j)
theorem wrL (x : S4x2x8x512.Idx → Elt F .f32) (w : Vec F S1x1x1x512 .f32) (p r : ℕ) {off : Fin 4 → ℕ} (e : off = ![p, r, 0, 0])
    (h : ∀ a, off a + S1x1x1x512.size a ≤ S4x2x8x512.size a) (j : S4x2x8x512.Idx) :
    ((Memref.whole cc0_scratch8).view.slice (Rect.unit (s := S4x2x8x512) off S1x1x1x512.size h)).write (Elt F) x w Finset.univ j
      = if (j 0).val = p ∧ (j 1).val = r ∧ (j 2).val = 0 then w (ixL (j 3)) else x j := by
  subst e
  exact (congrFun (View.write_whole_slice_unit cc0_scratch8 ![p, r, 0, 0] S1x1x1x512.size h x w) j).trans (updL x w p r _ j)

theorem aRaw_eq (i : grid0.Coords) (c : Dev nD) (h4 : k0_cond4 i = 1#1) (A : cc0_scratch1.ty.Contents (Elt F)) (f : S4x2x128x512.Idx → Elt F .bf16) :
    ∀ j ∈ aSet c, aRaw i c h4 A f j = aOf A j := by
  intro j hj
  have h0 := mem_aSet.mp hj
  have h1 : (j 1).val < 2 := (j 1).isLt
  unfold aRaw aOf
  simp only [View.writes]
  refine (wrA _ _ c.val 1 (k0_off11_eq c) _ j).trans ?_
  by_cases hz : (j 1).val = 0
  · rw [if_neg (by omega), if_pos hz]
    refine (wrA _ _ c.val 0 (k0_off9_eq c) _ j).trans ?_
    rw [if_pos ⟨h0, hz⟩]
  · rw [if_pos ⟨h0, by omega⟩, if_neg hz]

theorem lRaw_eq (i : grid0.Coords) (c : Dev nD) (h4 : k0_cond4 i = 1#1) (Lf : cc0_scratch2.ty.Contents (Elt F)) (f : S4x2x8x512.Idx → Elt F .f32) :
    ∀ j ∈ lSet c, (j 2).val = 0 → lRaw i c h4 Lf f j = lOf Lf j := by
  intro j hj h2
  have h0 := mem_lSet.mp hj
  have h1 : (j 1).val < 2 := (j 1).isLt
  unfold lRaw lOf
  simp only [View.writes]
  refine (wrL _ _ c.val 1 (k0_off12_eq c) _ j).trans ?_
  by_cases hz : (j 1).val = 0
  · rw [if_neg (by omega), if_pos hz]
    refine (wrL _ _ c.val 0 (k0_off10_eq c) _ j).trans ?_
    rw [if_pos ⟨h0, hz, h2⟩]
  · rw [if_pos ⟨h0, by omega, h2⟩, if_neg hz]

set_option maxHeartbeats 1000000 in
theorem part3 (C : Con F) (i : grid0.Coords) (c : Dev nD) (v2 : BitVec 32) (h4 : k0_cond4 i = 1#1)
    (A : cc0_scratch1.ty.Contents (Elt F)) (Lf : cc0_scratch2.ty.Contents (Elt F))
    (hA : ∀ j ∈ aSet c, C.aG j = aOf A j) (hL : ∀ j ∈ lSet c, (j 2).val = 0 → C.lG j = lOf Lf j) (Kt : BitVec 32 → sProp 𝕄) :
    iprop(pts c cc0_scratch1 A ∗ pts c cc0_scratch2 Lf ∗ (∃ f, aPts c c fullShare f) ∗ (∃ g, lPts c c fullShare g)
      ∗ (∀ r, (pts c cc0_scratch1 A ∗ pts c cc0_scratch2 Lf ∗ aPts c c fullShare C.aG ∗ (∃ g, ⌜Row0 C.lG g⌝ ∗ lPts c c fullShare g)) -∗ Kt r))
      ⊢ wp frame (wpE (defs₀ (F := F)) 𝒱₀ (c : Thread nD τ) none) Set.univ (P3 i c v2 h4) Kt := by
  unfold P3
  rw [k0_part3_eq_skeleton]; unfold k0_part3_skel
  iintro ⟨HA, HL, ⟨%f, Ha⟩, ⟨%g, Hl⟩, Hk⟩
  ihave Ha : ((aM c).view.loc (c : Thread nD τ) ↦[(aM c).view.set]{fullShare} f) $$ [Ha]
  · rw [aM_set]; unfold aPts; iexact Ha
  ihave Hl : ((lM c).view.loc (c : Thread nD τ) ↦[(lM c).view.set]{fullShare} g) $$ [Hl]
  · rw [lM_set]; unfold lPts; iexact Hl
  unfold aM lM
  sl_exec
  rw [wp_ret]; imodintro
  iapply Hk
  isplitl [HA]; · iexact HA
  isplitl [HL]; · iexact HL
  isplitl [Ha]
  · have e : aPts c c fullShare C.aG = aPts c c fullShare (aRaw i c h4 A f) :=
      pointsTo_congr fun j hj => (hA j hj).trans (aRaw_eq i c h4 A f j hj).symm
    rw [e]; unfold aPts aRaw
    rw [← aM_set]; unfold aM
    iexact Ha
  · iapply (lPts_row0 C.lG c c fullShare (lRaw i c h4 Lf g) (fun j hj h0 => (lRaw_eq i c h4 Lf g j hj h0).trans (hL j hj h0).symm))
    unfold lPts lRaw
    rw [← lM_set]; unfold lM
    iexact Hl

end Cert.KernelIdeal.Run

end
-- ==== Proof.Ideal.PartB.lean ====
/-
The exchange, second part: the six copies to the other devices.
-/
module

public import proofs.«01_k».proof.Proof.Ideal.PartA

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The program's spellings of slots and semaphores -/

theorem aM_of {s : Dev nD} {o : Fin 4 → ℕ} (e : o = ![s.val, 0, 0, 0]) (h : ∀ a, o a + S1x2x128x512.size a ≤ S4x2x128x512.size a) :
    ((Memref.whole cc0_scratch7).slice (Rect.unit (s := S4x2x128x512) o S1x2x128x512.size h) (fun _ => rfl)).squeeze S2x128x512 squeezes_S1x2x128x512_S2x128x512 = aM s := by
  subst e; rfl
theorem lM_of {s : Dev nD} {o : Fin 4 → ℕ} (e : o = ![s.val, 0, 0, 0]) (h : ∀ a, o a + S1x2x8x512.size a ≤ S4x2x8x512.size a) :
    ((Memref.whole cc0_scratch8).slice (Rect.unit (s := S4x2x8x512) o S1x2x8x512.size h) (fun _ => rfl)).squeeze S2x8x512 squeezes_S1x2x8x512_S2x8x512 = lM s := by
  subst e; rfl
theorem inbRA (s : Dev nD) : ∀ a, (![0, s.val] : Fin 2 → ℕ) a + S1x1.size a ≤ S2x4.size a := by revert s; decide
theorem rA_at : ∀ s : Dev nD, SemLoc.dma ((cc0_scratch10.slice (Rect.unit (s := S2x4) ![0, s.val] S1x1.size (inbRA s))).squeeze S_ squeezes_S1x1_S_).sem = csem (rA s) := by decide
theorem rA_of {s : Dev nD} {o : Fin 2 → ℕ} (e : o = ![0, s.val]) (h : ∀ a, o a + S1x1.size a ≤ S2x4.size a) :
    SemLoc.dma ((cc0_scratch10.slice (Rect.unit (s := S2x4) o S1x1.size h)).squeeze S_ squeezes_S1x1_S_).sem = csem (rA s) := by
  subst e; exact rA_at s
theorem inbRL (s : Dev nD) : ∀ a, (![1, s.val] : Fin 2 → ℕ) a + S1x1.size a ≤ S2x4.size a := by revert s; decide
theorem rL_at : ∀ s : Dev nD, SemLoc.dma ((cc0_scratch10.slice (Rect.unit (s := S2x4) ![1, s.val] S1x1.size (inbRL s))).squeeze S_ squeezes_S1x1_S_).sem = csem (rL s) := by decide
theorem rL_of {s : Dev nD} {o : Fin 2 → ℕ} (e : o = ![1, s.val]) (h : ∀ a, o a + S1x1.size a ≤ S2x4.size a) :
    SemLoc.dma ((cc0_scratch10.slice (Rect.unit (s := S2x4) o S1x1.size h)).squeeze S_ squeezes_S1x1_S_).sem = csem (rL s) := by
  subst e; exact rL_at s

variable (C : Con F) (K : Dev nD × Fin 15 → ℕ)

/-- What the copy of the weighted sums to the device `d + 1` places on takes: a share of this device's slot, the slot it goes to, and the two duties. -/
def outA (c : Dev nD) (d : Fin 3) : sProp 𝕄 :=
  iprop(aPts c c (qs d) C.aG ∗ (∃ f, aPts (pr c d.succ) c fullShare f) ∗ dutyTok ER (kcell (c, sA d)) 0 c ∗ dutyTok ER (kcell (pr c d.succ, rA c)) 0 c)
def outL (c : Dev nD) (d : Fin 3) : sProp 𝕄 :=
  iprop((∃ g, ⌜Row0 C.lG g⌝ ∗ lPts c c (qs d) g) ∗ (∃ f, lPts (pr c d.succ) c fullShare f) ∗ dutyTok ER (kcell (c, sL d)) 0 c ∗ dutyTok ER (kcell (pr c d.succ, rL c)) 0 c)

theorem go_acc (c p : Dev nD) (d : Fin 3) (hp : p = pr c d.succ) {src : Memref sig .tc .vmem S2x128x512 .bf16} (hs : src = aM c)
    {dst : Memref sig (Dev.tc p : Thread nD τ).2.kind .vmem S2x128x512 .bf16} (ht : dst = aM c)
    {sS sR : SemLoc sig} (hS : sS = csem (sA d)) (hR : sR = csem (rA c))
    {hsc : dst.view.ref.isScScratch = false} {hsrc : src.view.WordExact} {hdst : dst.view.WordExact}
    {hsem : DmaTarget.Typed .vmem sR (.remote (Dev.tc p : Thread nD τ) dst sS hsc)}
    {α : Type} {Q : α → sProp 𝕄} {k : PUnit → Prog (TpuEff nD τ sig (Elt F) Λ₀ .tc) α} (O : CellTallies nD τ sig Unit) (W : Waits sig Unit) :
    iprop(records C K ∗ outA C c d ∗ owes (c : Thread nD τ) (O + owA c d) W)
      ⊢ iprop(((cred (tallyAt (kcell (c, sA d)) () NA) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p : Thread nD τ) dst sS hsc) sR hsrc hdst hsem) k) Q) := by
  unfold outA
  iintro ⟨#HR, ⟨Hs, Hd, H1, H2⟩, HO⟩ Hk
  iapply (send_acc C K c p d hp hs ht hS hR O W) $$ [Hs Hd H1 H2 HO]
  · isplitr; · iexact HR
    isplitl [Hs]; · iexact Hs
    isplitl [Hd]; · iexact Hd
    isplitl [HO]; · iexact HO
    isplitl [H1]; · iexact H1
    iexact H2
  iexact Hk

theorem go_l (c p : Dev nD) (d : Fin 3) (hp : p = pr c d.succ) {src : Memref sig .tc .vmem S2x8x512 .f32} (hs : src = lM c)
    {dst : Memref sig (Dev.tc p : Thread nD τ).2.kind .vmem S2x8x512 .f32} (ht : dst = lM c)
    {sS sR : SemLoc sig} (hS : sS = csem (sL d)) (hR : sR = csem (rL c))
    {hsc : dst.view.ref.isScScratch = false} {hsrc : src.view.WordExact} {hdst : dst.view.WordExact}
    {hsem : DmaTarget.Typed .vmem sR (.remote (Dev.tc p : Thread nD τ) dst sS hsc)}
    {α : Type} {Q : α → sProp 𝕄} {k : PUnit → Prog (TpuEff nD τ sig (Elt F) Λ₀ .tc) α} (O : CellTallies nD τ sig Unit) (W : Waits sig Unit) :
    iprop(records C K ∗ outL C c d ∗ owes (c : Thread nD τ) (O + owL c d) W)
      ⊢ iprop(((cred (tallyAt (kcell (c, sL d)) () NL) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p : Thread nD τ) dst sS hsc) sR hsrc hdst hsem) k) Q) := by
  unfold outL
  iintro ⟨#HR, ⟨⟨%g, %hg, Hs⟩, Hd, H1, H2⟩, HO⟩ Hk
  iapply (send_l C K c p d hp hs ht hS hR O W g hg) $$ [Hs Hd H1 H2 HO]
  · isplitr; · iexact HR
    isplitl [Hs]; · iexact Hs
    isplitl [Hd]; · iexact Hd
    isplitl [HO]; · iexact HO
    isplitl [H1]; · iexact H1
    iexact H2
  iexact Hk

set_option maxHeartbeats 1000000 in
theorem part4 (i : grid0.Coords) (c : Dev nD) (v2 : BitVec 32) (h4 : k0_cond4 i = 1#1) (v85 : BitVec 32) (W : Waits sig Unit) (Kt : BitVec 32 → sProp 𝕄) :
    iprop(records C K ∗ outA C c 0 ∗ outL C c 0 ∗ outA C c 1 ∗ owes (c : Thread nD τ) (O₁ c) W
      ∗ (∀ r, (cred (tallyAt (kcell (c, sA 0)) () NA) ∗ cred (tallyAt (kcell (c, sL 0)) () NL) ∗ cred (tallyAt (kcell (c, sA 1)) () NA) ∗ owes (c : Thread nD τ) (owL c 2 + owA c 2 + owL c 1) W) -∗ Kt r))
      ⊢ wp frame (wpE (defs₀ (F := F)) 𝒱₀ (c : Thread nD τ) none) Set.univ (P4 i c v2 h4 v85) Kt := by
  unfold P4
  rw [k0_part4_eq_skeleton]; unfold k0_part4_skel
  simp only [Prog.lift, Prog.bind_op, Prog.bind_ret, Prog.pure_eq_ret]
  iintro ⟨#HR, H0, H1, H2, HO, Hk⟩
  iapply (go_acc C K c _ 0 (Fin.ext (k0_dev4_eq c)) (aM_of (k0_off14_eq c) _) (aM_of (k0_off14_eq c) _) rfl (rA_of (k0_off13_eq c) _) (owL c 2 + owA c 2 + owL c 1 + owA c 1 + owL c 0) W) $$ [H0 HO]
  · isplitr; · iexact HR
    isplitl [H0]; · iexact H0
    iexact HO
  iintro ⟨Hc0, HO⟩
  iapply (go_l C K c _ 0 (Fin.ext (k0_dev5_eq c)) (lM_of (k0_off16_eq c) _) (lM_of (k0_off16_eq c) _) rfl (rL_of (k0_off15_eq c) _) (owL c 2 + owA c 2 + owL c 1 + owA c 1) W) $$ [H1 HO]
  · isplitr; · iexact HR
    isplitl [H1]; · iexact H1
    iexact HO
  iintro ⟨Hc1, HO⟩
  iapply (go_acc C K c _ 1 (Fin.ext (k0_dev6_eq c)) (aM_of (k0_off14_eq c) _) (aM_of (k0_off14_eq c) _) rfl (rA_of (k0_off13_eq c) _) (owL c 2 + owA c 2 + owL c 1) W) $$ [H2 HO]
  · isplitr; · iexact HR
    isplitl [H2]; · iexact H2
    iexact HO
  iintro ⟨Hc2, HO⟩
  rw [wp_ret]; imodintro
  iapply Hk
  isplitl [Hc0]; · iexact Hc0
  isplitl [Hc1]; · iexact Hc1
  isplitl [Hc2]; · iexact Hc2
  iexact HO

set_option maxHeartbeats 1000000 in
theorem part5 (i : grid0.Coords) (c : Dev nD) (v2 : BitVec 32) (h4 : k0_cond4 i = 1#1) (v107 : BitVec 32) (W : Waits sig Unit) (Kt : PUnit → sProp 𝕄) :
    iprop(records C K ∗ outL C c 1 ∗ outA C c 2 ∗ owes (c : Thread nD τ) (owL c 2 + owA c 2 + owL c 1) W
      ∗ (∀ r, (cred (tallyAt (kcell (c, sL 1)) () NL) ∗ cred (tallyAt (kcell (c, sA 2)) () NA) ∗ owes (c : Thread nD τ) (owL c 2) W) -∗ Kt r))
      ⊢ wp frame (wpE (defs₀ (F := F)) 𝒱₀ (c : Thread nD τ) none) Set.univ (P5 i c v2 h4 v107) Kt := by
  unfold P5
  rw [k0_part5_eq_skeleton]; unfold k0_part5_skel
  simp only [Prog.lift, Prog.bind_op, Prog.bind_ret, Prog.pure_eq_ret]
  iintro ⟨#HR, H0, H1, HO, Hk⟩
  iapply (go_l C K c _ 1 (Fin.ext (k0_dev7_eq c)) (lM_of (k0_off16_eq c) _) (lM_of (k0_off16_eq c) _) rfl (rL_of (k0_off15_eq c) _) (owL c 2 + owA c 2) W) $$ [H0 HO]
  · isplitr; · iexact HR
    isplitl [H0]; · iexact H0
    iexact HO
  iintro ⟨Hc0, HO⟩
  iapply (go_acc C K c _ 2 (Fin.ext (k0_dev8_eq c)) (aM_of (k0_off14_eq c) _) (aM_of (k0_off14_eq c) _) rfl (rA_of (k0_off13_eq c) _) (owL c 2) W) $$ [H1 HO]
  · isplitr; · iexact HR
    isplitl [H1]; · iexact H1
    iexact HO
  iintro ⟨Hc1, HO⟩
  rw [wp_ret]; imodintro
  iapply Hk
  isplitl [Hc0]; · iexact Hc0
  isplitl [Hc1]; · iexact Hc1
  iexact HO

end Cert.KernelIdeal.Run

end
-- ==== Proof.Ideal.PartC.lean ====
/-
The exchange, third part: the last copy and the waits for what the other devices send.
-/
module

public import proofs.«01_k».proof.Proof.Ideal.PartB

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (C : Con F) (K : Dev nD × Fin 15 → ℕ)

/-- What the wait for the device `d + 1` places on takes; what it gives. -/
def inA (c : Dev nD) (d : Fin 3) : sProp 𝕄 :=
  iprop(cred (tallyAt (kcell (c, rA (pr c d.succ))) () NA) ∗ atPos ER (kcell (c, rA (pr c d.succ))) 0 ∅ 0)
def inL (c : Dev nD) (d : Fin 3) : sProp 𝕄 :=
  iprop(cred (tallyAt (kcell (c, rL (pr c d.succ))) () NL) ∗ atPos ER (kcell (c, rL (pr c d.succ))) 0 ∅ 0)
def gotA (c : Dev nD) (d : Fin 3) : sProp 𝕄 :=
  iprop(semVal (kcell (c, rA (pr c d.succ))) 0 ∗ aPts c (pr c d.succ) fullShare C.aG)
def gotL (c : Dev nD) (d : Fin 3) : sProp 𝕄 :=
  iprop(semVal (kcell (c, rL (pr c d.succ))) 0 ∗ ∃ g, ⌜Row0 C.lG g⌝ ∗ lPts c (pr c d.succ) fullShare g)

theorem get_acc (c : Dev nD) (d : Fin 3) {sem : DmaSem sig} (hs : (SemLoc.dma sem : SemLoc sig) = csem (rA (pr c d.succ)))
    {src dst : Memref sig .tc .vmem S2x128x512 .bf16} (hd : dst = aM (pr c d.succ)) {h₁ : src.view.WordExact} {h₂ : dst.view.WordExact}
    {α : Type} {Q : α → sProp 𝕄} {k : PUnit → Prog (TpuEff nD τ sig (Elt F) Λ₀ .tc) α} (W : Waits sig Unit) :
    iprop(records C K ∗ inA c d ∗ owes (c : Thread nD τ) 0 W)
      ⊢ iprop(((∃ W', gotA C c d ∗ owes (c : Thread nD τ) 0 W') -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst h₁ h₂) k) Q) := by
  subst hd
  unfold inA gotA
  iintro ⟨#HR, ⟨Hc, Hp⟩, HO⟩ Hk
  have hw : ∀ J : PUnit → sProp 𝕄, wpE (defs₀ (F := F)) 𝒱₀ (c : Thread nD τ) none Set.univ (.waitDma2 sem src (aM (pr c d.succ)) h₁ h₂) J
      = waitSpec (c : Thread nD τ) Set.univ (csem (rA (pr c d.succ))) (amtK (rA (pr c d.succ))) J := fun J => by
    rw [amtK_rA, ← hs]; exact wpE_waitDma2_eq 𝒱₀ (c : Thread nD τ) none Set.univ J
  iapply (wait_one C K c (rA (pr c d.succ)) (dutK_rA (pr_ne c d)) hw W) $$ [Hc Hp HO]
  · isplitr; · iexact HR
    isplitl [Hc]; · rw [amtK_rA]; iexact Hc
    isplitl [HO]; · iexact HO
    iexact Hp
  iintro ⟨HO, Hz, Hpay⟩
  ihave Hpay := (Entails.of_eq (payK_rA C c (pr c d.succ) (pr c d.succ))) $$ Hpay
  iapply Hk
  iexists _
  isplitr [HO]
  · isplitl [Hz]; · iexact Hz
    unfold recvPayA
    iexact Hpay
  · iexact HO

theorem get_l (c : Dev nD) (d : Fin 3) {sem : DmaSem sig} (hs : (SemLoc.dma sem : SemLoc sig) = csem (rL (pr c d.succ)))
    {src dst : Memref sig .tc .vmem S2x8x512 .f32} (hd : dst = lM (pr c d.succ)) {h₁ : src.view.WordExact} {h₂ : dst.view.WordExact}
    {α : Type} {Q : α → sProp 𝕄} {k : PUnit → Prog (TpuEff nD τ sig (Elt F) Λ₀ .tc) α} (W : Waits sig Unit) :
    iprop(records C K ∗ inL c d ∗ owes (c : Thread nD τ) 0 W)
      ⊢ iprop(((∃ W', gotL C c d ∗ owes (c : Thread nD τ) 0 W') -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst h₁ h₂) k) Q) := by
  subst hd
  unfold inL gotL
  iintro ⟨#HR, ⟨Hc, Hp⟩, HO⟩ Hk
  have hw : ∀ J : PUnit → sProp 𝕄, wpE (defs₀ (F := F)) 𝒱₀ (c : Thread nD τ) none Set.univ (.waitDma2 sem src (lM (pr c d.succ)) h₁ h₂) J
      = waitSpec (c : Thread nD τ) Set.univ (csem (rL (pr c d.succ))) (amtK (rL (pr c d.succ))) J := fun J => by
    rw [amtK_rL, ← hs]; exact wpE_waitDma2_eq 𝒱₀ (c : Thread nD τ) none Set.univ J
  iapply (wait_one C K c (rL (pr c d.succ)) (dutK_rL (pr_ne c d)) hw W) $$ [Hc Hp HO]
  · isplitr; · iexact HR
    isplitl [Hc]; · rw [amtK_rL]; iexact Hc
    isplitl [HO]; · iexact HO
    iexact Hp
  iintro ⟨HO, Hz, Hpay⟩
  ihave Hpay := (Entails.of_eq (payK_rL C c (pr c d.succ) (pr c d.succ))) $$ Hpay
  iapply Hk
  iexists _
  isplitr [HO]
  · isplitl [Hz]; · iexact Hz
    unfold recvPayL
    iexact Hpay
  · iexact HO

set_option maxHeartbeats 1000000 in
theorem part6 (i : grid0.Coords) (c : Dev nD) (v2 : BitVec 32) (h4 : k0_cond4 i = 1#1) (W : Waits sig Unit) (Kt : PUnit → sProp 𝕄) :
    iprop(records C K ∗ outL C c 2 ∗ inA c 0 ∗ inL c 0 ∗ owes (c : Thread nD τ) (owL c 2) W
      ∗ (∀ r W', (cred (tallyAt (kcell (c, sL 2)) () NL) ∗ gotA C c 0 ∗ gotL C c 0 ∗ owes (c : Thread nD τ) 0 W') -∗ Kt r))
      ⊢ wp frame (wpE (defs₀ (F := F)) 𝒱₀ (c : Thread nD τ) none) Set.univ (P6 i c v2 h4) Kt := by
  unfold P6
  rw [k0_part6_eq_skeleton]; unfold k0_part6_skel
  simp only [Prog.lift, Prog.bind_op, Prog.bind_ret, Prog.pure_eq_ret]
  iintro ⟨#HR, H0, H1, H2, HO, Hk⟩
  ihave HO : owes (c : Thread nD τ) (0 + owL c 2) W $$ [HO]
  · rw [zero_add]; iexact HO
  iapply (go_l C K c _ 2 (Fin.ext (k0_dev9_eq c)) (lM_of (k0_off16_eq c) _) (lM_of (k0_off16_eq c) _) rfl (rL_of (k0_off15_eq c) _) 0 W) $$ [H0 HO]
  · isplitr; · iexact HR
    isplitl [H0]; · iexact H0
    iexact HO
  iintro ⟨Hc, HO⟩
  iapply (get_acc C K c 0 (rA_of (k0_off17_eq c 0) _) (aM_of (k0_off18_eq c 0) _) W) $$ [H1 HO]
  · isplitr; · iexact HR
    isplitl [H1]; · iexact H1
    iexact HO
  iintro ⟨%W1, H1, HO⟩
  iapply (get_l C K c 0 (rL_of (k0_off19_eq c 0) _) (lM_of (k0_off20_eq c 0) _) W1) $$ [H2 HO]
  · isplitr; · iexact HR
    isplitl [H2]; · iexact H2
    iexact HO
  iintro ⟨%W2, H2, HO⟩
  rw [wp_ret]; imodintro
  iapply Hk
  isplitl [Hc]; · iexact Hc
  isplitl [H1]; · iexact H1
  isplitl [H2]; · iexact H2
  iexact HO

set_option maxHeartbeats 1000000 in
theorem part7 (i : grid0.Coords) (c : Dev nD) (v2 : BitVec 32) (h4 : k0_cond4 i = 1#1) (W : Waits sig Unit) (Kt : PUnit → sProp 𝕄) :
    iprop(records C K ∗ inA c 1 ∗ inL c 1 ∗ owes (c : Thread nD τ) 0 W
      ∗ (∀ r W', (gotA C c 1 ∗ gotL C c 1 ∗ owes (c : Thread nD τ) 0 W') -∗ Kt r))
      ⊢ wp frame (wpE (defs₀ (F := F)) 𝒱₀ (c : Thread nD τ) none) Set.univ (P7 i c v2 h4) Kt := by
  unfold P7
  rw [k0_part7_eq_skeleton]; unfold k0_part7_skel
  simp only [Prog.lift, Prog.bind_op, Prog.bind_ret, Prog.pure_eq_ret]
  iintro ⟨#HR, H1, H2, HO, Hk⟩
  iapply (get_acc C K c 1 (rA_of (k0_off17_eq c 1) _) (aM_of (k0_off18_eq c 1) _) W) $$ [H1 HO]
  · isplitr; · iexact HR
    isplitl [H1]; · iexact H1
    iexact HO
  iintro ⟨%W1, H1, HO⟩
  iapply (get_l C K c 1 (rL_of (k0_off19_eq c 1) _) (lM_of (k0_off20_eq c 1) _) W1) $$ [H2 HO]
  · isplitr; · iexact HR
    isplitl [H2]; · iexact H2
    iexact HO
  iintro ⟨%W2, H2, HO⟩
  rw [wp_ret]; imodintro
  iapply Hk
  isplitl [H1]; · iexact H1
  isplitl [H2]; · iexact H2
  iexact HO

end Cert.KernelIdeal.Run

end
-- ==== Proof.Ideal.Shares.lean ====
/-
The exchange buffers: cutting them by slots and by shares, and putting them together again.
-/
module

public import proofs.«01_k».proof.Proof.Ideal.PartC

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem univ_slots (c : Dev nD) : (Finset.univ : Finset (Dev nD)) = [c, pr c 1, pr c 2, pr c 3].toFinset := by revert c; decide
theorem nodup_slots (c : Dev nD) : [c, pr c 1, pr c 2, pr c 3].Nodup := by revert c; decide

theorem a_slots (c : Dev nD) (q : PosShare TreeShare) (f : S4x2x128x512.Idx → Elt F .bf16) :
    (aLoc c ↦{q} f : sProp 𝕄) = iprop(aPts c c q f ∗ aPts c (pr c 1) q f ∗ aPts c (pr c 2) q f ∗ aPts c (pr c 3) q f) := by
  have hc : (Finset.univ : Finset (Dev nD)).biUnion (fun b => (aSet b : Finset (Idx (aLoc c)))) = Finset.univ :=
    Finset.eq_univ_iff_forall.mpr fun i => Finset.mem_biUnion.mpr ⟨⟨(i 0).val, (i 0).isLt⟩, Finset.mem_univ _, mem_aSet.mpr rfl⟩
  have e := Ring.pointsTo_blocks (ℓ := aLoc c) (Val := Elt F) (Ix := Unit) (Name := ℕ) (U := UU) (Lvl := ℕ) (q := q) (fun b : Dev nD => (aSet b : Finset (Idx (aLoc c)))) aSet_disjoint hc f
  rw [e, bigSep_eq_bigSepL_of_eq [c, pr c 1, pr c 2, pr c 3] (univ_slots c) (nodup_slots c), bigSepL_cons_cons, bigSepL_cons_cons, bigSepL_cons_cons, bigSepL_singleton]
  rfl

theorem a_half (c s : Dev nD) (q : PosShare TreeShare) (f : S4x2x128x512.Idx → Elt F .bf16) :
    (aPts c s q f : sProp 𝕄) ⊣⊢ iprop(aPts c s q.left f ∗ aPts c s q.right f) := pointsTo_share (PosShare.mem_left_op_right q)

/-- A device's own slot: the share it keeps, and one for each copy. -/
theorem a_lend (c : Dev nD) (f : S4x2x128x512.Idx → Elt F .bf16) :
    (aPts c c fullShare f : sProp 𝕄) ⊣⊢ iprop(aPts c c fullShare.left f ∗ aPts c c (qs 0) f ∗ aPts c c (qs 1) f ∗ aPts c c (qs 2) f) := by
  constructor
  · iintro H
    ihave ⟨H1, H⟩ := (a_half c c fullShare f).1 $$ H
    ihave ⟨H2, H⟩ := (a_half c c fullShare.right f).1 $$ H
    ihave ⟨H3, H⟩ := (a_half c c fullShare.right.right f).1 $$ H
    isplitl [H1]; · iexact H1
    isplitl [H2]; · iexact H2
    isplitl [H3]; · iexact H3
    iexact H
  · iintro ⟨H1, H2, H3, H⟩
    ihave H : aPts c c fullShare.right.right f $$ [H3 H]
    · iapply (a_half c c fullShare.right.right f).2
      isplitl [H3]; · iexact H3
      iexact H
    ihave H : aPts c c fullShare.right f $$ [H2 H]
    · iapply (a_half c c fullShare.right f).2
      isplitl [H2]; · iexact H2
      iexact H
    iapply (a_half c c fullShare f).2
    isplitl [H1]; · iexact H1
    iexact H

theorem l_slots (c : Dev nD) (q : PosShare TreeShare) (f : S4x2x8x512.Idx → Elt F .f32) :
    (lLoc c ↦{q} f : sProp 𝕄) = iprop(lPts c c q f ∗ lPts c (pr c 1) q f ∗ lPts c (pr c 2) q f ∗ lPts c (pr c 3) q f) := by
  have hc : (Finset.univ : Finset (Dev nD)).biUnion (fun b => (lSet b : Finset (Idx (lLoc c)))) = Finset.univ :=
    Finset.eq_univ_iff_forall.mpr fun i => Finset.mem_biUnion.mpr ⟨⟨(i 0).val, (i 0).isLt⟩, Finset.mem_univ _, mem_lSet.mpr rfl⟩
  have e := Ring.pointsTo_blocks (ℓ := lLoc c) (Val := Elt F) (Ix := Unit) (Name := ℕ) (U := UU) (Lvl := ℕ) (q := q) (fun b : Dev nD => (lSet b : Finset (Idx (lLoc c)))) lSet_disjoint hc f
  rw [e, bigSep_eq_bigSepL_of_eq [c, pr c 1, pr c 2, pr c 3] (univ_slots c) (nodup_slots c), bigSepL_cons_cons, bigSepL_cons_cons, bigSepL_cons_cons, bigSepL_singleton]
  rfl

theorem l_half (c s : Dev nD) (q : PosShare TreeShare) (f : S4x2x8x512.Idx → Elt F .f32) :
    (lPts c s q f : sProp 𝕄) ⊣⊢ iprop(lPts c s q.left f ∗ lPts c s q.right f) := pointsTo_share (PosShare.mem_left_op_right q)

/-- A device's own slot: the share it keeps, and one for each copy. -/
theorem l_lend (c : Dev nD) (f : S4x2x8x512.Idx → Elt F .f32) :
    (lPts c c fullShare f : sProp 𝕄) ⊣⊢ iprop(lPts c c fullShare.left f ∗ lPts c c (qs 0) f ∗ lPts c c (qs 1) f ∗ lPts c c (qs 2) f) := by
  constructor
  · iintro H
    ihave ⟨H1, H⟩ := (l_half c c fullShare f).1 $$ H
    ihave ⟨H2, H⟩ := (l_half c c fullShare.right f).1 $$ H
    ihave ⟨H3, H⟩ := (l_half c c fullShare.right.right f).1 $$ H
    isplitl [H1]; · iexact H1
    isplitl [H2]; · iexact H2
    isplitl [H3]; · iexact H3
    iexact H
  · iintro ⟨H1, H2, H3, H⟩
    ihave H : lPts c c fullShare.right.right f $$ [H3 H]
    · iapply (l_half c c fullShare.right.right f).2
      isplitl [H3]; · iexact H3
      iexact H
    ihave H : lPts c c fullShare.right f $$ [H2 H]
    · iapply (l_half c c fullShare.right f).2
      isplitl [H2]; · iexact H2
      iexact H
    iapply (l_half c c fullShare f).2
    isplitl [H1]; · iexact H1
    iexact H

/-- Two shares of one slot hold the same. -/
theorem l_same (c s : Dev nD) (q₁ q₂ : PosShare TreeShare) (f g : S4x2x8x512.Idx → Elt F .f32) :
    iprop(lPts c s q₁ f ∗ lPts c s q₂ g) ⊢ (iprop(lPts c s q₁ f ∗ lPts c s q₂ f) : sProp 𝕄) := by
  have h : iprop(lPts c s q₁ f ∗ lPts c s q₂ g) ⊢ (⌜∀ i ∈ lSet s ∩ lSet s, f i = g i⌝ : sProp 𝕄) := pointsTo_agree.trans (BI.pure_mono fun h i hi => (h i hi).1)
  iintro ⟨H1, H2⟩
  ihave %e : ⌜∀ i ∈ lSet s ∩ lSet s, f i = g i⌝ $$ [H1 H2]
  · iapply h
    isplitl [H1]; · iexact H1
    iexact H2
  have e' : (lPts c s q₂ g : sProp 𝕄) = lPts c s q₂ f := pointsTo_congr fun i hi => (e i (Finset.mem_inter.mpr ⟨hi, hi⟩)).symm
  isplitl [H1]; · iexact H1
  iapply (Entails.of_eq e'); iexact H2

variable (C : Con F)

/-- The slots other devices filled, halved: a left half to read and a right half to set aside. -/
def asideA (c : Dev nD) : sProp 𝕄 := iprop(aPts c (pr c 1) fullShare.right C.aG ∗ aPts c (pr c 2) fullShare.right C.aG ∗ aPts c (pr c 3) fullShare.right C.aG)
def asideL (c : Dev nD) (g : S4x2x8x512.Idx → Elt F .f32) : sProp 𝕄 :=
  iprop(lPts c (pr c 1) fullShare.right g ∗ lPts c (pr c 2) fullShare.right g ∗ lPts c (pr c 3) fullShare.right g)

/-- Both buffers whole, at the share a device keeps. -/
theorem glueA (c : Dev nD) :
    iprop(aPts c c fullShare.left C.aG ∗ aPts c (pr c 1) fullShare C.aG ∗ aPts c (pr c 2) fullShare C.aG ∗ aPts c (pr c 3) fullShare C.aG)
      ⊢ (iprop((aLoc c ↦{fullShare.left} C.aG) ∗ asideA C c) : sProp 𝕄) := by
  rw [a_slots]; unfold asideA
  iintro ⟨H0, H1, H2, H3⟩
  ihave ⟨H1, G1⟩ := (a_half c (pr c 1) fullShare C.aG).1 $$ H1
  ihave ⟨H2, G2⟩ := (a_half c (pr c 2) fullShare C.aG).1 $$ H2
  ihave ⟨H3, G3⟩ := (a_half c (pr c 3) fullShare C.aG).1 $$ H3
  isplitr [G1 G2 G3]
  · isplitl [H0]; · iexact H0
    isplitl [H1]; · iexact H1
    isplitl [H2]; · iexact H2
    iexact H3
  · isplitl [G1]; · iexact G1
    isplitl [G2]; · iexact G2
    iexact G3

theorem glueL (c : Dev nD) :
    iprop((∃ g, ⌜Row0 C.lG g⌝ ∗ lPts c c fullShare.left g) ∗ (∃ g, ⌜Row0 C.lG g⌝ ∗ lPts c (pr c 1) fullShare g)
      ∗ (∃ g, ⌜Row0 C.lG g⌝ ∗ lPts c (pr c 2) fullShare g) ∗ (∃ g, ⌜Row0 C.lG g⌝ ∗ lPts c (pr c 3) fullShare g))
      ⊢ (iprop(∃ g, ⌜Row0 C.lG g⌝ ∗ (lLoc c ↦{fullShare.left} g) ∗ asideL c g) : sProp 𝕄) := by
  iintro ⟨⟨%g0, %h0, H0⟩, ⟨%g1, %h1, H1⟩, ⟨%g2, %h2, H2⟩, ⟨%g3, %h3, H3⟩⟩
  have n10 : pr c 1 ≠ c := by revert c; decide
  have n20 : pr c 2 ≠ c := by revert c; decide
  have n30 : pr c 3 ≠ c := by revert c; decide
  have n21 : pr c 2 ≠ pr c 1 := by revert c; decide
  have n31 : pr c 3 ≠ pr c 1 := by revert c; decide
  have n32 : pr c 3 ≠ pr c 2 := by revert c; decide
  obtain ⟨g, hg⟩ : ∃ g : S4x2x8x512.Idx → Elt F .f32, g = fun i => if i ∈ lSet c then g0 i else if i ∈ lSet (pr c 1) then g1 i else if i ∈ lSet (pr c 2) then g2 i else g3 i := ⟨_, rfl⟩
  have ne : ∀ (a b : Dev nD), a ≠ b → ∀ i ∈ lSet a, i ∉ lSet b := fun a b hab i hi hi' => hab (Fin.ext ((mem_lSet.mp hi).symm.trans (mem_lSet.mp hi')))
  have e0 : (lPts c c fullShare.left g0 : sProp 𝕄) = lPts c c fullShare.left g := pointsTo_congr fun i hi => by rw [hg]; dsimp only; rw [if_pos hi]
  have e1 : (lPts c (pr c 1) fullShare g1 : sProp 𝕄) = lPts c (pr c 1) fullShare g := pointsTo_congr fun i hi => by
    rw [hg]; dsimp only; rw [if_neg (ne _ _ n10 i hi), if_pos hi]
  have e2 : (lPts c (pr c 2) fullShare g2 : sProp 𝕄) = lPts c (pr c 2) fullShare g := pointsTo_congr fun i hi => by
    rw [hg]; dsimp only; rw [if_neg (ne _ _ n20 i hi), if_neg (ne _ _ n21 i hi), if_pos hi]
  have e3 : (lPts c (pr c 3) fullShare g3 : sProp 𝕄) = lPts c (pr c 3) fullShare g := pointsTo_congr fun i hi => by
    rw [hg]; dsimp only; rw [if_neg (ne _ _ n30 i hi), if_neg (ne _ _ n31 i hi), if_neg (ne _ _ n32 i hi)]
  ihave H0 := (Entails.of_eq e0) $$ H0
  ihave H1 := (Entails.of_eq e1) $$ H1
  ihave H2 := (Entails.of_eq e2) $$ H2
  ihave H3 := (Entails.of_eq e3) $$ H3
  ihave ⟨H1, G1⟩ := (l_half c (pr c 1) fullShare g).1 $$ H1
  ihave ⟨H2, G2⟩ := (l_half c (pr c 2) fullShare g).1 $$ H2
  ihave ⟨H3, G3⟩ := (l_half c (pr c 3) fullShare g).1 $$ H3
  iexists g
  isplitr
  · ipureintro
    intro i hi
    rw [hg]; dsimp only
    split
    · exact h0 i hi
    · split
      · exact h1 i hi
      · split
        · exact h2 i hi
        · exact h3 i hi
  rw [l_slots]; unfold asideL
  isplitr [G1 G2 G3]
  · isplitl [H0]; · iexact H0
    isplitl [H1]; · iexact H1
    isplitl [H2]; · iexact H2
    iexact H3
  · isplitl [G1]; · iexact G1
    isplitl [G2]; · iexact G2
    iexact G3

/-- Everything back: the buffers whole at the full share. -/
theorem backA (c : Dev nD) :
    iprop((aLoc c ↦{fullShare.left} C.aG) ∗ asideA C c ∗ sendPayA C c 0 ∗ sendPayA C c 1 ∗ sendPayA C c 2) ⊢ (iprop(∃ f, pts c cc0_scratch7 f) : sProp 𝕄) := by
  have e := a_slots (F := F) c fullShare C.aG
  rw [a_slots]; unfold asideA sendPayA
  iintro ⟨⟨H0, H1, H2, H3⟩, ⟨G1, G2, G3⟩, S0, S1, S2⟩
  iexists C.aG
  iapply (Entails.of_eq e.symm)
  isplitl [H0 S0 S1 S2]
  · iapply (a_lend c C.aG).2
    isplitl [H0]; · iexact H0
    isplitl [S0]; · iexact S0
    isplitl [S1]; · iexact S1
    iexact S2
  isplitl [H1 G1]
  · iapply (a_half c (pr c 1) fullShare C.aG).2
    isplitl [H1]; · iexact H1
    iexact G1
  isplitl [H2 G2]
  · iapply (a_half c (pr c 2) fullShare C.aG).2
    isplitl [H2]; · iexact H2
    iexact G2
  · iapply (a_half c (pr c 3) fullShare C.aG).2
    isplitl [H3]; · iexact H3
    iexact G3

theorem backL (c : Dev nD) (g : S4x2x8x512.Idx → Elt F .f32) :
    iprop((lLoc c ↦{fullShare.left} g) ∗ asideL c g ∗ sendPayL c 0 ∗ sendPayL c 1 ∗ sendPayL c 2) ⊢ (iprop(∃ f, pts c cc0_scratch8 f) : sProp 𝕄) := by
  have e := l_slots (F := F) c fullShare g
  rw [l_slots]; unfold asideL sendPayL
  iintro ⟨⟨H0, H1, H2, H3⟩, ⟨G1, G2, G3⟩, ⟨%f0, S0⟩, ⟨%f1, S1⟩, ⟨%f2, S2⟩⟩
  iexists g
  iapply (Entails.of_eq e.symm)
  ihave ⟨H0, S0⟩ := (l_same c c fullShare.left (qs 0) g f0) $$ [H0 S0]
  · isplitl [H0]; · iexact H0
    iexact S0
  ihave ⟨H0, S1⟩ := (l_same c c fullShare.left (qs 1) g f1) $$ [H0 S1]
  · isplitl [H0]; · iexact H0
    iexact S1
  ihave ⟨H0, S2⟩ := (l_same c c fullShare.left (qs 2) g f2) $$ [H0 S2]
  · isplitl [H0]; · iexact H0
    iexact S2
  isplitl [H0 S0 S1 S2]
  · iapply (l_lend c g).2
    isplitl [H0]; · iexact H0
    isplitl [S0]; · iexact S0
    isplitl [S1]; · iexact S1
    iexact S2
  isplitl [H1 G1]
  · iapply (l_half c (pr c 1) fullShare g).2
    isplitl [H1]; · iexact H1
    iexact G1
  isplitl [H2 G2]
  · iapply (l_half c (pr c 2) fullShare g).2
    isplitl [H2]; · iexact H2
    iexact G2
  · iapply (l_half c (pr c 3) fullShare g).2
    isplitl [H3]; · iexact H3
    iexact G3

end Cert.KernelIdeal.Run

end
-- ==== Proof.Ideal.Out.lean ====
/-
The exchange, fourth part: the sums over the devices, their quotient, and the product with the output matrix.
-/
module

public import proofs.«01_k».proof.Proof.Ideal.Shares

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What is read -/

/-- Half `r` of slot `s`, as a load shows it. -/
def hA (a : S4x2x128x512.Idx → Elt F .bf16) (s : Dev nD) (r : Fin 2) : Vec F S1x1x128x512 .bf16 := fun j => a (fun x => match x with
  | ⟨0, _⟩ => s
  | ⟨1, _⟩ => r
  | ⟨2, _⟩ => j 2
  | ⟨3, _⟩ => j 3)
/-- Row 0 of half `r` of slot `s` of the sums of weights. -/
def hL (l : S4x2x8x512.Idx → Elt F .f32) (s : Dev nD) (r : Fin 2) : Vec F S1x1x1x512 .f32 := fun j => l (fun x => match x with
  | ⟨0, _⟩ => s
  | ⟨1, _⟩ => r
  | ⟨2, _⟩ => (0 : Fin 8)
  | ⟨3, _⟩ => j 3)

abbrev ldA (o : Fin 4 → ℕ) (h : ∀ x, o x + S1x1x128x512.size x ≤ S4x2x128x512.size x) (a : S4x2x128x512.Idx → Elt F .bf16) : Vec F S1x1x128x512 .bf16 :=
  (Memref.whole cc0_scratch7).view.readAt (Elt F) (Rect.unit (s := S4x2x128x512) o S1x1x128x512.size h).toLoadRect a
abbrev ldL (o : Fin 4 → ℕ) (h : ∀ x, o x + S1x1x1x512.size x ≤ S4x2x8x512.size x) (a : S4x2x8x512.Idx → Elt F .f32) : Vec F S1x1x1x512 .f32 :=
  (Memref.whole cc0_scratch8).view.readAt (Elt F) (Rect.unit (s := S4x2x8x512) o S1x1x1x512.size h).toLoadRect a

theorem ldA_eq {s : Dev nD} {r : Fin 2} {o : Fin 4 → ℕ} (e : o = ![s.val, r.val, 0, 0]) (h : ∀ x, o x + S1x1x128x512.size x ≤ S4x2x128x512.size x)
    (a : S4x2x128x512.Idx → Elt F .bf16) : ldA o h a = hA a s r := by
  subst e
  funext j
  have h0 : (j 0).val < 1 := (j 0).isLt
  have h1 : (j 1).val < 1 := (j 1).isLt
  unfold hA
  show a _ = a _
  congr 1; funext x; apply Fin.ext
  fin_cases x
  · show s.val + 1 * (j 0).val = s.val; omega
  · show r.val + 1 * (j 1).val = r.val; omega
  · show 0 + 1 * (j 2).val = (j 2).val; omega
  · show 0 + 1 * (j 3).val = (j 3).val; omega
theorem ldL_eq {s : Dev nD} {r : Fin 2} {o : Fin 4 → ℕ} (e : o = ![s.val, r.val, 0, 0]) (h : ∀ x, o x + S1x1x1x512.size x ≤ S4x2x8x512.size x)
    (l g : S4x2x8x512.Idx → Elt F .f32) (hg : Row0 l g) : ldL o h g = hL l s r := by
  subst e
  funext j
  have h0 : (j 0).val < 1 := (j 0).isLt
  have h1 : (j 1).val < 1 := (j 1).isLt
  have h2 : (j 2).val < 1 := (j 2).isLt
  unfold hL
  rw [← hg _ rfl]
  show g _ = g _
  congr 1; funext x; apply Fin.ext
  fin_cases x
  · show s.val + 1 * (j 0).val = s.val; omega
  · show r.val + 1 * (j 1).val = r.val; omega
  · show 0 + 1 * (j 2).val = 0; omega
  · show 0 + 1 * (j 3).val = (j 3).val; omega

/-! ## The output -/

/-- An index of one head's block. -/
def ixO (p : Fin 128) (q : Fin 128) : S128x128.Idx := fun a => match a with
  | ⟨0, _⟩ => p
  | ⟨1, _⟩ => q

section Out
variable (C : Con F) (c : Dev nD)
def u26 : FVec F S128x512 .f32 := k0_pay26 (k0_pay23 (hA C.aG (pr c 0) 0)) (k0_pay24 (hL C.lG (pr c 0) 0)) (k0_pay25 (hA C.aG (pr c 1) 0)) (hL C.lG (pr c 1) 0) (hA C.aG (pr c 2) 0) (hL C.lG (pr c 2) 0) (hA C.aG (pr c 3) 0) (hL C.lG (pr c 3) 0)
def u27 : FVec F S128x128 .bf16 := k0_pay27 (k0_pay23 (hA C.aG (pr c 0) 0)) (k0_pay24 (hL C.lG (pr c 0) 0)) (k0_pay25 (hA C.aG (pr c 1) 0)) (hL C.lG (pr c 1) 0) (hA C.aG (pr c 2) 0) (hL C.lG (pr c 2) 0) (hA C.aG (pr c 3) 0) (hL C.lG (pr c 3) 0)
def u28 : FVec F S128x128 .bf16 := k0_pay28 (k0_pay23 (hA C.aG (pr c 0) 0)) (k0_pay24 (hL C.lG (pr c 0) 0)) (k0_pay25 (hA C.aG (pr c 1) 0)) (hL C.lG (pr c 1) 0) (hA C.aG (pr c 2) 0) (hL C.lG (pr c 2) 0) (hA C.aG (pr c 3) 0) (hL C.lG (pr c 3) 0)
def u34 : FVec F S128x512 .f32 := k0_pay34 (k0_pay32 (hL C.lG (pr c 0) 1)) (k0_pay33 (hA C.aG (pr c 0) 1) (hA C.aG (pr c 1) 1)) (hL C.lG (pr c 1) 1) (hA C.aG (pr c 2) 1) (hL C.lG (pr c 2) 1) (hA C.aG (pr c 3) 1) (hL C.lG (pr c 3) 1)
def u35 : FVec F S128x128 .bf16 := k0_pay35 (k0_pay32 (hL C.lG (pr c 0) 1)) (k0_pay33 (hA C.aG (pr c 0) 1) (hA C.aG (pr c 1) 1)) (hL C.lG (pr c 1) 1) (hA C.aG (pr c 2) 1) (hL C.lG (pr c 2) 1) (hA C.aG (pr c 3) 1) (hL C.lG (pr c 3) 1)
def u36 : FVec F S128x128 .bf16 := k0_pay36 (k0_pay32 (hL C.lG (pr c 0) 1)) (k0_pay33 (hA C.aG (pr c 0) 1) (hA C.aG (pr c 1) 1)) (hL C.lG (pr c 1) 1) (hA C.aG (pr c 2) 1) (hL C.lG (pr c 2) 1) (hA C.aG (pr c 3) 1) (hL C.lG (pr c 3) 1)
def u37 : FVec F S128x128 .f32 := k0_pay37 (k0_pay32 (hL C.lG (pr c 0) 1)) (k0_pay33 (hA C.aG (pr c 0) 1) (hA C.aG (pr c 1) 1)) (hL C.lG (pr c 1) 1) (hA C.aG (pr c 2) 1) (hL C.lG (pr c 2) 1) (hA C.aG (pr c 3) 1) (hL C.lG (pr c 3) 1)

/-- The block of 128 rows that head `b` fills. -/
def headC (b : ℕ) : Vec F S128x128 .bf16 :=
  if b = 0 then u27 C c else
  if b = 1 then k0_pay29 (u28 C c) else
  if b = 2 then k0_pay30 (u26 C c) else
  if b = 3 then k0_pay31 (u26 C c) else
  if b = 4 then u35 C c else
  if b = 5 then u36 C c else
  if b = 6 then k0_pay38 (u37 C c) else
  k0_pay39 (u34 C c)
/-- The heads' outputs, one below the other. -/
def otsC : cc0_scratch3.ty.Contents (Elt F) := fun j => headC C c ((j 0).val / 128) (ixO ⟨(j 0).val % 128, Nat.mod_lt _ (by decide)⟩ (j 1))
def ldWo (Wo : cc0_stg2_0.ty.Contents (Elt F)) : Vec F S1024x1024 .f32 :=
  (Memref.whole cc0_stg2_0).view.readAt (Elt F) (Rect.unit (s := S1024x1024) ![0, 0] S1024x1024.size inb_S1024x1024_S1024x1024_0_0).toLoadRect Wo
/-- What the device leaves in its output window. -/
def outC (Wo : cc0_stg2_0.ty.Contents (Elt F)) : cc0_stg3_0.ty.Contents (Elt F) := k0_pay40 (k0_pay22 (ldWo Wo)) (otsC C c)
end Out

theorem updO {α : Type} (x : S1024x128.Idx → α) (w : S128x128.Idx → α) (b : ℕ) (h : S1024x128.Slices ![128 * b, 0] S128x128) (j : S1024x128.Idx) :
    updateSlice x w ![128 * b, 0] h j = if (j 0).val / 128 = b then w (ixO ⟨(j 0).val % 128, Nat.mod_lt _ (by decide)⟩ (j 1)) else x j := by
  have h1 : (j 1).val < 128 := (j 1).isLt
  unfold updateSlice
  by_cases hc : (j 0).val / 128 = b
  · rw [if_pos hc, dif_pos]
    · congr 1; funext a; apply Fin.ext
      fin_cases a
      · show (j 0).val - 128 * b = (j 0).val % 128; omega
      · rfl
    · intro a
      fin_cases a
      · show 128 * b ≤ (j 0).val ∧ (j 0).val < 128 * b + 128; omega
      · show 0 ≤ (j 1).val ∧ (j 1).val < 0 + 128; omega
  · rw [if_neg hc, dif_neg]
    intro h
    have a0 : 128 * b ≤ (j 0).val ∧ (j 0).val < 128 * b + 128 := h 0
    omega
theorem wrO (x : cc0_scratch3.ty.Contents (Elt F)) (w : Vec F S128x128 .bf16) (b : ℕ) {off : Fin 2 → ℕ} (e : off = ![128 * b, 0])
    (h : ∀ a, off a + S128x128.size a ≤ S1024x128.size a) (j : S1024x128.Idx) :
    ((Memref.whole cc0_scratch3).view.slice (Rect.unit (s := S1024x128) off S128x128.size h)).write (Elt F) x w Finset.univ j
      = if (j 0).val / 128 = b then w (ixO ⟨(j 0).val % 128, Nat.mod_lt _ (by decide)⟩ (j 1)) else x j := by
  subst e
  exact (congrFun (View.write_whole_slice_unit cc0_scratch3 ![128 * b, 0] S128x128.size h x w) j).trans (updO x w b _ j)

/-- A load of the whole buffer reads it. -/
theorem ots_read (f : cc0_scratch3.ty.Contents (Elt F)) :
    (Memref.whole cc0_scratch3).view.readAt (Elt F) (Rect.unit (s := S1024x128) ![0, 0] S1024x128.size inb_S1024x128_S1024x128_0_0).toLoadRect f = f := by
  funext j
  show f _ = f _
  congr 1; funext x; apply Fin.ext
  fin_cases x
  · show 0 + 1 * (j 0).val = (j 0).val; omega
  · show 0 + 1 * (j 1).val = (j 1).val; omega
theorem out_stored (A w : cc0_stg3_0.ty.Contents (Elt F)) (h : ∀ a, (![0, 0] : Fin 2 → ℕ) a + S128x1024.size a ≤ S128x1024.size a) :
    (Memref.whole cc0_stg3_0).view.writes (Elt F) A [⟨Rect.unit (s := S128x1024) ![0, 0] S128x1024.size h, w⟩] = w :=
  (View.write_whole_slice_unit cc0_stg3_0 ![0, 0] S128x1024.size h A w).trans (updateSlice_whole A w _ (by decide))

/-- The heads' buffer after each part. -/
def o9 (C : Con F) (c : Dev nD) (f : cc0_scratch3.ty.Contents (Elt F)) : cc0_scratch3.ty.Contents (Elt F) :=
  (Memref.whole cc0_scratch3).view.writes (Elt F) f [⟨Rect.unit (s := S1024x128) ![0, 0] S128x128.size inb_S1024x128_S128x128_0_0, u27 C c⟩]
def o10 (C : Con F) (c : Dev nD) (f : cc0_scratch3.ty.Contents (Elt F)) : cc0_scratch3.ty.Contents (Elt F) :=
  (Memref.whole cc0_scratch3).view.writes (Elt F) f [⟨Rect.unit (s := S1024x128) ![384, 0] S128x128.size inb_S1024x128_S128x128_384_0, k0_pay31 (u26 C c)⟩, ⟨Rect.unit (s := S1024x128) ![256, 0] S128x128.size inb_S1024x128_S128x128_256_0, k0_pay30 (u26 C c)⟩, ⟨Rect.unit (s := S1024x128) ![128, 0] S128x128.size inb_S1024x128_S128x128_128_0, k0_pay29 (u28 C c)⟩]
def o11 (C : Con F) (c : Dev nD) (f : cc0_scratch3.ty.Contents (Elt F)) : cc0_scratch3.ty.Contents (Elt F) :=
  (Memref.whole cc0_scratch3).view.writes (Elt F) f [⟨Rect.unit (s := S1024x128) ![640, 0] S128x128.size inb_S1024x128_S128x128_640_0, u36 C c⟩, ⟨Rect.unit (s := S1024x128) ![512, 0] S128x128.size inb_S1024x128_S128x128_512_0, u35 C c⟩]
def o12 (C : Con F) (c : Dev nD) (f : cc0_scratch3.ty.Contents (Elt F)) : cc0_scratch3.ty.Contents (Elt F) :=
  (Memref.whole cc0_scratch3).view.writes (Elt F) f [⟨Rect.unit (s := S1024x128) ![896, 0] S128x128.size inb_S1024x128_S128x128_896_0, k0_pay39 (u34 C c)⟩, ⟨Rect.unit (s := S1024x128) ![768, 0] S128x128.size inb_S1024x128_S128x128_768_0, k0_pay38 (u37 C c)⟩]

theorem ots_eq (C : Con F) (c : Dev nD) (f : cc0_scratch3.ty.Contents (Elt F)) : o12 C c (o11 C c (o10 C c (o9 C c f))) = otsC C c := by
  funext j
  have h0 : (j 0).val < 1024 := (j 0).isLt
  unfold o12 o11 o10 o9 otsC
  simp only [View.writes]
  refine (wrO _ _ 7 (by decide) _ j).trans ?_
  by_cases h7 : (j 0).val / 128 = 7
  · rw [if_pos h7]; unfold headC; rw [h7]; rfl
  rw [if_neg h7]
  refine (wrO _ _ 6 (by decide) _ j).trans ?_
  by_cases h6 : (j 0).val / 128 = 6
  · rw [if_pos h6]; unfold headC; rw [h6]; rfl
  rw [if_neg h6]
  refine (wrO _ _ 5 (by decide) _ j).trans ?_
  by_cases h5 : (j 0).val / 128 = 5
  · rw [if_pos h5]; unfold headC; rw [h5]; rfl
  rw [if_neg h5]
  refine (wrO _ _ 4 (by decide) _ j).trans ?_
  by_cases h4 : (j 0).val / 128 = 4
  · rw [if_pos h4]; unfold headC; rw [h4]; rfl
  rw [if_neg h4]
  refine (wrO _ _ 3 (by decide) _ j).trans ?_
  by_cases h3 : (j 0).val / 128 = 3
  · rw [if_pos h3]; unfold headC; rw [h3]; rfl
  rw [if_neg h3]
  refine (wrO _ _ 2 (by decide) _ j).trans ?_
  by_cases h2 : (j 0).val / 128 = 2
  · rw [if_pos h2]; unfold headC; rw [h2]; rfl
  rw [if_neg h2]
  refine (wrO _ _ 1 (by decide) _ j).trans ?_
  by_cases h1 : (j 0).val / 128 = 1
  · rw [if_pos h1]; unfold headC; rw [h1]; rfl
  rw [if_neg h1]
  refine (wrO _ _ 0 (by decide) _ j).trans ?_
  by_cases h0 : (j 0).val / 128 = 0
  · rw [if_pos h0]; unfold headC; rw [h0]; rfl
  rw [if_neg h0]
  omega

end Cert.KernelIdeal.Run

end
-- ==== Proof.Ideal.PartD.lean ====
/-
The exchange, fifth part: reading what has arrived, the output, and the waits for this device's own copies.
-/
module

public import proofs.«01_k».proof.Proof.Ideal.Out

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (C : Con F) (K : Dev nD × Fin 15 → ℕ)

/-- What the wait for one of this device's own copies takes; what it gives. -/
def bkA (c : Dev nD) (d : Fin 3) : sProp 𝕄 := iprop(cred (tallyAt (kcell (c, sA d)) () NA) ∗ atPos ER (kcell (c, sA d)) 0 ∅ 0)
def bkL (c : Dev nD) (d : Fin 3) : sProp 𝕄 := iprop(cred (tallyAt (kcell (c, sL d)) () NL) ∗ atPos ER (kcell (c, sL d)) 0 ∅ 0)
def doneA (c : Dev nD) (d : Fin 3) : sProp 𝕄 := iprop(semVal (kcell (c, sA d)) 0 ∗ sendPayA C c d)
def doneL (c : Dev nD) (d : Fin 3) : sProp 𝕄 := iprop(semVal (kcell (c, sL d)) 0 ∗ sendPayL c d)

theorem back_acc (c : Dev nD) (d : Fin 3) {sem : DmaSem sig} (hs : (SemLoc.dma sem : SemLoc sig) = csem (sA d))
    {src dst : Memref sig .tc .vmem S2x128x512 .bf16} (hd : dst = aM c) {h₁ : src.view.WordExact} {h₂ : dst.view.WordExact}
    {α : Type} {Q : α → sProp 𝕄} {k : PUnit → Prog (TpuEff nD τ sig (Elt F) Λ₀ .tc) α} (W : Waits sig Unit) :
    iprop(records C K ∗ bkA c d ∗ owes (c : Thread nD τ) 0 W)
      ⊢ iprop(((∃ W', doneA C c d ∗ owes (c : Thread nD τ) 0 W') -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst h₁ h₂) k) Q) := by
  subst hd
  unfold bkA doneA
  iintro ⟨#HR, ⟨Hc, Hp⟩, HO⟩ Hk
  have hw : ∀ J : PUnit → sProp 𝕄, wpE (defs₀ (F := F)) 𝒱₀ (c : Thread nD τ) none Set.univ (.waitDma2 sem src (aM c) h₁ h₂) J
      = waitSpec (c : Thread nD τ) Set.univ (csem (sA d)) (amtK (sA d)) J := fun J => by
    rw [amtK_sA, ← hs]; exact wpE_waitDma2_eq 𝒱₀ (c : Thread nD τ) none Set.univ J
  iapply (wait_one C K c (sA d) (dutK_sA c d) hw W) $$ [Hc Hp HO]
  · isplitr; · iexact HR
    isplitl [Hc]; · rw [amtK_sA]; iexact Hc
    isplitl [HO]; · iexact HO
    iexact Hp
  iintro ⟨HO, Hz, Hpay⟩
  ihave Hpay := (Entails.of_eq (payK_sA C c c d)) $$ Hpay
  iapply Hk
  iexists _
  isplitr [HO]
  · isplitl [Hz]; · iexact Hz
    iexact Hpay
  · iexact HO

theorem back_l (c : Dev nD) (d : Fin 3) {sem : DmaSem sig} (hs : (SemLoc.dma sem : SemLoc sig) = csem (sL d))
    {src dst : Memref sig .tc .vmem S2x8x512 .f32} (hd : dst = lM c) {h₁ : src.view.WordExact} {h₂ : dst.view.WordExact}
    {α : Type} {Q : α → sProp 𝕄} {k : PUnit → Prog (TpuEff nD τ sig (Elt F) Λ₀ .tc) α} (W : Waits sig Unit) :
    iprop(records C K ∗ bkL c d ∗ owes (c : Thread nD τ) 0 W)
      ⊢ iprop(((∃ W', doneL c d ∗ owes (c : Thread nD τ) 0 W') -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst h₁ h₂) k) Q) := by
  subst hd
  unfold bkL doneL
  iintro ⟨#HR, ⟨Hc, Hp⟩, HO⟩ Hk
  have hw : ∀ J : PUnit → sProp 𝕄, wpE (defs₀ (F := F)) 𝒱₀ (c : Thread nD τ) none Set.univ (.waitDma2 sem src (lM c) h₁ h₂) J
      = waitSpec (c : Thread nD τ) Set.univ (csem (sL d)) (amtK (sL d)) J := fun J => by
    rw [amtK_sL, ← hs]; exact wpE_waitDma2_eq 𝒱₀ (c : Thread nD τ) none Set.univ J
  iapply (wait_one C K c (sL d) (dutK_sL c d) hw W) $$ [Hc Hp HO]
  · isplitr; · iexact HR
    isplitl [Hc]; · rw [amtK_sL]; iexact Hc
    isplitl [HO]; · iexact HO
    iexact Hp
  iintro ⟨HO, Hz, Hpay⟩
  ihave Hpay := (Entails.of_eq (payK_sL C c c d)) $$ Hpay
  iapply Hk
  iexists _
  isplitr [HO]
  · isplitl [Hz]; · iexact Hz
    iexact Hpay
  · iexact HO

set_option maxHeartbeats 1000000 in
theorem part8 (i : grid0.Coords) (c : Dev nD) (v2 : BitVec 32) (h4 : k0_cond4 i = 1#1) (Wo : cc0_stg2_0.ty.Contents (Elt F)) (W : Waits sig Unit)
    (Kt : (Σ' (v206 : FVec F S1024x1024 .bf16) (v215 : FVec F S128x512 .f32) (v219 : FVec F S1x512 .f32) (v221 : BitVec 32), FVec F S128x512 .bf16) → sProp 𝕄) :
    iprop(records C K ∗ inA c 2 ∗ inL c 2 ∗ gotA C c 0 ∗ gotL C c 0 ∗ gotA C c 1 ∗ gotL C c 1
      ∗ aPts c c fullShare.left C.aG ∗ (∃ g, ⌜Row0 C.lG g⌝ ∗ lPts c c fullShare.left g) ∗ pts c cc0_stg2_0 Wo ∗ owes (c : Thread nD τ) 0 W
      ∗ (∀ v221 W' g, (⌜Row0 C.lG g⌝ ∗ ((Memref.whole cc0_scratch7).view.loc (c : Thread nD τ) ↦{fullShare.left} C.aG) ∗ ((Memref.whole cc0_scratch8).view.loc (c : Thread nD τ) ↦{fullShare.left} g) ∗ asideA C c ∗ asideL c g ∗ pts c cc0_stg2_0 Wo
          ∗ (semVal (kcell (c, rA (pr c 1))) 0 ∗ semVal (kcell (c, rA (pr c 2))) 0 ∗ semVal (kcell (c, rA (pr c 3))) 0)
          ∗ (semVal (kcell (c, rL (pr c 1))) 0 ∗ semVal (kcell (c, rL (pr c 2))) 0 ∗ semVal (kcell (c, rL (pr c 3))) 0)
          ∗ owes (c : Thread nD τ) 0 W')
        -∗ Kt ⟨k0_pay22 (ldWo Wo), k0_pay23 (hA C.aG (pr c 0) 0), k0_pay24 (hL C.lG (pr c 0) 0), v221, k0_pay25 (hA C.aG (pr c 1) 0)⟩))
      ⊢ wp frame (wpE (defs₀ (F := F)) 𝒱₀ (c : Thread nD τ) none) Set.univ (P8 i c v2 h4) Kt := by
  unfold P8 ldWo
  rw [k0_part8_eq_skeleton]; unfold k0_part8_skel
  simp only [Prog.lift, Prog.bind_op, Prog.bind_ret, Prog.pure_eq_ret]
  iintro ⟨#HR, H1, H2, Ga0, Gl0, Ga1, Gl1, Oa, Ol, HW, HO, Hk⟩
  iapply (get_acc C K c 2 (rA_of (k0_off17_eq c 2) _) (aM_of (k0_off18_eq c 2) _) W) $$ [H1 HO]
  · isplitr; · iexact HR
    isplitl [H1]; · iexact H1
    iexact HO
  iintro ⟨%W1, H1, HO⟩
  iapply (get_l C K c 2 (rL_of (k0_off19_eq c 2) _) (lM_of (k0_off20_eq c 2) _) W1) $$ [H2 HO]
  · isplitr; · iexact HR
    isplitl [H2]; · iexact H2
    iexact HO
  iintro ⟨%W2, H2, HO⟩
  unfold gotA gotL
  icases Ga0 with ⟨za0, Ga0⟩; icases Ga1 with ⟨za1, Ga1⟩; icases H1 with ⟨za2, Ga2⟩
  icases Gl0 with ⟨zl0, Gl0⟩; icases Gl1 with ⟨zl1, Gl1⟩; icases H2 with ⟨zl2, Gl2⟩
  ihave ⟨Ha, Sa⟩ : iprop(((Memref.whole cc0_scratch7).view.loc (c : Thread nD τ) ↦{fullShare.left} C.aG) ∗ asideA C c) $$ [Oa Ga0 Ga1 Ga2]
  · iapply (glueA C c)
    isplitl [Oa]; · iexact Oa
    isplitl [Ga0]; · iexact Ga0
    isplitl [Ga1]; · iexact Ga1
    iexact Ga2
  ihave ⟨%g, %hg, Hl, Sl⟩ : iprop(∃ g, ⌜Row0 C.lG g⌝ ∗ ((Memref.whole cc0_scratch8).view.loc (c : Thread nD τ) ↦{fullShare.left} g) ∗ asideL c g) $$ [Ol Gl0 Gl1 Gl2]
  · iapply (glueL C c)
    isplitl [Ol]; · iexact Ol
    isplitl [Gl0]; · iexact Gl0
    isplitl [Gl1]; · iexact Gl1
    iexact Gl2
  have ea0 : ldA (k0_off21 c 0#32) (k0_off21_inb i c h4 0) C.aG = hA C.aG (pr c 0) 0 := ldA_eq (k0_off21_eq c 0) _ _
  have ea1 : ldA (k0_off21 c 1#32) (k0_off21_inb i c h4 1) C.aG = hA C.aG (pr c 1) 0 := ldA_eq (k0_off21_eq c 1) _ _
  have el0 : ldL (k0_off22 c 0#32) (k0_off22_inb i c h4 0) g = hL C.lG (pr c 0) 0 := ldL_eq (k0_off22_eq c 0) _ C.lG g hg
  sl_exec
  rw [wp_ret]; imodintro
  iapply Hk
  isplitr; · (ipureintro; exact hg)
  isplitl [Ha]; · iexact Ha
  isplitl [Hl]; · iexact Hl
  isplitl [Sa]; · iexact Sa
  isplitl [Sl]; · iexact Sl
  isplitl [HW]; · iexact HW
  isplitl [za0 za1 za2]
  · isplitl [za0]; · iexact za0
    isplitl [za1]; · iexact za1
    iexact za2
  isplitl [zl0 zl1 zl2]
  · isplitl [zl0]; · iexact zl0
    isplitl [zl1]; · iexact zl1
    iexact zl2
  iexact HO

set_option maxHeartbeats 1000000 in
theorem part9 (i : grid0.Coords) (c : Dev nD) (v2 : BitVec 32) (h4 : k0_cond4 i = 1#1) (v221 : BitVec 32) (g : S4x2x8x512.Idx → Elt F .f32) (hg : Row0 C.lG g) (f : cc0_scratch3.ty.Contents (Elt F))
    (Kt : (Σ' (v254 : FVec F S128x512 .f32), FVec F S128x128 .bf16) → sProp 𝕄) :
    iprop(((Memref.whole cc0_scratch7).view.loc (c : Thread nD τ) ↦{fullShare.left} C.aG) ∗ ((Memref.whole cc0_scratch8).view.loc (c : Thread nD τ) ↦{fullShare.left} g) ∗ pts c cc0_scratch3 f
      ∗ ((((Memref.whole cc0_scratch7).view.loc (c : Thread nD τ) ↦{fullShare.left} C.aG) ∗ ((Memref.whole cc0_scratch8).view.loc (c : Thread nD τ) ↦{fullShare.left} g) ∗ pts c cc0_scratch3 (o9 C c f)) -∗ Kt ⟨u26 C c, u28 C c⟩))
      ⊢ wp frame (wpE (defs₀ (F := F)) 𝒱₀ (c : Thread nD τ) none) Set.univ (P9 i c v2 h4 (k0_pay23 (hA C.aG (pr c 0) 0)) (k0_pay24 (hL C.lG (pr c 0) 0)) v221 (k0_pay25 (hA C.aG (pr c 1) 0))) Kt := by
  unfold P9
  rw [k0_part9_eq_skeleton]; unfold k0_part9_skel
  have el1 : ldL (k0_off22 c 1#32) (k0_off22_inb i c h4 1) g = hL C.lG (pr c 1) 0 := ldL_eq (k0_off22_eq c 1) _ C.lG g hg
  have ea2 : ldA (k0_off21 c 2#32) (k0_off21_inb i c h4 2) C.aG = hA C.aG (pr c 2) 0 := ldA_eq (k0_off21_eq c 2) _ _
  have el2 : ldL (k0_off22 c 2#32) (k0_off22_inb i c h4 2) g = hL C.lG (pr c 2) 0 := ldL_eq (k0_off22_eq c 2) _ C.lG g hg
  have ea3 : ldA (k0_off21 c 3#32) (k0_off21_inb i c h4 3) C.aG = hA C.aG (pr c 3) 0 := ldA_eq (k0_off21_eq c 3) _ _
  have el3 : ldL (k0_off22 c 3#32) (k0_off22_inb i c h4 3) g = hL C.lG (pr c 3) 0 := ldL_eq (k0_off22_eq c 3) _ C.lG g hg
  unfold o9 u26 u27 u28
  iintro ⟨Ha, Hl, Ho, Hk⟩
  sl_exec
  rw [wp_ret]; imodintro
  iapply Hk
  isplitl [Ha]; · iexact Ha
  isplitl [Hl]; · iexact Hl
  iexact Ho

set_option maxHeartbeats 1000000 in
theorem part10 (i : grid0.Coords) (c : Dev nD) (v2 : BitVec 32) (h4 : k0_cond4 i = 1#1) (g : S4x2x8x512.Idx → Elt F .f32) (hg : Row0 C.lG g) (f : cc0_scratch3.ty.Contents (Elt F))
    (Kt : (Σ' (v287 : FVec F S1x512 .f32), FVec F S128x512 .f32) → sProp 𝕄) :
    iprop(((Memref.whole cc0_scratch7).view.loc (c : Thread nD τ) ↦{fullShare.left} C.aG) ∗ ((Memref.whole cc0_scratch8).view.loc (c : Thread nD τ) ↦{fullShare.left} g) ∗ pts c cc0_scratch3 f
      ∗ ((((Memref.whole cc0_scratch7).view.loc (c : Thread nD τ) ↦{fullShare.left} C.aG) ∗ ((Memref.whole cc0_scratch8).view.loc (c : Thread nD τ) ↦{fullShare.left} g) ∗ pts c cc0_scratch3 (o10 C c f)) -∗ Kt ⟨k0_pay32 (hL C.lG (pr c 0) 1), k0_pay33 (hA C.aG (pr c 0) 1) (hA C.aG (pr c 1) 1)⟩))
      ⊢ wp frame (wpE (defs₀ (F := F)) 𝒱₀ (c : Thread nD τ) none) Set.univ (P10 i c v2 h4 (u26 C c) (u28 C c)) Kt := by
  unfold P10
  rw [k0_part10_eq_skeleton]; unfold k0_part10_skel
  have ea0 : ldA (k0_off23 c 0#32) (k0_off23_inb i c h4 0) C.aG = hA C.aG (pr c 0) 1 := ldA_eq (k0_off23_eq c 0) _ _
  have el0 : ldL (k0_off24 c 0#32) (k0_off24_inb i c h4 0) g = hL C.lG (pr c 0) 1 := ldL_eq (k0_off24_eq c 0) _ C.lG g hg
  have ea1 : ldA (k0_off23 c 1#32) (k0_off23_inb i c h4 1) C.aG = hA C.aG (pr c 1) 1 := ldA_eq (k0_off23_eq c 1) _ _
  unfold o10
  iintro ⟨Ha, Hl, Ho, Hk⟩
  sl_exec
  rw [wp_ret]; imodintro
  iapply Hk
  isplitl [Ha]; · iexact Ha
  isplitl [Hl]; · iexact Hl
  iexact Ho

set_option maxHeartbeats 1000000 in
theorem part11 (i : grid0.Coords) (c : Dev nD) (v2 : BitVec 32) (h4 : k0_cond4 i = 1#1) (g : S4x2x8x512.Idx → Elt F .f32) (hg : Row0 C.lG g) (f : cc0_scratch3.ty.Contents (Elt F))
    (Kt : (Σ' (v322 : FVec F S128x512 .f32), FVec F S128x128 .f32) → sProp 𝕄) :
    iprop(((Memref.whole cc0_scratch7).view.loc (c : Thread nD τ) ↦{fullShare.left} C.aG) ∗ ((Memref.whole cc0_scratch8).view.loc (c : Thread nD τ) ↦{fullShare.left} g) ∗ pts c cc0_scratch3 f
      ∗ ((((Memref.whole cc0_scratch7).view.loc (c : Thread nD τ) ↦{fullShare.left} C.aG) ∗ ((Memref.whole cc0_scratch8).view.loc (c : Thread nD τ) ↦{fullShare.left} g) ∗ pts c cc0_scratch3 (o11 C c f)) -∗ Kt ⟨u34 C c, u37 C c⟩))
      ⊢ wp frame (wpE (defs₀ (F := F)) 𝒱₀ (c : Thread nD τ) none) Set.univ (P11 i c v2 h4 (k0_pay32 (hL C.lG (pr c 0) 1)) (k0_pay33 (hA C.aG (pr c 0) 1) (hA C.aG (pr c 1) 1))) Kt := by
  unfold P11
  rw [k0_part11_eq_skeleton]; unfold k0_part11_skel
  have el1 : ldL (k0_off24 c 1#32) (k0_off24_inb i c h4 1) g = hL C.lG (pr c 1) 1 := ldL_eq (k0_off24_eq c 1) _ C.lG g hg
  have ea2 : ldA (k0_off23 c 2#32) (k0_off23_inb i c h4 2) C.aG = hA C.aG (pr c 2) 1 := ldA_eq (k0_off23_eq c 2) _ _
  have el2 : ldL (k0_off24 c 2#32) (k0_off24_inb i c h4 2) g = hL C.lG (pr c 2) 1 := ldL_eq (k0_off24_eq c 2) _ C.lG g hg
  have ea3 : ldA (k0_off23 c 3#32) (k0_off23_inb i c h4 3) C.aG = hA C.aG (pr c 3) 1 := ldA_eq (k0_off23_eq c 3) _ _
  have el3 : ldL (k0_off24 c 3#32) (k0_off24_inb i c h4 3) g = hL C.lG (pr c 3) 1 := ldL_eq (k0_off24_eq c 3) _ C.lG g hg
  unfold o11 u34 u35 u36 u37
  iintro ⟨Ha, Hl, Ho, Hk⟩
  sl_exec
  rw [wp_ret]; imodintro
  iapply Hk
  isplitl [Ha]; · iexact Ha
  isplitl [Hl]; · iexact Hl
  iexact Ho

set_option maxHeartbeats 1000000 in
theorem part12 (i : grid0.Coords) (c : Dev nD) (h4 : k0_cond4 i = 1#1) (Wo : cc0_stg2_0.ty.Contents (Elt F)) (f f' : cc0_scratch3.ty.Contents (Elt F))
    (hf : o12 C c f' = otsC C c) (D : cc0_stg3_0.ty.Contents (Elt F)) (W : Waits sig Unit) (Kt : PUnit → sProp 𝕄) :
    iprop(records C K ∗ bkA c 0 ∗ bkL c 0 ∗ pts c cc0_scratch3 f' ∗ pts c cc0_stg3_0 D ∗ owes (c : Thread nD τ) 0 W
      ∗ (∀ r W', (doneA C c 0 ∗ doneL c 0 ∗ pts c cc0_scratch3 (otsC C c) ∗ pts c cc0_stg3_0 (outC C c Wo) ∗ owes (c : Thread nD τ) 0 W') -∗ Kt r))
      ⊢ wp frame (wpE (defs₀ (F := F)) 𝒱₀ (c : Thread nD τ) none) Set.univ (P12 i c h4 (k0_pay22 (ldWo Wo)) (u34 C c) (u37 C c)) Kt := by
  unfold P12
  rw [k0_part12_eq_skeleton]; unfold k0_part12_skel
  have er := (ots_read (o12 C c f')).trans hf
  unfold o12 at er
  iintro ⟨#HR, H1, H2, Ho, HD, HO, Hk⟩
  sl_exec
  ihave HD := (Entails.of_eq (congrArg (pts c cc0_stg3_0) (out_stored D (outC C c Wo) inb_S128x1024_S128x1024_0_0))) $$ [HD]
  · unfold outC ldWo
    iexact HD
  ihave Ho := (Entails.of_eq (congrArg (pts c cc0_scratch3) hf)) $$ [Ho]
  · unfold o12; iexact Ho
  simp only [Prog.lift, Prog.bind_op, Prog.bind_ret, Prog.pure_eq_ret]
  iapply (back_acc C K c 0 rfl (aM_of (k0_off14_eq c) _) W) $$ [H1 HO]
  · isplitr; · iexact HR
    isplitl [H1]; · iexact H1
    iexact HO
  iintro ⟨%W1, H1, HO⟩
  iapply (back_l C K c 0 rfl (lM_of (k0_off16_eq c) _) W1) $$ [H2 HO]
  · isplitr; · iexact HR
    isplitl [H2]; · iexact H2
    iexact HO
  iintro ⟨%W2, H2, HO⟩
  rw [wp_ret]; imodintro
  iapply Hk
  isplitl [H1]; · iexact H1
  isplitl [H2]; · iexact H2
  isplitl [Ho]; · iexact Ho
  isplitl [HD]; · iexact HD
  iexact HO

theorem part13 (i : grid0.Coords) (c : Dev nD) (h4 : k0_cond4 i = 1#1) (W : Waits sig Unit) (Kt : PUnit → sProp 𝕄) :
    iprop(records C K ∗ bkA c 1 ∗ bkL c 1 ∗ bkA c 2 ∗ owes (c : Thread nD τ) 0 W
      ∗ (∀ r W', (doneA C c 1 ∗ doneL c 1 ∗ doneA C c 2 ∗ owes (c : Thread nD τ) 0 W') -∗ Kt r))
      ⊢ wp frame (wpE (defs₀ (F := F)) 𝒱₀ (c : Thread nD τ) none) Set.univ (P13 i c h4) Kt := by
  unfold P13
  rw [k0_part13_eq_skeleton]; unfold k0_part13_skel
  simp only [Prog.lift, Prog.bind_op, Prog.bind_ret, Prog.pure_eq_ret]
  iintro ⟨#HR, H1, H2, H3, HO, Hk⟩
  iapply (back_acc C K c 1 rfl (aM_of (k0_off14_eq c) _) W) $$ [H1 HO]
  · isplitr; · iexact HR
    isplitl [H1]; · iexact H1
    iexact HO
  iintro ⟨%W1, H1, HO⟩
  iapply (back_l C K c 1 rfl (lM_of (k0_off16_eq c) _) W1) $$ [H2 HO]
  · isplitr; · iexact HR
    isplitl [H2]; · iexact H2
    iexact HO
  iintro ⟨%W2, H2, HO⟩
  iapply (back_acc C K c 2 rfl (aM_of (k0_off14_eq c) _) W2) $$ [H3 HO]
  · isplitr; · iexact HR
    isplitl [H3]; · iexact H3
    iexact HO
  iintro ⟨%W3, H3, HO⟩
  rw [wp_ret]; imodintro
  iapply Hk
  isplitl [H1]; · iexact H1
  isplitl [H2]; · iexact H2
  isplitl [H3]; · iexact H3
  iexact HO

theorem partW (i : grid0.Coords) (c : Dev nD) (h4 : k0_cond4 i = 1#1) (W : Waits sig Unit) (Kt : PUnit → sProp 𝕄) :
    iprop(records C K ∗ bkL c 2 ∗ owes (c : Thread nD τ) 0 W ∗ (∀ r W', (doneL c 2 ∗ owes (c : Thread nD τ) 0 W') -∗ Kt r))
      ⊢ wp frame (wpE (defs₀ (F := F)) 𝒱₀ (c : Thread nD τ) none) Set.univ (PW i c h4) Kt := by
  unfold PW
  simp only [Prog.lift, Prog.bind_op, Prog.bind_ret, Prog.pure_eq_ret]
  iintro ⟨#HR, H1, HO, Hk⟩
  iapply (back_l C K c 2 rfl (lM_of (k0_off16_eq c) _) W) $$ [H1 HO]
  · isplitr; · iexact HR
    isplitl [H1]; · iexact H1
    iexact HO
  iintro ⟨%W1, H1, HO⟩
  rw [wp_ret]; imodintro
  iapply Hk
  isplitl [H1]; · iexact H1
  iexact HO

end Cert.KernelIdeal.Run

end
-- ==== Proof.Ideal.PartE.lean ====
/-
The exchange as a whole: the steps before put together, from the copies' permissions to the output.
-/
module

public import proofs.«01_k».proof.Proof.Ideal.PartD

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (C : Con F) (K : Dev nD × Fin 15 → ℕ)

/-- What a device keeps for its copy to, and from, the device d + 1 ahead. -/
def kitS (c : Dev nD) (d : Fin 3) : sProp 𝕄 :=
  iprop(dutyTok ER (kcell (c, sA d)) 0 c ∗ dutyTok ER (kcell (pr c d.succ, rA c)) 0 c ∗ dutyTok ER (kcell (c, sL d)) 0 c ∗ dutyTok ER (kcell (pr c d.succ, rL c)) 0 c)
def kitW (c : Dev nD) (d : Fin 3) : sProp 𝕄 :=
  iprop(atPos ER (kcell (c, sA d)) 0 ∅ 0 ∗ atPos ER (kcell (c, sL d)) 0 ∅ 0 ∗ inA c d ∗ inL c d)
/-- Everything a device keeps for the exchange. -/
def kit (c : Dev nD) : sProp 𝕄 :=
  iprop((kitS c 0 ∗ kitS c 1 ∗ kitS c 2) ∗ (kitW c 0 ∗ kitW c 1 ∗ kitW c 2) ∗ atPos ER (kcell (c, rA c)) 0 ∅ 0 ∗ atPos ER (kcell (c, rL c)) 0 ∅ 0)
/-- The slots it writes on the device d + 1 ahead. -/
def peer (c : Dev nD) (d : Fin 3) : sProp 𝕄 :=
  iprop((∃ f, aPts (pr c d.succ) c fullShare f) ∗ (∃ f, lPts (pr c d.succ) c fullShare f))
/-- Its own slots. -/
def own (c : Dev nD) : sProp 𝕄 := iprop((∃ f, aPts c c fullShare f) ∗ (∃ g, lPts c c fullShare g))
/-- The exchange's semaphores, counters at 0. -/
def zeros (c : Dev nD) : sProp 𝕄 :=
  iprop((semVal (kcell (c, sA 0)) 0 ∗ semVal (kcell (c, sA 1)) 0 ∗ semVal (kcell (c, sA 2)) 0)
    ∗ (semVal (kcell (c, sL 0)) 0 ∗ semVal (kcell (c, sL 1)) 0 ∗ semVal (kcell (c, sL 2)) 0)
    ∗ (bigSep (Finset.univ : Finset (Dev nD)) fun s => semVal (kcell (c, rA s)) 0) ∗ (bigSep (Finset.univ : Finset (Dev nD)) fun s => semVal (kcell (c, rL s)) 0))

theorem four_slots (c : Dev nD) (f : Dev nD → sProp 𝕄) : (bigSep (Finset.univ : Finset (Dev nD)) f : sProp 𝕄) = iprop(f c ∗ f (pr c 1) ∗ f (pr c 2) ∗ f (pr c 3)) := by
  rw [bigSep_eq_bigSepL_of_eq [c, pr c 1, pr c 2, pr c 3] (univ_slots c) (nodup_slots c), bigSepL_cons_cons, bigSepL_cons_cons, bigSepL_cons_cons, bigSepL_singleton]
  rfl

/-- An own slot lent out: what the copies carry, and the share kept. -/
theorem lend (c : Dev nD) :
    iprop(aPts c c fullShare C.aG ∗ (∃ g, ⌜Row0 C.lG g⌝ ∗ lPts c c fullShare g))
      ⊢ (iprop(aPts c c fullShare.left C.aG ∗ (∃ g, ⌜Row0 C.lG g⌝ ∗ lPts c c fullShare.left g)
        ∗ (aPts c c (qs 0) C.aG ∗ aPts c c (qs 1) C.aG ∗ aPts c c (qs 2) C.aG)
        ∗ (∃ g, ⌜Row0 C.lG g⌝ ∗ lPts c c (qs 0) g) ∗ (∃ g, ⌜Row0 C.lG g⌝ ∗ lPts c c (qs 1) g) ∗ (∃ g, ⌜Row0 C.lG g⌝ ∗ lPts c c (qs 2) g)) : sProp 𝕄) := by
  iintro ⟨Ha, ⟨%g, %hg, Hl⟩⟩
  ihave ⟨H0, H1, H2, H3⟩ := (a_lend c C.aG).1 $$ Ha
  ihave ⟨G0, G1, G2, G3⟩ := (l_lend c g).1 $$ Hl
  isplitl [H0]; · iexact H0
  isplitl [G0]
  · iexists g; isplitr; · (ipureintro; exact hg)
    iexact G0
  isplitl [H1 H2 H3]
  · isplitl [H1]; · iexact H1
    isplitl [H2]; · iexact H2
    iexact H3
  isplitl [G1]
  · iexists g; isplitr; · (ipureintro; exact hg)
    iexact G1
  isplitl [G2]
  · iexists g; isplitr; · (ipureintro; exact hg)
    iexact G2
  iexists g; isplitr; · (ipureintro; exact hg)
  iexact G3

set_option maxHeartbeats 1000000 in
theorem epi_run (i : grid0.Coords) (c : Dev nD) (v2 : BitVec 32) (h4 : k0_cond4 i = 1#1)
    (A : cc0_scratch1.ty.Contents (Elt F)) (Lf : cc0_scratch2.ty.Contents (Elt F)) (Wo : cc0_stg2_0.ty.Contents (Elt F))
    (hA : ∀ j ∈ aSet c, C.aG j = aOf A j) (hL : ∀ j ∈ lSet c, (j 2).val = 0 → C.lG j = lOf Lf j) (W : Waits sig Unit) (Kt : PUnit → sProp 𝕄) :
    iprop(records C K ∗ kit c ∗ (peer c 0 ∗ peer c 1 ∗ peer c 2) ∗ own c ∗ owes (c : Thread nD τ) (O₁ c) W
      ∗ pts c cc0_scratch1 A ∗ pts c cc0_scratch2 Lf ∗ pts c cc0_stg2_0 Wo ∗ (∃ f, pts c cc0_scratch3 f) ∗ (∃ D, pts c cc0_stg3_0 D)
      ∗ (∀ W', (owes (c : Thread nD τ) 0 W' ∗ zeros c ∗ pts c cc0_scratch1 A ∗ pts c cc0_scratch2 Lf ∗ pts c cc0_stg2_0 Wo
          ∗ (∃ f, pts c cc0_scratch3 f) ∗ (∃ f, pts c cc0_scratch7 f) ∗ (∃ f, pts c cc0_scratch8 f) ∗ pts c cc0_stg3_0 (outC C c Wo)) -∗ Kt ⟨⟩))
      ⊢ wp frame (wpE (defs₀ (F := F)) 𝒱₀ (c : Thread nD τ) none) Set.univ (epiProg i c v2 h4) Kt := by
  unfold epiProg kit own peer kitS kitW
  iintro ⟨#HR, ⟨⟨⟨ta0, ra0, tl0, rl0⟩, ⟨ta1, ra1, tl1, rl1⟩, ⟨ta2, ra2, tl2, rl2⟩⟩, ⟨⟨pa0, pl0, ia0, il0⟩, ⟨pa1, pl1, ia1, il1⟩, ⟨pa2, pl2, ia2, il2⟩⟩, pra, prl⟩,
    ⟨⟨qa0, ql0⟩, ⟨qa1, ql1⟩, ⟨qa2, ql2⟩⟩, ⟨Oa, Ol⟩, HO, HA, HL, HW, ⟨%f, Ho⟩, ⟨%D, HD⟩, Hk⟩
  rw [Idealize.SL.Sem.wp_bind]
  iapply (part3 C i c v2 h4 A Lf hA hL _)
  isplitl [HA]; · iexact HA
  isplitl [HL]; · iexact HL
  isplitl [Oa]; · iexact Oa
  isplitl [Ol]; · iexact Ol
  iintro %v85 ⟨HA, HL, Oa, Ol⟩
  ihave ⟨Oa, Ol, ⟨a0, a1, a2⟩, l0, l1, l2⟩ := (lend C c) $$ [Oa Ol]
  · isplitl [Oa]; · iexact Oa
    iexact Ol
  rw [Idealize.SL.Sem.wp_bind]
  iapply (part4 C K i c v2 h4 v85 W _)
  isplitr; · iexact HR
  unfold outA outL
  isplitl [a0 qa0 ta0 ra0]
  · isplitl [a0]; · iexact a0
    isplitl [qa0]; · iexact qa0
    isplitl [ta0]; · iexact ta0
    iexact ra0
  isplitl [l0 ql0 tl0 rl0]
  · isplitl [l0]; · iexact l0
    isplitl [ql0]; · iexact ql0
    isplitl [tl0]; · iexact tl0
    iexact rl0
  isplitl [a1 qa1 ta1 ra1]
  · isplitl [a1]; · iexact a1
    isplitl [qa1]; · iexact qa1
    isplitl [ta1]; · iexact ta1
    iexact ra1
  isplitl [HO]; · iexact HO
  iintro %v107 ⟨ca0, cl0, ca1, HO⟩
  rw [Idealize.SL.Sem.wp_bind]
  iapply (part5 C K i c v2 h4 v107 W _)
  isplitr; · iexact HR
  unfold outA outL
  isplitl [l1 ql1 tl1 rl1]
  · isplitl [l1]; · iexact l1
    isplitl [ql1]; · iexact ql1
    isplitl [tl1]; · iexact tl1
    iexact rl1
  isplitl [a2 qa2 ta2 ra2]
  · isplitl [a2]; · iexact a2
    isplitl [qa2]; · iexact qa2
    isplitl [ta2]; · iexact ta2
    iexact ra2
  isplitl [HO]; · iexact HO
  iintro %x ⟨cl1, ca2, HO⟩
  rw [Idealize.SL.Sem.wp_bind]
  iapply (part6 C K i c v2 h4 W _)
  isplitr; · iexact HR
  unfold outL
  isplitl [l2 ql2 tl2 rl2]
  · isplitl [l2]; · iexact l2
    isplitl [ql2]; · iexact ql2
    isplitl [tl2]; · iexact tl2
    iexact rl2
  isplitl [ia0]; · iexact ia0
  isplitl [il0]; · iexact il0
  isplitl [HO]; · iexact HO
  iintro %x %W6 ⟨cl2, ga0, gl0, HO⟩
  rw [Idealize.SL.Sem.wp_bind]
  iapply (part7 C K i c v2 h4 W6 _)
  isplitr; · iexact HR
  isplitl [ia1]; · iexact ia1
  isplitl [il1]; · iexact il1
  isplitl [HO]; · iexact HO
  iintro %x %W7 ⟨ga1, gl1, HO⟩
  rw [Idealize.SL.Sem.wp_bind]
  iapply (part8 C K i c v2 h4 Wo W7 _)
  isplitr; · iexact HR
  isplitl [ia2]; · iexact ia2
  isplitl [il2]; · iexact il2
  isplitl [ga0]; · iexact ga0
  isplitl [gl0]; · iexact gl0
  isplitl [ga1]; · iexact ga1
  isplitl [gl1]; · iexact gl1
  isplitl [Oa]; · iexact Oa
  isplitl [Ol]; · iexact Ol
  isplitl [HW]; · iexact HW
  isplitl [HO]; · iexact HO
  iintro %v221 %W8 %g ⟨%hg, Ha, Hl, Sa, Sl, HW, ⟨za1, za2, za3⟩, ⟨zl1, zl2, zl3⟩, HO⟩
  dsimp only
  rw [Idealize.SL.Sem.wp_bind]
  iapply (part9 C i c v2 h4 v221 g hg f _)
  isplitl [Ha]; · iexact Ha
  isplitl [Hl]; · iexact Hl
  isplitl [Ho]; · iexact Ho
  iintro ⟨Ha, Hl, Ho⟩
  dsimp only
  rw [Idealize.SL.Sem.wp_bind]
  iapply (part10 C i c v2 h4 g hg (o9 C c f) _)
  isplitl [Ha]; · iexact Ha
  isplitl [Hl]; · iexact Hl
  isplitl [Ho]; · iexact Ho
  iintro ⟨Ha, Hl, Ho⟩
  dsimp only
  rw [Idealize.SL.Sem.wp_bind]
  iapply (part11 C i c v2 h4 g hg (o10 C c (o9 C c f)) _)
  isplitl [Ha]; · iexact Ha
  isplitl [Hl]; · iexact Hl
  isplitl [Ho]; · iexact Ho
  iintro ⟨Ha, Hl, Ho⟩
  dsimp only
  rw [Idealize.SL.Sem.wp_bind]
  iapply (part12 C K i c h4 Wo f (o11 C c (o10 C c (o9 C c f))) (ots_eq C c f) D W8 _)
  isplitr; · iexact HR
  unfold bkA bkL
  isplitl [ca0 pa0]
  · isplitl [ca0]; · iexact ca0
    iexact pa0
  isplitl [cl0 pl0]
  · isplitl [cl0]; · iexact cl0
    iexact pl0
  isplitl [Ho]; · iexact Ho
  isplitl [HD]; · iexact HD
  isplitl [HO]; · iexact HO
  iintro %x %W12 ⟨da0, dl0, Ho, HD, HO⟩
  rw [Idealize.SL.Sem.wp_bind]
  iapply (part13 C K i c h4 W12 _)
  isplitr; · iexact HR
  unfold bkA bkL
  isplitl [ca1 pa1]
  · isplitl [ca1]; · iexact ca1
    iexact pa1
  isplitl [cl1 pl1]
  · isplitl [cl1]; · iexact cl1
    iexact pl1
  isplitl [ca2 pa2]
  · isplitl [ca2]; · iexact ca2
    iexact pa2
  isplitl [HO]; · iexact HO
  iintro %x %W13 ⟨da1, dl1, da2, HO⟩
  rw [Idealize.SL.Sem.wp_bind]
  iapply (partW C K i c h4 W13 _)
  isplitr; · iexact HR
  unfold bkL
  isplitl [cl2 pl2]
  · isplitl [cl2]; · iexact cl2
    iexact pl2
  isplitl [HO]; · iexact HO
  iintro %x %WW ⟨dl2, HO⟩
  imod (close_none C K c (rA c) (dutK_rA_self c)) $$ [pra] with za0
  · isplitr; · iexact HR
    iexact pra
  imod (close_none C K c (rL c) (dutK_rL_self c)) $$ [prl] with zl0
  · isplitr; · iexact HR
    iexact prl
  rw [Prog.pure_eq_ret, wp_ret]; imodintro
  unfold doneA doneL
  icases da0 with ⟨ya0, da0⟩; icases da1 with ⟨ya1, da1⟩; icases da2 with ⟨ya2, da2⟩
  icases dl0 with ⟨yl0, dl0⟩; icases dl1 with ⟨yl1, dl1⟩; icases dl2 with ⟨yl2, dl2⟩
  iapply Hk
  isplitl [HO]; · iexact HO
  isplitl [ya0 ya1 ya2 yl0 yl1 yl2 za0 za1 za2 za3 zl0 zl1 zl2 zl3]
  · unfold zeros
    rw [four_slots c, four_slots c]
    isplitl [ya0 ya1 ya2]
    · isplitl [ya0]; · iexact ya0
      isplitl [ya1]; · iexact ya1
      iexact ya2
    isplitl [yl0 yl1 yl2]
    · isplitl [yl0]; · iexact yl0
      isplitl [yl1]; · iexact yl1
      iexact yl2
    isplitl [za0 za1 za2 za3]
    · isplitl [za0]; · iexact za0
      isplitl [za1]; · iexact za1
      isplitl [za2]; · iexact za2
      iexact za3
    isplitl [zl0]; · iexact zl0
    isplitl [zl1]; · iexact zl1
    isplitl [zl2]; · iexact zl2
    iexact zl3
  isplitl [HA]; · iexact HA
  isplitl [HL]; · iexact HL
  isplitl [HW]; · iexact HW
  isplitl [Ho]; · iexists _; iexact Ho
  isplitl [Ha Sa da0 da1 da2]
  · iapply (backA C c)
    isplitl [Ha]; · iexact Ha
    isplitl [Sa]; · iexact Sa
    isplitl [da0]; · iexact da0
    isplitl [da1]; · iexact da1
    iexact da2
  isplitl [Hl Sl dl0 dl1 dl2]
  · iapply (backL c g)
    isplitl [Hl]; · iexact Hl
    isplitl [Sl]; · iexact Sl
    isplitl [dl0]; · iexact dl0
    isplitl [dl1]; · iexact dl1
    iexact dl2
  iexact HD

end Cert.KernelIdeal.Run

end
-- ==== Proof.Ideal.Phi.lean ====
/-
What a device holds before each point of the grid, and that each point takes it to the next.
-/
module

public import proofs.«01_k».proof.Proof.Ideal.First
public import proofs.«01_k».proof.Proof.Ideal.Mid
public import proofs.«01_k».proof.Proof.Ideal.Late
public import proofs.«01_k».proof.Proof.Ideal.Home
public import proofs.«01_k».proof.Proof.Ideal.PartE

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The arguments and what is exchanged -/

abbrev gX (c : Dev nD) : cc0_stg0_0.ty.Contents (Elt F) := m ((c : Thread nD τ).loc main_arg0)
abbrev gWq (c : Dev nD) : cc0_stg1_0.ty.Contents (Elt F) := m ((c : Thread nD τ).loc main_arg1)
abbrev gWo (c : Dev nD) : cc0_stg2_0.ty.Contents (Elt F) := m ((c : Thread nD τ).loc main_arg2)
abbrev gK (c : Dev nD) : S32768x2x128.Idx → Elt F .f32 := m ((c : Thread nD τ).loc main_arg3)
abbrev gV (c : Dev nD) : S32768x2x128.Idx → Elt F .f32 := m ((c : Thread nD τ).loc main_arg4)

/-- The device a slot is for. -/
def slotDev (n : Fin 4) : Dev nD := ⟨n.val, n.isLt⟩
/-- The exchange's contents: slot `s` is what device `s` has summed over its sixteen chunks. -/
def con : Con F where
  aG j := aOf (accAt (gX m (slotDev (j 0))) (gWq m (slotDev (j 0))) (gK m (slotDev (j 0))) (gV m (slotDev (j 0))) 16) j
  lG j := lOf (lAt (gX m (slotDev (j 0))) (gWq m (slotDev (j 0))) (gK m (slotDev (j 0))) 16) j

theorem con_a (c : Dev nD) : ∀ j ∈ aSet c, (con m).aG j = aOf (accAt (gX m c) (gWq m c) (gK m c) (gV m c) 16) j := fun j hj => by
  have e : slotDev (j 0) = c := Fin.ext (mem_aSet.mp hj)
  show aOf (accAt (gX m (slotDev (j 0))) (gWq m (slotDev (j 0))) (gK m (slotDev (j 0))) (gV m (slotDev (j 0))) 16) j = _
  rw [e]
theorem con_l (c : Dev nD) : ∀ j ∈ lSet c, (j 2).val = 0 → (con m).lG j = lOf (lAt (gX m c) (gWq m c) (gK m c) 16) j := fun j hj _ => by
  have e : slotDev (j 0) = c := Fin.ext (mem_lSet.mp hj)
  show lOf (lAt (gX m (slotDev (j 0))) (gWq m (slotDev (j 0))) (gK m (slotDev (j 0))) 16) j = _
  rw [e]

/-! ## Before each point -/

/-- What the handshake takes. -/
def barKit (c : Dev nD) : sProp 𝕄 :=
  iprop(cred (tallyAt (kcell (c, 0)) () 3) ∗ atPos ER (kcell (c, 0)) 0 ∅ 0
    ∗ (dutyTok ER (kcell (pr c 1, 0)) 0 c ∗ dutyTok ER (kcell (pr c 2, 0)) 0 c ∗ dutyTok ER (kcell (pr c 3, 0)) 0 c))
/-- The ghost state a device starts from. -/
def start (c : Dev nD) : sProp 𝕄 := iprop((∃ K, records (con m) K) ∗ levAts L lv ∗ kit c ∗ barKit c)
/-- The chunks under way before point `t`. -/
def fly (t : ℕ) (c : Dev nD) : sProp 𝕄 :=
  if t = 15 then iprop(freeS c 14 ∗ flK c 15 (gK m c) ∗ flV c 15 (gV m c))
  else iprop((flK c (t + 1) (gK m c) ∗ flV c (t + 1) (gV m c)) ∗ flK c t (gK m c) ∗ flV c t (gV m c))

def phi0 (c : Dev nD) : sProp 𝕄 :=
  iprop(start m c ∗ (∃ f, pts c cc0_scratch0 f) ∗ (∃ f, pts c cc0_scratch1 f) ∗ (∃ f, pts c cc0_scratch2 f) ∗ (∃ f, pts c cc0_scratch3 f)
    ∗ (∃ f, pts c cc0_scratch4 f) ∗ (∃ f, pts c cc0_scratch5 f) ∗ (∃ f, pts c cc0_scratch7 f) ∗ (∃ f, pts c cc0_scratch8 f)
    ∗ copyZ c ∗ homes c Finset.univ (gK m c) (gV m c))
def phiMid (t : ℕ) (c : Dev nD) : sProp 𝕄 :=
  iprop((∃ K, records (con m) K) ∗ levAts L lv ∗ kit c ∗ (peer c 0 ∗ peer c 1 ∗ peer c 2) ∗ own c ∗ semVal (kcell (c, 0)) 0
    ∗ fly m t c ∗ homes c (rest t) (gK m c) (gV m c)
    ∗ pts c cc0_scratch0 (qsC (gX m c) (gWq m c)) ∗ pts c cc0_scratch1 (accAt (gX m c) (gWq m c) (gK m c) (gV m c) t) ∗ pts c cc0_scratch2 (lAt (gX m c) (gWq m c) (gK m c) t)
    ∗ (∃ f, pts c cc0_scratch3 f))
def phiEnd (c : Dev nD) : sProp 𝕄 :=
  iprop(semVal (kcell (c, 0)) 0 ∗ zeros c ∗ copyZ c ∗ (∃ f, pts c cc0_scratch0 f) ∗ (∃ f, pts c cc0_scratch1 f) ∗ (∃ f, pts c cc0_scratch2 f) ∗ (∃ f, pts c cc0_scratch3 f)
    ∗ (∃ f, pts c cc0_scratch4 f) ∗ (∃ f, pts c cc0_scratch5 f) ∗ (∃ f, pts c cc0_scratch7 f) ∗ (∃ f, pts c cc0_scratch8 f)
    ∗ homes c Finset.univ (gK m c) (gV m c))
def phi (t : ℕ) (c : Dev nD) : sProp 𝕄 := if t = 0 then phi0 m c else if t ≤ 15 then phiMid m t c else phiEnd m c
def owing (t : ℕ) (c : Dev nD) : CellTallies nD τ sig Unit := if t = 0 then O₀ c else if t ≤ 15 then O₁ c else 0

/-! ## The branches' conditions along the grid -/

theorem at_val : ∀ t : Fin grid0.N, ((grid0.coords t) 0).val = t.val := by decide
theorem at_h1 : ∀ t : Fin grid0.N, (Scalar.cmpi .ne (Scalar.extui (Scalar.cmpi .eq (BitVec.ofNat 32 ((grid0.coords t) 0).val) 0#32) : BitVec 32) 0#32 : BitVec 1) = 1#1 ↔ t.val = 0 := by decide
theorem at_h2 : ∀ t : Fin grid0.N, k0_cond2 (grid0.coords t) = 1#1 ↔ t.val = 0 := by decide
theorem at_h3 : ∀ t : Fin grid0.N, k0_cond3 (grid0.coords t) = 1#1 ↔ t.val < 14 := by decide
theorem at_h4 : ∀ t : Fin grid0.N, k0_cond4 (grid0.coords t) = 1#1 ↔ t.val = 15 := by decide

/-! ## The points -/

set_option maxHeartbeats 1000000 in
theorem point_first (c : Dev nD) (i : grid0.Coords) (ht : (i 0).val = 0)
    (h1 : (Scalar.cmpi .ne (Scalar.extui (Scalar.cmpi .eq (BitVec.ofNat 32 (i 0).val) 0#32) : BitVec 32) 0#32 : BitVec 1) = 1#1)
    (h2 : k0_cond2 i = 1#1) (h3 : k0_cond3 i = 1#1) (h4 : ¬ k0_cond4 i = 1#1) (W : Waits sig Unit) (Kt : PUnit → sProp 𝕄) :
    iprop(phi0 m c ∗ owes (c : Thread nD τ) (O₀ c) W ∗ pts c cc0_stg0_0 (gX m c) ∗ pts c cc0_stg1_0 (gWq m c)
      ∗ (∀ W', (phiMid m 1 c ∗ owes (c : Thread nD τ) (O₁ c) W' ∗ pts c cc0_stg0_0 (gX m c) ∗ pts c cc0_stg1_0 (gWq m c)) -∗ Kt ⟨⟩))
      ⊢ wp frame (wpE (defs₀ (F := F)) 𝒱₀ (c : Thread nD τ) none) Set.univ (body (F := F) i) Kt := by
  unfold phi0 start barKit
  iintro ⟨⟨⟨⟨%Kg, #HR⟩, #Hlev, Hkit, Hcr, Hat, Htok⟩, ⟨%Q, HQ⟩, ⟨%A, HA⟩, ⟨%Lf, HL⟩, Ho, H4, H5, ⟨%f7, H7⟩, ⟨%f8, H8⟩, Hz, Hh⟩, HO, HX, HWq, Hk⟩
  ihave ⟨a0, a1, a2, a3⟩ := (Entails.of_eq (a_slots c fullShare f7)) $$ H7
  ihave ⟨l0, l1, l2, l3⟩ := (Entails.of_eq (l_slots c fullShare f8)) $$ H8
  ihave ⟨Hf0, Hf1⟩ := (free_of c) $$ [H4 H5 Hz]
  · isplitl [H4]; · iexact H4
    isplitl [H5]; · iexact H5
    iexact Hz
  ihave ⟨h0, Hh⟩ := (Entails.of_eq (homes_take c Finset.univ 0 (Finset.mem_univ _) (gK m c) (gV m c))) $$ Hh
  ihave ⟨h1, Hh⟩ := (Entails.of_eq (homes_take c (Finset.univ.erase 0) 1 (by decide) (gK m c) (gV m c))) $$ Hh
  ihave ⟨h2, Hh⟩ := (Entails.of_eq (homes_take c ((Finset.univ.erase 0).erase 1) 2 (by decide) (gK m c) (gV m c))) $$ Hh
  iapply (step_first (con m) Kg c i ht h1 h2 h3 h4 (gX m c) (gWq m c) (gK m c) (gV m c) Q A Lf W Kt)
  isplitr; · iexact HR
  isplitr; · iexact Hlev
  isplitl [HO]; · iexact HO
  isplitl [Hcr]; · iexact Hcr
  isplitl [Hat]; · iexact Hat
  isplitl [Htok]; · iexact Htok
  isplitl [a1 a2 a3]
  · isplitl [a1]; · iexists f7; iexact a1
    isplitl [a2]; · iexists f7; iexact a2
    iexists f7; iexact a3
  isplitl [l1 l2 l3]
  · isplitl [l1]; · iexists f8; iexact l1
    isplitl [l2]; · iexists f8; iexact l2
    iexists f8; iexact l3
  isplitl [Hf0]; · iexact Hf0
  isplitl [Hf1]; · iexact Hf1
  isplitl [h0]; · iexact h0
  isplitl [h1]; · iexact h1
  isplitl [h2]; · iexact h2
  isplitl [HX]; · iexact HX
  isplitl [HWq]; · iexact HWq
  isplitl [HQ]; · iexact HQ
  isplitl [HA]; · iexact HA
  isplitl [HL]; · iexact HL
  iintro %W' ⟨HO, Hz0, B1, B2, B3, k1, v1, k2, v2, h0, HX, HWq, HQ, HA, HL⟩
  iapply Hk
  unfold barPay
  icases B1 with ⟨Ba1, Bl1, -, -⟩
  icases B2 with ⟨Ba2, Bl2, -, -⟩
  icases B3 with ⟨Ba3, Bl3, -, -⟩
  isplitr [HO HX HWq]
  · unfold phiMid
    isplitr; · iexists Kg; iexact HR
    isplitr; · iexact Hlev
    isplitl [Hkit]; · iexact Hkit
    isplitl [Ba1 Bl1 Ba2 Bl2 Ba3 Bl3]
    · unfold peer
      isplitl [Ba1 Bl1]
      · isplitl [Ba1]; · iexact Ba1
        iexact Bl1
      isplitl [Ba2 Bl2]
      · isplitl [Ba2]; · iexact Ba2
        iexact Bl2
      isplitl [Ba3]; · iexact Ba3
      iexact Bl3
    isplitl [a0 l0]
    · unfold own
      isplitl [a0]; · iexists f7; iexact a0
      iexists f8; iexact l0
    isplitl [Hz0]; · iexact Hz0
    isplitl [k1 v1 k2 v2]
    · unfold fly; rw [if_neg (by decide : ¬ (1 : ℕ) = 15)]
      isplitl [k2 v2]
      · isplitl [k2]; · iexact k2
        iexact v2
      isplitl [k1]; · iexact k1
      iexact v1
    isplitl [h0 Hh]
    · iapply (Entails.of_eq (homes_put c _ (rest 1) 0 rest_1.1 rest_1.2 (gK m c) (gV m c)))
      isplitl [h0]; · iexact h0
      iexact Hh
    isplitl [HQ]; · iexact HQ
    isplitl [HA]; · iexact HA
    isplitl [HL]; · iexact HL
    iexact Ho
  isplitl [HO]; · iexact HO
  isplitl [HX]; · iexact HX
  iexact HWq

theorem point_mid (c : Dev nD) (i : grid0.Coords) (t : Fin 16) (ht : (i 0).val = t.val) (ht1 : 1 ≤ t.val) (ht14 : t.val < 14)
    (h1 : ¬ (Scalar.cmpi .ne (Scalar.extui (Scalar.cmpi .eq (BitVec.ofNat 32 (i 0).val) 0#32) : BitVec 32) 0#32 : BitVec 1) = 1#1)
    (h2 : ¬ k0_cond2 i = 1#1) (h3 : k0_cond3 i = 1#1) (h4 : ¬ k0_cond4 i = 1#1) (W : Waits sig Unit) (Kt : PUnit → sProp 𝕄) :
    iprop(phiMid m t.val c ∗ owes (c : Thread nD τ) (O₁ c) W ∗ (∀ W', (phiMid m (t.val + 1) c ∗ owes (c : Thread nD τ) (O₁ c) W') -∗ Kt ⟨⟩))
      ⊢ wp frame (wpE (defs₀ (F := F)) 𝒱₀ (c : Thread nD τ) none) Set.univ (body (F := F) i) Kt := by
  unfold phiMid fly
  rw [if_neg (by omega : ¬ t.val = 15), if_neg (by omega : ¬ t.val + 1 = 15)]
  obtain ⟨r1, r2, r3⟩ := rest_next t ht1 (by omega)
  iintro ⟨⟨HR, #Hlev, Hkit, Hpeer, Hown, Hz0, ⟨Hnext, k0, v0⟩, Hh, HQ, HA, HL, Ho⟩, HO, Hk⟩
  ihave ⟨h2, Hh⟩ := (Entails.of_eq (homes_take c (rest t.val) ⟨t.val + 2, by omega⟩ r1 (gK m c) (gV m c))) $$ Hh
  iapply (step_mid c i t.val ht ht14 h1 h2 h3 h4 (gX m c) (gWq m c) (gK m c) (gV m c) W Kt)
  isplitr; · iexact Hlev
  isplitl [HO]; · iexact HO
  isplitl [k0]; · iexact k0
  isplitl [v0]; · iexact v0
  isplitl [h2]; · iexact h2
  isplitl [HQ]; · iexact HQ
  isplitl [HA]; · iexact HA
  isplitl [HL]; · iexact HL
  iintro %W' ⟨HO, k2, v2, h0, HQ, HA, HL⟩
  iapply Hk
  isplitr [HO]
  · isplitl [HR]; · iexact HR
    isplitr; · iexact Hlev
    isplitl [Hkit]; · iexact Hkit
    isplitl [Hpeer]; · iexact Hpeer
    isplitl [Hown]; · iexact Hown
    isplitl [Hz0]; · iexact Hz0
    isplitl [Hnext k2 v2]
    · isplitl [k2 v2]
      · isplitl [k2]; · iexact k2
        iexact v2
      iexact Hnext
    isplitl [h0 Hh]
    · iapply (Entails.of_eq (homes_put c _ (rest (t.val + 1)) t r2 r3 (gK m c) (gV m c)))
      isplitl [h0]; · iexact h0
      iexact Hh
    isplitl [HQ]; · iexact HQ
    isplitl [HA]; · iexact HA
    isplitl [HL]; · iexact HL
    iexact Ho
  iexact HO

theorem point_14 (c : Dev nD) (i : grid0.Coords) (ht : (i 0).val = 14)
    (h1 : ¬ (Scalar.cmpi .ne (Scalar.extui (Scalar.cmpi .eq (BitVec.ofNat 32 (i 0).val) 0#32) : BitVec 32) 0#32 : BitVec 1) = 1#1)
    (h3 : ¬ k0_cond3 i = 1#1) (h4 : ¬ k0_cond4 i = 1#1) (W : Waits sig Unit) (Kt : PUnit → sProp 𝕄) :
    iprop(phiMid m 14 c ∗ owes (c : Thread nD τ) (O₁ c) W ∗ (∀ W', (phiMid m 15 c ∗ owes (c : Thread nD τ) (O₁ c) W') -∗ Kt ⟨⟩))
      ⊢ wp frame (wpE (defs₀ (F := F)) 𝒱₀ (c : Thread nD τ) none) Set.univ (body (F := F) i) Kt := by
  unfold phiMid fly
  rw [if_neg (by decide : ¬ (14 : ℕ) = 15), if_pos (rfl : (15 : ℕ) = 15)]
  obtain ⟨r2, r3⟩ := rest_late 14 (by decide)
  iintro ⟨⟨HR, #Hlev, Hkit, Hpeer, Hown, Hz0, ⟨Hnext, k0, v0⟩, Hh, HQ, HA, HL, Ho⟩, HO, Hk⟩
  iapply (step_late c i 14 ht h1 h3 h4 (gX m c) (gWq m c) (gK m c) (gV m c) W Kt)
  isplitr; · iexact Hlev
  isplitl [HO]; · iexact HO
  isplitl [k0]; · iexact k0
  isplitl [v0]; · iexact v0
  isplitl [HQ]; · iexact HQ
  isplitl [HA]; · iexact HA
  isplitl [HL]; · iexact HL
  iintro %W' ⟨HO, Hf, h0, HQ, HA, HL⟩
  iapply Hk
  isplitr [HO]
  · isplitl [HR]; · iexact HR
    isplitr; · iexact Hlev
    isplitl [Hkit]; · iexact Hkit
    isplitl [Hpeer]; · iexact Hpeer
    isplitl [Hown]; · iexact Hown
    isplitl [Hz0]; · iexact Hz0
    isplitl [Hnext Hf]
    · isplitl [Hf]; · iexact Hf
      iexact Hnext
    isplitl [h0 Hh]
    · iapply (Entails.of_eq (homes_put c (rest 14) (rest 15) 14 r2 r3 (gK m c) (gV m c)))
      isplitl [h0]; · iexact h0
      iexact Hh
    isplitl [HQ]; · iexact HQ
    isplitl [HA]; · iexact HA
    isplitl [HL]; · iexact HL
    iexact Ho
  iexact HO

set_option maxHeartbeats 1000000 in
theorem point_last (c : Dev nD) (i : grid0.Coords) (ht : (i 0).val = 15)
    (h1 : ¬ (Scalar.cmpi .ne (Scalar.extui (Scalar.cmpi .eq (BitVec.ofNat 32 (i 0).val) 0#32) : BitVec 32) 0#32 : BitVec 1) = 1#1)
    (h3 : ¬ k0_cond3 i = 1#1) (h4 : k0_cond4 i = 1#1) (W : Waits sig Unit) (Kt : PUnit → sProp 𝕄) :
    iprop(phiMid m 15 c ∗ owes (c : Thread nD τ) (O₁ c) W ∗ pts c cc0_stg2_0 (gWo m c) ∗ (∃ D, pts c cc0_stg3_0 D)
      ∗ (∀ W', (phiEnd m c ∗ owes (c : Thread nD τ) 0 W' ∗ pts c cc0_stg2_0 (gWo m c) ∗ pts c cc0_stg3_0 (outC (con m) c (gWo m c))) -∗ Kt ⟨⟩))
      ⊢ wp frame (wpE (defs₀ (F := F)) 𝒱₀ (c : Thread nD τ) none) Set.univ (body (F := F) i) Kt := by
  rw [body_last i h3 h4]
  unfold phiMid fly
  rw [if_pos (rfl : (15 : ℕ) = 15)]
  obtain ⟨r2, r3⟩ := rest_late 15 (by decide)
  iintro ⟨⟨⟨%Kg, #HR⟩, #Hlev, Hkit, Hpeer, Hown, Hz0, ⟨Hf14, k0, v0⟩, Hh, HQ, HA, HL, Ho⟩, HO, HW, HD, Hk⟩
  iapply (late_run c i 15 ht h1 (fun c v2 => epiProg i c v2 h4) (gX m c) (gWq m c) (gK m c) (gV m c) W Kt)
  isplitr; · iexact Hlev
  isplitl [HO]; · iexact HO
  isplitl [k0]; · iexact k0
  isplitl [v0]; · iexact v0
  isplitl [HQ]; · iexact HQ
  isplitl [HA]; · iexact HA
  isplitl [HL]; · iexact HL
  iintro %W1 %v2 ⟨HO, Hf15, h0, HQ, HA, HL⟩
  iapply (epi_run (con m) Kg i c v2 h4 (accAt (gX m c) (gWq m c) (gK m c) (gV m c) 16) (lAt (gX m c) (gWq m c) (gK m c) 16) (gWo m c) (con_a m c) (con_l m c) W1 Kt)
  isplitr; · iexact HR
  isplitl [Hkit]; · iexact Hkit
  isplitl [Hpeer]; · iexact Hpeer
  isplitl [Hown]; · iexact Hown
  isplitl [HO]; · iexact HO
  isplitl [HA]; · iexact HA
  isplitl [HL]; · iexact HL
  isplitl [HW]; · iexact HW
  isplitl [Ho]; · iexact Ho
  isplitl [HD]; · iexact HD
  iintro %W2 ⟨HO, Hzs, HA, HL, HW, Ho, H7, H8, HD⟩
  have e14 : (freeS (F := F) c 14 : sProp 𝕄) = freeS c 0 :=
    (freeS_two c 12).trans ((freeS_two c 10).trans ((freeS_two c 8).trans ((freeS_two c 6).trans ((freeS_two c 4).trans ((freeS_two c 2).trans (freeS_two c 0))))))
  have e15 : (freeS (F := F) c 15 : sProp 𝕄) = freeS c 1 :=
    (freeS_two c 13).trans ((freeS_two c 11).trans ((freeS_two c 9).trans ((freeS_two c 7).trans ((freeS_two c 5).trans ((freeS_two c 3).trans (freeS_two c 1))))))
  ihave Hf0 := (Entails.of_eq e14) $$ Hf14
  ihave Hf1 := (Entails.of_eq e15) $$ Hf15
  ihave ⟨H4, H5, Hz⟩ := (free_to c) $$ [Hf0 Hf1]
  · isplitl [Hf0]; · iexact Hf0
    iexact Hf1
  iapply Hk
  isplitr [HO HW HD]
  · unfold phiEnd
    isplitl [Hz0]; · iexact Hz0
    isplitl [Hzs]; · iexact Hzs
    isplitl [Hz]; · iexact Hz
    isplitl [HQ]; · iexists _; iexact HQ
    isplitl [HA]; · iexists _; iexact HA
    isplitl [HL]; · iexists _; iexact HL
    isplitl [Ho]; · iexact Ho
    isplitl [H4]; · iexact H4
    isplitl [H5]; · iexact H5
    isplitl [H7]; · iexact H7
    isplitl [H8]; · iexact H8
    iapply (Entails.of_eq (homes_put c (rest 15) Finset.univ 15 (Finset.mem_univ _) (by decide) (gK m c) (gV m c)))
    isplitl [h0]; · iexact h0
    iexact Hh
  isplitl [HO]; · iexact HO
  isplitl [HW]; · iexact HW
  iexact HD

end Cert.KernelIdeal.Run

end
-- ==== Proof.Ideal.Obl.lean ====
/-
The kernel's body at every point of the grid meets the pipeline's obligation.
-/
module

public import proofs.«01_k».proof.Proof.Ideal.Phi
public import proofs.«01_k».proof.Proof.Gen.KernelIdeal.Frame

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Each window's contents, what the body leaves in its buffer, the invariant and what is owed, per device. -/
def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => outC (con m) c (gWo m c)
  Φ t := phi m t.val c
  q _ := fullShare
  owed t := owing t.val c

/-! ## The windows' blocks are the arrays -/

theorem blk_0 (c : Dev nD) (t : Fin cfg0.N) : iblk m c 0 t = gX m c := by
  funext j
  show m ((c : Thread nD τ).loc main_arg0) _ = m ((c : Thread nD τ).loc main_arg0) _
  congr 1
  funext a
  fin_cases a <;> exact Fin.ext (by first | rfl | exact Nat.zero_add _ | (show 0 + _ = _; omega) | (show 0 + 1 * _ = _; omega) | (show 0 + _ * 1 = _; omega))
theorem blk_1 (c : Dev nD) (t : Fin cfg0.N) : iblk m c 1 t = gWq m c := by
  funext j
  show m ((c : Thread nD τ).loc main_arg1) _ = m ((c : Thread nD τ).loc main_arg1) _
  congr 1
  funext a
  fin_cases a <;> exact Fin.ext (by first | rfl | exact Nat.zero_add _ | (show 0 + _ = _; omega) | (show 0 + 1 * _ = _; omega) | (show 0 + _ * 1 = _; omega))
theorem blk_2 (c : Dev nD) (t : Fin cfg0.N) : iblk m c 2 t = gWo m c := by
  funext j
  show m ((c : Thread nD τ).loc main_arg2) _ = m ((c : Thread nD τ).loc main_arg2) _
  congr 1
  funext a
  fin_cases a <;> exact Fin.ext (by first | rfl | exact Nat.zero_add _ | (show 0 + _ = _; omega) | (show 0 + 1 * _ = _; omega) | (show 0 + _ * 1 = _; omega))

theorem before_0 (c : Dev nD) (t : Fin cfg0.N) (d) : (dats m 0 c).before 0 t d = gX m c := by
  rw [← blk_0 m c t]
  exact ((dats m 0 c).before_in_eq_fetched 0 rfl (fun _ => rfl) (fun _ _ _ => rfl) (fun t => rfl) t d).trans rfl
theorem before_1 (c : Dev nD) (t : Fin cfg0.N) (d) : (dats m 0 c).before 1 t d = gWq m c := by
  rw [← blk_1 m c t]
  exact ((dats m 0 c).before_in_eq_fetched 1 rfl (fun _ => rfl) (fun _ _ _ => rfl) (fun t => rfl) t d).trans rfl
theorem before_2 (c : Dev nD) (t : Fin cfg0.N) (d) : (dats m 0 c).before 2 t d = gWo m c := by
  rw [← blk_2 m c t]
  exact ((dats m 0 c).before_in_eq_fetched 2 rfl (fun _ => rfl) (fun _ _ _ => rfl) (fun t => rfl) t d).trans rfl

/-! ## The staging buffers are whole -/

theorem stage_0 : ∀ s : Fin win0_0.nbuf, win0_0.stage s = Memref.whole cc0_stg0_0
  | ⟨0, _⟩ => rfl
theorem stage_1 : ∀ s : Fin win0_1.nbuf, win0_1.stage s = Memref.whole cc0_stg1_0
  | ⟨0, _⟩ => rfl
theorem stage_2 : ∀ s : Fin win0_2.nbuf, win0_2.stage s = Memref.whole cc0_stg2_0
  | ⟨0, _⟩ => rfl
theorem stage_3 : ∀ s : Fin win0_3.nbuf, win0_3.stage s = Memref.whole cc0_stg3_0
  | ⟨0, _⟩ => rfl

theorem owns_pts (c : Dev nD) (b : Ref sig .tc) (X : b.ty.Contents (Elt F)) :
    (owns (Ix := Unit) (Name := ℕ) (U := UU) (Lvl := ℕ) (c : Thread nD τ) (Memref.whole b) fullShare X : sProp 𝕄) ⊢ pts c b X := by
  unfold owns
  simp only [Memref.view_whole, View.read_whole, View.set_whole]
  iintro ⟨%f, %hf, H⟩
  subst hf
  iexact H
theorem pts_owns (c : Dev nD) (b : Ref sig .tc) (X : b.ty.Contents (Elt F)) :
    pts c b X ⊢ (owns (Ix := Unit) (Name := ℕ) (U := UU) (Lvl := ℕ) (c : Thread nD τ) (Memref.whole b) fullShare X : sProp 𝕄) := by
  unfold owns
  simp only [Memref.view_whole, View.read_whole, View.set_whole]
  iintro H
  iexists X
  isplitr; · (ipureintro; rfl)
  iexact H

theorem bodyAt_eq (t : Fin cfg0.N) : bodyAt0 (F := F) t = body (grid0.coords t) := by
  have h : ∀ (a0) (b0 : a0.IsWhole) (a1) (b1 : a1.IsWhole) (a2) (b2 : a2.IsWhole) (a3) (b3 : a3.IsWhole),
      a0 = Memref.whole cc0_stg0_0 → a1 = Memref.whole cc0_stg1_0 → a2 = Memref.whole cc0_stg2_0 → a3 = Memref.whole cc0_stg3_0 →
      cc0_body (F := F) (grid0.coords t) a0 b0 a1 b1 a2 b2 (Memref.whole main_arg3) (Memref.isWhole_whole _) (Memref.whole main_arg4) (Memref.isWhole_whole _) a3 b3
        (Memref.whole cc0_scratch0) (Memref.isWhole_whole _) (Memref.whole cc0_scratch1) (Memref.isWhole_whole _) (Memref.whole cc0_scratch2) (Memref.isWhole_whole _)
        (Memref.whole cc0_scratch3) (Memref.isWhole_whole _) (Memref.whole cc0_scratch4) (Memref.isWhole_whole _) (Memref.whole cc0_scratch5) (Memref.isWhole_whole _)
        cc0_scratch6 (Memref.whole cc0_scratch7) (Memref.isWhole_whole _) (Memref.whole cc0_scratch8) (Memref.isWhole_whole _) cc0_scratch9 cc0_scratch10
        = body (grid0.coords t) := by
    intro a0 b0 a1 b1 a2 b2 a3 b3 e0 e1 e2 e3
    subst e0; subst e1; subst e2; subst e3
    rfl
  exact h _ _ _ _ _ _ _ _ (stage_0 _) (stage_1 _) (stage_2 _) (stage_3 _)

/-! ## The obligation -/

/-- What the loop hands the body of the output's buffer: some contents. -/
def outSome (c : Dev nD) (t : Fin cfg0.N) : sProp 𝕄 :=
  iprop(∃ d, owns c ((cfg0.win 3).stage (cfg0.slots t 3)) fullShare ((dats m 0 c).before 3 t d))

theorem out_idle (t : Fin cfg0.N) (h : t.val ≠ 15) : cfg0.idle 3 (cfg0.grid.coords t) = true := by
  show (!(k0_cond4 (grid0.coords t) == 1#1)) = true
  have h4 := mt (at_h4 t).mp h
  simp only [Bool.not_eq_true', beq_eq_false_iff_ne]
  exact h4
theorem out_live (t : Fin cfg0.N) (h : t.val = 15) : cfg0.idle 3 (cfg0.grid.coords t) = false := by
  show (!(k0_cond4 (grid0.coords t) == 1#1)) = false
  rw [(at_h4 t).mpr h]; rfl
theorem out_kept (t : Fin cfg0.N) (h : t.val ≠ 15) : (cfg0.win 3).flush t = false := by
  have h16 : t.val < 16 := t.isLt
  rw [← Bool.not_eq_true]
  exact fun e => h (by have := (flush0_3 t).mp e; omega)

/-- What the loop wants back of the output's buffer. -/
def outBack (c : Dev nD) (t : Fin cfg0.N) : sProp 𝕄 :=
  match cfg0.idle 3 (cfg0.grid.coords t) with
  | true =>
    match (cfg0.win 3).flush t with
    | false => outSome m c t
    | true => owns c ((cfg0.win 3).stage (cfg0.slots t 3)) fullShare ((dats m 0 c).after 3 t)
  | false => owns c ((cfg0.win 3).stage (cfg0.slots t 3)) fullShare ((dats m 0 c).after 3 t)

theorem outBack_idle (c : Dev nD) (t : Fin cfg0.N) (h : t.val ≠ 15) : outBack m c t = outSome m c t := by
  unfold outBack; rw [out_idle t h, out_kept t h]
theorem outBack_live (c : Dev nD) (t : Fin cfg0.N) (h : t.val = 15) :
    outBack m c t = owns c ((cfg0.win 3).stage (cfg0.slots t 3)) fullShare (outC (con m) c (gWo m c)) := by
  unfold outBack; rw [out_live t h]; rfl

/-- One point, the buffers whole. -/
theorem point (c : Dev nD) (t : Fin cfg0.N) (W : Waits sig Unit) (Kt : PUnit → sProp 𝕄) :
    iprop(phi m t.val c ∗ owes (c : Thread nD τ) (owing t.val c) W ∗ pts c cc0_stg0_0 (gX m c) ∗ pts c cc0_stg1_0 (gWq m c) ∗ pts c cc0_stg2_0 (gWo m c) ∗ outSome m c t
      ∗ (∀ W', (phi m (t.val + 1) c ∗ owes (c : Thread nD τ) (owing (t.val + 1) c) W' ∗ pts c cc0_stg0_0 (gX m c) ∗ pts c cc0_stg1_0 (gWq m c) ∗ pts c cc0_stg2_0 (gWo m c)
          ∗ outBack m c t) -∗ Kt ⟨⟩))
      ⊢ wp frame (wpE (defs₀ (F := F)) 𝒱₀ (c : Thread nD τ) none) Set.univ (body (F := F) (grid0.coords t)) Kt := by
  have h16 : t.val < 16 := t.isLt
  by_cases h0 : t.val = 0
  · rw [outBack_idle m c t (by omega), h0]
    unfold phi owing
    rw [if_pos rfl, if_pos rfl, if_neg (by decide : ¬ (0 + 1 = 0)), if_neg (by decide : ¬ (0 + 1 = 0)), if_pos (by decide : 0 + 1 ≤ 15), if_pos (by decide : 0 + 1 ≤ 15)]
    iintro ⟨HP, HO, HX, HWq, HWo, Hout, Hk⟩
    iapply (point_first m c (grid0.coords t) ((at_val t).trans h0) ((at_h1 t).mpr h0) ((at_h2 t).mpr h0) ((at_h3 t).mpr (by omega)) (mt (at_h4 t).mp (by omega)) W Kt)
    isplitl [HP]; · iexact HP
    isplitl [HO]; · iexact HO
    isplitl [HX]; · iexact HX
    isplitl [HWq]; · iexact HWq
    iintro %W' ⟨HP, HO, HX, HWq⟩
    iapply Hk
    isplitl [HP]; · iexact HP
    isplitl [HO]; · iexact HO
    isplitl [HX]; · iexact HX
    isplitl [HWq]; · iexact HWq
    isplitl [HWo]; · iexact HWo
    iexact Hout
  have hm : t.val ≤ 15 := by omega
  have n1 := mt (at_h1 t).mp h0
  have n2 := mt (at_h2 t).mp h0
  by_cases h15 : t.val = 15
  · rw [outBack_live m c t h15]
    unfold outSome phi owing
    rw [if_neg h0, if_neg h0, if_pos hm, if_pos hm, if_neg (by omega : ¬ (t.val + 1 = 0)), if_neg (by omega : ¬ (t.val + 1 = 0)), if_neg (by omega : ¬ (t.val + 1 ≤ 15)), if_neg (by omega : ¬ (t.val + 1 ≤ 15)), h15]
    have hs : (cfg0.win 3).stage (cfg0.slots t 3) = Memref.whole cc0_stg3_0 := stage_3 _
    iintro ⟨HP, HO, HX, HWq, HWo, ⟨%d, Hout⟩, Hk⟩
    have e1 : (owns c ((cfg0.win 3).stage (cfg0.slots t 3)) fullShare ((dats m 0 c).before 3 t d) : sProp 𝕄) ⊢ pts c cc0_stg3_0 ((dats m 0 c).before 3 t d) := by
      rw [hs]; exact owns_pts c cc0_stg3_0 _
    have e2 : pts c cc0_stg3_0 (outC (con m) c (gWo m c)) ⊢ (owns c ((cfg0.win 3).stage (cfg0.slots t 3)) fullShare (outC (con m) c (gWo m c)) : sProp 𝕄) := by
      rw [hs]; exact pts_owns c cc0_stg3_0 _
    ihave Hout := e1 $$ Hout
    iapply (point_last m c (grid0.coords t) ((at_val t).trans h15) n1 (mt (at_h3 t).mp (by omega)) ((at_h4 t).mpr h15) W Kt)
    isplitl [HP]; · iexact HP
    isplitl [HO]; · iexact HO
    isplitl [HWo]; · iexact HWo
    isplitl [Hout]; · iexists _; iexact Hout
    iintro %W' ⟨HP, HO, HWo, Hout⟩
    iapply Hk
    isplitl [HP]; · iexact HP
    isplitl [HO]; · iexact HO
    isplitl [HX]; · iexact HX
    isplitl [HWq]; · iexact HWq
    isplitl [HWo]; · iexact HWo
    iapply e2; iexact Hout
  rw [outBack_idle m c t h15]
  unfold phi owing
  rw [if_neg h0, if_neg h0, if_pos hm, if_pos hm, if_neg (by omega : ¬ (t.val + 1 = 0)), if_neg (by omega : ¬ (t.val + 1 = 0)), if_pos (by omega : t.val + 1 ≤ 15), if_pos (by omega : t.val + 1 ≤ 15)]
  by_cases h14 : t.val = 14
  · rw [h14]
    iintro ⟨HP, HO, HX, HWq, HWo, Hout, Hk⟩
    iapply (point_14 m c (grid0.coords t) ((at_val t).trans h14) n1 (mt (at_h3 t).mp (by omega)) (mt (at_h4 t).mp (by omega)) W Kt)
    isplitl [HP]; · iexact HP
    isplitl [HO]; · iexact HO
    iintro %W' ⟨HP, HO⟩
    iapply Hk
    isplitl [HP]; · iexact HP
    isplitl [HO]; · iexact HO
    isplitl [HX]; · iexact HX
    isplitl [HWq]; · iexact HWq
    isplitl [HWo]; · iexact HWo
    iexact Hout
  iintro ⟨HP, HO, HX, HWq, HWo, Hout, Hk⟩
  iapply (point_mid m c (grid0.coords t) ⟨t.val, h16⟩ (at_val t) (by dsimp only; omega) (by dsimp only; omega) n1 n2 ((at_h3 t).mpr (by omega)) (mt (at_h4 t).mp (by omega)) W Kt)
  isplitl [HP]; · iexact HP
  isplitl [HO]; · iexact HO
  iintro %W' ⟨HP, HO⟩
  iapply Hk
  isplitl [HP]; · iexact HP
  isplitl [HO]; · iexact HO
  isplitl [HX]; · iexact HX
  isplitl [HWq]; · iexact HWq
  isplitl [HWo]; · iexact HWo
  iexact Hout

theorem in_0 (c : Dev nD) (t : Fin cfg0.N) :
    (iprop(∃ d, owns c ((cfg0.win 0).stage (cfg0.slots t 0)) fullShare ((dats m 0 c).before 0 t d)) : sProp 𝕄) ⊢ pts c cc0_stg0_0 (gX m c) := by
  have hs : (cfg0.win 0).stage (cfg0.slots t 0) = Memref.whole cc0_stg0_0 := stage_0 _
  iintro ⟨%d, H⟩
  rw [before_0, hs]
  iapply (owns_pts c cc0_stg0_0 _); iexact H
theorem in_1 (c : Dev nD) (t : Fin cfg0.N) :
    (iprop(∃ d, owns c ((cfg0.win 1).stage (cfg0.slots t 1)) fullShare ((dats m 0 c).before 1 t d)) : sProp 𝕄) ⊢ pts c cc0_stg1_0 (gWq m c) := by
  have hs : (cfg0.win 1).stage (cfg0.slots t 1) = Memref.whole cc0_stg1_0 := stage_1 _
  iintro ⟨%d, H⟩
  rw [before_1, hs]
  iapply (owns_pts c cc0_stg1_0 _); iexact H
theorem in_2 (c : Dev nD) (t : Fin cfg0.N) :
    (iprop(∃ d, owns c ((cfg0.win 2).stage (cfg0.slots t 2)) fullShare ((dats m 0 c).before 2 t d)) : sProp 𝕄) ⊢ pts c cc0_stg2_0 (gWo m c) := by
  have hs : (cfg0.win 2).stage (cfg0.slots t 2) = Memref.whole cc0_stg2_0 := stage_2 _
  iintro ⟨%d, H⟩
  rw [before_2, hs]
  iapply (owns_pts c cc0_stg2_0 _); iexact H
theorem back_0 (c : Dev nD) (t : Fin cfg0.N) :
    pts c cc0_stg0_0 (gX m c) ⊢ (owns c ((cfg0.win 0).stage (cfg0.slots t 0)) fullShare ((dats m 0 c).after 0 t) : sProp 𝕄) := by
  have hs : (cfg0.win 0).stage (cfg0.slots t 0) = Memref.whole cc0_stg0_0 := stage_0 _
  rw [show (dats m 0 c).after 0 t = gX m c from blk_0 m c t, hs]
  exact pts_owns c cc0_stg0_0 _
theorem back_1 (c : Dev nD) (t : Fin cfg0.N) :
    pts c cc0_stg1_0 (gWq m c) ⊢ (owns c ((cfg0.win 1).stage (cfg0.slots t 1)) fullShare ((dats m 0 c).after 1 t) : sProp 𝕄) := by
  have hs : (cfg0.win 1).stage (cfg0.slots t 1) = Memref.whole cc0_stg1_0 := stage_1 _
  rw [show (dats m 0 c).after 1 t = gWq m c from blk_1 m c t, hs]
  exact pts_owns c cc0_stg1_0 _
theorem back_2 (c : Dev nD) (t : Fin cfg0.N) :
    pts c cc0_stg2_0 (gWo m c) ⊢ (owns c ((cfg0.win 2).stage (cfg0.slots t 2)) fullShare ((dats m 0 c).after 2 t) : sProp 𝕄) := by
  have hs : (cfg0.win 2).stage (cfg0.slots t 2) = Memref.whole cc0_stg2_0 := stage_2 _
  rw [show (dats m 0 c).after 2 t = gWo m c from blk_2 m c t, hs]
  exact pts_owns c cc0_stg2_0 _

theorem body_obligation (c : Dev nD) : BodyObligation (dats m 0 c) (defs₀ (F := F)) 𝒱₀ () Set.univ := fun t => by
  rw [bigSep_W0, bigSep_W0]
  show iprop(phi m t.val c ∗ (dats m 0 c).owesAt () t.castSucc
      ∗ (∃ d, owns c ((cfg0.win 0).stage (cfg0.slots t 0)) fullShare ((dats m 0 c).before 0 t d))
      ∗ (∃ d, owns c ((cfg0.win 1).stage (cfg0.slots t 1)) fullShare ((dats m 0 c).before 1 t d))
      ∗ (∃ d, owns c ((cfg0.win 2).stage (cfg0.slots t 2)) fullShare ((dats m 0 c).before 2 t d)) ∗ outSome m c t)
    ⊢ wp frame (wpE (defs₀ (F := F)) 𝒱₀ c none) Set.univ (bodyAt0 t) (fun _ => iprop(phi m (t.val + 1) c ∗ (dats m 0 c).owesAt () t.succ
      ∗ owns c ((cfg0.win 0).stage (cfg0.slots t 0)) fullShare ((dats m 0 c).after 0 t)
      ∗ owns c ((cfg0.win 1).stage (cfg0.slots t 1)) fullShare ((dats m 0 c).after 1 t)
      ∗ owns c ((cfg0.win 2).stage (cfg0.slots t 2)) fullShare ((dats m 0 c).after 2 t) ∗ outBack m c t))
  rw [bodyAt_eq]
  unfold Dat.owesAt Pipeline.owesWithin
  rw [show (dats m 0 c).owed t.castSucc = owing t.val c from rfl, show (dats m 0 c).owed t.succ = owing (t.val + 1) c from rfl]
  iintro ⟨HP, ⟨%W, -, HO⟩, H0, H1, H2, H3⟩
  ihave H0 := (in_0 m c t) $$ H0
  ihave H1 := (in_1 m c t) $$ H1
  ihave H2 := (in_2 m c t) $$ H2
  iapply (point m c t W)
  isplitl [HP]; · iexact HP
  isplitl [HO]; · iexact HO
  isplitl [H0]; · iexact H0
  isplitl [H1]; · iexact H1
  isplitl [H2]; · iexact H2
  isplitl [H3]; · iexact H3
  iintro %W' ⟨HP, HO, H0, H1, H2, H3⟩
  isplitl [HP]; · iexact HP
  isplitl [HO]
  · iexists W'
    isplitr; · ipureintro; exact fun _ _ => Or.inl trivial
    iexact HO
  isplitl [H0]; · iapply (back_0 m c t); iexact H0
  isplitl [H1]; · iapply (back_1 m c t); iexact H1
  isplitl [H2]; · iapply (back_2 m c t); iexact H2
  iexact H3

end Cert.KernelIdeal.Run

end
-- ==== Proof.Ideal.Start.lean ====
/-
The exchange's ghost state at launch, dealt to the devices.
-/
module

public import proofs.«01_k».proof.Proof.Ideal.Obl
public import proofs.«01_k».proof.Proof.Gen.KernelIdeal.Frame

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (C : Con F)

theorem kcell_injective : Function.Injective (kcell : Dev nD × Fin 15 → GSem nD τ sig) := by
  rintro ⟨c, k⟩ ⟨d, l⟩ h
  have h1 : c = d := congrArg (fun g : GSem nD τ sig => g.1.1) h
  have h2 : idx (csem k) = idx (csem l) := congrArg (fun g : GSem nD τ sig => idx g.2) h
  rw [idx_csem, idx_csem] at h2
  rw [h1, Option.some.inj h2]
theorem kcell_eq_iff {a b : Dev nD × Fin 15} : kcell a = kcell b ↔ a = b := ⟨fun h => kcell_injective h, fun h => h ▸ rfl⟩

/-- The exchange's cells, and every token of their duties: device by device, those it is to use. -/
def exCells : Finset (GSem nD τ sig) := Finset.univ.map ⟨kcell, kcell_injective⟩
def tokOf (x : Fin 4 × Dev nD × Fin 15) : GSem nD τ sig × ℕ × Fin 4 := (kcell x.2, 0, x.1)
theorem tokOf_injective : Function.Injective tokOf := by
  rintro ⟨d, x⟩ ⟨e, y⟩ h
  have h1 : d = e := congrArg (fun z : GSem nD τ sig × ℕ × Fin 4 => z.2.2) h
  have h2 : x = y := kcell_injective (congrArg (fun z : GSem nD τ sig × ℕ × Fin 4 => z.1) h)
  rw [h1, h2]
def exToks : Finset (GSem nD τ sig × ℕ × Fin 4) := Finset.univ.map ⟨tokOf, tokOf_injective⟩

/-- The tokens of the duties that are device `c`'s. -/
def toks (c : Dev nD) : sProp 𝕄 := bigSep Finset.univ fun x : Dev nD × Fin 15 => dutyTok ER (kcell x) 0 c
def G (c : Dev nD) : sProp 𝕄 :=
  iprop((bigSep Finset.univ fun k : Fin 15 => roundState ER (exRd C) (kcell (c, k)) 0)
    ∗ (bigSep Finset.univ fun k : Fin 15 => iprop(atPos ER (kcell (c, k)) 0 ∅ 0 ∗ reached ER (kcell (c, k)) 0)) ∗ toks c)

theorem fund_ex : BI.own (ER (initOf exCells exToks)) ⊢ (|==> bigSep Finset.univ (G C) : sProp 𝕄) := by
  have hX (Φ : GSem nD τ sig → sProp 𝕄) : bigSep exCells Φ = bigSep Finset.univ fun c : Dev nD => bigSep Finset.univ fun k : Fin 15 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks toks; rw [bigSep_map, bigSep_univ_prod]; rfl
  iintro HX
  imod (Rounds.fund ER (exRd C) exCells exToks) $$ HX with ⟨Hst, Hr, Hat, Htok⟩
  imodintro
  ihave Hst' := (Entails.of_eq (hX fun g => roundState ER (exRd C) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The kernel's own semaphores -/

/-- The four of the local copies, then the exchange's fourteen. -/
abbrev osem (k : Fin 18) : SemLoc sig := .dma ⟨4 + k.val, by have h18 := k.isLt; show 4 + k.val < 22; omega⟩

theorem ownSemFacts : Pipeline.OwnSemFacts cfg0.spec osem := by decide

/-- Everything of a device's fifteen cells in the order the exchange names them. -/
theorem fifteen (c : Dev nD) (f : Fin 15 → sProp 𝕄) :
    (bigSep Finset.univ f : sProp 𝕄) = iprop(f 0 ∗ f (sA 0) ∗ f (sA 1) ∗ f (sA 2) ∗ f (sL 0) ∗ f (sL 1) ∗ f (sL 2)
      ∗ f (rA c) ∗ f (rA (pr c 1)) ∗ f (rA (pr c 2)) ∗ f (rA (pr c 3)) ∗ f (rL c) ∗ f (rL (pr c 1)) ∗ f (rL (pr c 2)) ∗ f (rL (pr c 3))) := by
  rw [bigSep_eq_bigSepL_of_eq [0, sA 0, sA 1, sA 2, sL 0, sL 1, sL 2, rA c, rA (pr c 1), rA (pr c 2), rA (pr c 3), rL c, rL (pr c 1), rL (pr c 2), rL (pr c 3)]
    (by revert c; decide) (by revert c; decide)]
  rfl

theorem four (f : Dev nD → sProp 𝕄) : (bigSep Finset.univ f : sProp 𝕄) = iprop(f 0 ∗ f 1 ∗ f 2 ∗ f 3) :=
  bigSep_univ_eq_bigSepL [0, 1, 2, 3] (by decide) (by decide) f

theorem ownSems_eq (c : Dev nD) : (Pipeline.ownSems0 (Ix := Unit) (Name := ℕ) (U := UU) (Lvl := ℕ) (Val := Elt F) (τ := τ) osem c : sProp 𝕄)
    = iprop(copyZ c ∗ zeros c) := by
  rw [Pipeline.ownSems0_eq_of_list c osem [0, 1, 2, 3, 4, 5, 6, 7, 8, 9, 10, 11, 12, 13, 14, 15, 16, 17] (by decide) (by decide)]
  unfold copyZ zeros
  rw [four, four]
  refine BI.Entails.antisymm ?_ ?_
  · show iprop(semVal ((c : Thread nD τ), osem 0) 0 ∗ semVal ((c : Thread nD τ), osem 1) 0 ∗ semVal ((c : Thread nD τ), osem 2) 0 ∗ semVal ((c : Thread nD τ), osem 3) 0
      ∗ semVal ((c : Thread nD τ), osem 4) 0 ∗ semVal ((c : Thread nD τ), osem 5) 0 ∗ semVal ((c : Thread nD τ), osem 6) 0 ∗ semVal ((c : Thread nD τ), osem 7) 0
      ∗ semVal ((c : Thread nD τ), osem 8) 0 ∗ semVal ((c : Thread nD τ), osem 9) 0 ∗ semVal ((c : Thread nD τ), osem 10) 0 ∗ semVal ((c : Thread nD τ), osem 11) 0
      ∗ semVal ((c : Thread nD τ), osem 12) 0 ∗ semVal ((c : Thread nD τ), osem 13) 0 ∗ semVal ((c : Thread nD τ), osem 14) 0 ∗ semVal ((c : Thread nD τ), osem 15) 0
      ∗ semVal ((c : Thread nD τ), osem 16) 0 ∗ semVal ((c : Thread nD τ), osem 17) 0) ⊢ _
    iintro ⟨h0, h1, h2, h3, h4, h5, h6, h7, h8, h9, h10, h11, h12, h13, h14, h15, h16, h17⟩
    isplitl [h0 h1 h2 h3]
    · isplitl [h0]; · iexact h0
      isplitl [h1]; · iexact h1
      isplitl [h2]; · iexact h2
      iexact h3
    isplitl [h4 h5 h6]
    · isplitl [h4]; · iexact h4
      isplitl [h5]; · iexact h5
      iexact h6
    isplitl [h7 h8 h9]
    · isplitl [h7]; · iexact h7
      isplitl [h8]; · iexact h8
      iexact h9
    isplitl [h10 h11 h12 h13]
    · isplitl [h10]; · iexact h10
      isplitl [h11]; · iexact h11
      isplitl [h12]; · iexact h12
      iexact h13
    isplitl [h14]; · iexact h14
    isplitl [h15]; · iexact h15
    isplitl [h16]; · iexact h16
    iexact h17
  · show _ ⊢ iprop(semVal ((c : Thread nD τ), osem 0) 0 ∗ semVal ((c : Thread nD τ), osem 1) 0 ∗ semVal ((c : Thread nD τ), osem 2) 0 ∗ semVal ((c : Thread nD τ), osem 3) 0
      ∗ semVal ((c : Thread nD τ), osem 4) 0 ∗ semVal ((c : Thread nD τ), osem 5) 0 ∗ semVal ((c : Thread nD τ), osem 6) 0 ∗ semVal ((c : Thread nD τ), osem 7) 0
      ∗ semVal ((c : Thread nD τ), osem 8) 0 ∗ semVal ((c : Thread nD τ), osem 9) 0 ∗ semVal ((c : Thread nD τ), osem 10) 0 ∗ semVal ((c : Thread nD τ), osem 11) 0
      ∗ semVal ((c : Thread nD τ), osem 12) 0 ∗ semVal ((c : Thread nD τ), osem 13) 0 ∗ semVal ((c : Thread nD τ), osem 14) 0 ∗ semVal ((c : Thread nD τ), osem 15) 0
      ∗ semVal ((c : Thread nD τ), osem 16) 0 ∗ semVal ((c : Thread nD τ), osem 17) 0)
    iintro ⟨⟨h0, h1, h2, h3⟩, ⟨h4, h5, h6⟩, ⟨h7, h8, h9⟩, ⟨h10, h11, h12, h13⟩, h14, h15, h16, h17⟩
    isplitl [h0]; · iexact h0
    isplitl [h1]; · iexact h1
    isplitl [h2]; · iexact h2
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    isplitl [h16]; · iexact h16
    iexact h17
/-- The barrier semaphore is the one the launch keeps. -/
theorem unscopedSems_eq (c : Dev nD) : (unscopedSems0 c : sProp 𝕄) = semVal (kcell (c, 0)) 0 := by
  unfold unscopedSems0; rw [bigSep_eq_bigSepL_of_eq [SemLoc.reg barS] (by decide) (by decide)]; rfl

/-- All fifteen counters. -/
theorem cells_zero (c : Dev nD) : iprop(semVal (kcell (c, 0)) 0 ∗ zeros c) ⊢ (bigSep Finset.univ fun k : Fin 15 => semVal (kcell (c, k)) 0 : sProp 𝕄) := by
  rw [fifteen c]
  unfold zeros
  rw [four_slots c, four_slots c]
  iintro ⟨h0, ⟨h1, h2, h3⟩, ⟨h4, h5, h6⟩, ⟨h7, h8, h9, h10⟩, h11, h12, h13, h14⟩
  isplitl [h0]; · iexact h0
  isplitl [h1]; · iexact h1
  isplitl [h2]; · iexact h2
  isplitl [h3]; · iexact h3
  isplitl [h4]; · iexact h4
  isplitl [h5]; · iexact h5
  isplitl [h6]; · iexact h6
  isplitl [h7]; · iexact h7
  isplitl [h8]; · iexact h8
  isplitl [h9]; · iexact h9
  isplitl [h10]; · iexact h10
  isplitl [h11]; · iexact h11
  isplitl [h12]; · iexact h12
  isplitl [h13]; · iexact h13
  iexact h14

/-! ## The invariants, and each device's part -/

theorem core_alloc (c : Dev nD) :
    iprop(Pipeline.ownSems0 (Ix := Unit) (Name := ℕ) (U := UU) (Lvl := ℕ) (Val := Elt F) (τ := τ) osem c ∗ unscopedSems0 c ∗ G C c)
      ⊢ |={Set.univ}=> iprop((bigSep Finset.univ fun k : Fin 15 => iprop(∃ κ : ℕ, cellInv ER (exRd C) κ (kcell (c, k))))
          ∗ (bigSep Finset.univ fun k : Fin 15 => iprop(atPos ER (kcell (c, k)) 0 ∅ 0 ∗ reached ER (kcell (c, k)) 0)) ∗ copyZ c ∗ toks c) := by
  rw [ownSems_eq, unscopedSems_eq]
  unfold G
  iintro ⟨⟨Hz, Hos⟩, Hus, Hst, Hat, Htok⟩
  ihave Hv := (cells_zero (F := F) c) $$ [Hos Hus]
  · isplitl [Hus] <;> iassumption
  imod (show iprop((bigSep Finset.univ fun k : Fin 15 => semVal (kcell (c, k)) 0) ∗ bigSep Finset.univ fun k : Fin 15 => roundState ER (exRd C) (kcell (c, k)) 0)
      ⊢ (|={Set.univ}=> bigSep Finset.univ fun k => iprop(∃ κ : ℕ, cellInv ER (exRd C) κ (kcell (c, k))) : sProp 𝕄) from by
        rw [← bigSep_sep']
        exact (bigSep_mono fun k _ => (Rounds.body_intro ER (exRd C) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hz]; · iexact Hz
  iexact Htok

/-- What stays with device `c`. -/
def mine (c : Dev nD) : sProp 𝕄 := iprop((bigSep Finset.univ fun k : Fin 15 => atPos ER (kcell (c, k)) 0 ∅ 0) ∗ copyZ c ∗ toks c)
def G' (c : Dev nD) : sProp 𝕄 := iprop((∃ K, records C K) ∗ mine c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 15 => iprop(∃ κ : ℕ, cellInv ER (exRd C) κ (kcell (c, k))))
          ∗ (bigSep Finset.univ fun k : Fin 15 => iprop(atPos ER (kcell (c, k)) 0 ∅ 0 ∗ reached ER (kcell (c, k)) 0)) ∗ copyZ c ∗ toks c) : sProp 𝕄)
      ⊢ bigSep Finset.univ (G' C) := by
  rw [bigSep_sep', bigSep_sep', ← bigSep_univ_prod (fun ck : Dev nD × Fin 15 => iprop(∃ κ : ℕ, cellInv ER (exRd C) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (exRd C) κ (kcell ck) : sProp 𝕄))) $$ HI
  icases HK with ⟨%K, #HI⟩
  iapply (with_persistent (R := records C K) (Φ := mine) (Ψ := G' C) fun c _ => by
    unfold G'
    iintro ⟨H1, H2⟩
    isplitl [H1]; · iexists K; iexact H1
    iexact H2)
  isplitr
  · unfold records; isplitl; · iexact HI
    iexact HR
  · iapply (Entails.of_eq (bigSep_sep' Finset.univ (fun c : Dev nD => bigSep Finset.univ fun k : Fin 15 => (atPos ER (kcell (c, k)) 0 ∅ 0 : sProp 𝕄))
      (fun c => iprop(copyZ c ∗ toks c))).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G C c) : sProp 𝕄)
    ⊢ |={Set.univ}=> bigSep Finset.univ (G' C) :=
  ((bigSep_mono fun c _ => core_alloc C c).trans (bigSep_fupd _ _)).trans (BI.fupd_mono (regroup C))

/-! ## The launch credit -/

/-- What device `d` owes each of device `c`'s cells. -/
theorem owed_at (d c : Dev nD) (k : Fin 15) : O₀ d (kcell (c, k)) () =
    (if (c, k) = (pr d 3, rL d) then NL else 0) + (if (c, k) = (pr d 3, rA d) then NA else 0)
    + (if (c, k) = (pr d 2, rL d) then NL else 0) + (if (c, k) = (pr d 2, rA d) then NA else 0)
    + (if (c, k) = (pr d 1, rL d) then NL else 0) + (if (c, k) = (pr d 1, rA d) then NA else 0)
    + (if (c, k) = (pr d 3, (0 : Fin 15)) then 1 else 0) + (if (c, k) = (pr d 2, (0 : Fin 15)) then 1 else 0) + (if (c, k) = (pr d 1, (0 : Fin 15)) then 1 else 0) := by
  have h (x : Dev nD × Fin 15) (n : ℕ) : (tallyAt (kcell x) () n : CellTallies nD τ sig Unit) (kcell (c, k)) () = if (c, k) = x then n else 0 := by
    rw [tallyAt_apply]
    exact if_congr (by rw [kcell_eq_iff]; exact and_iff_left rfl) rfl rfl
  unfold O₀ O₁ owA owL owB
  simp only [Pi.add_apply, Finsupp.add_apply, h]
  rfl

theorem sum_bar (A B : ℕ) (c : Dev nD) : ∑ d : Dev nD,
    ((if (c, (0 : Fin 15)) = (pr d 3, rL d) then B else 0) + (if (c, (0 : Fin 15)) = (pr d 3, rA d) then A else 0)
    + (if (c, (0 : Fin 15)) = (pr d 2, rL d) then B else 0) + (if (c, (0 : Fin 15)) = (pr d 2, rA d) then A else 0)
    + (if (c, (0 : Fin 15)) = (pr d 1, rL d) then B else 0) + (if (c, (0 : Fin 15)) = (pr d 1, rA d) then A else 0)
    + (if (c, (0 : Fin 15)) = (pr d 3, (0 : Fin 15)) then 1 else 0) + (if (c, (0 : Fin 15)) = (pr d 2, (0 : Fin 15)) then 1 else 0) + (if (c, (0 : Fin 15)) = (pr d 1, (0 : Fin 15)) then 1 else 0)) = 3 := by
  rw [Fin.sum_univ_four]
  fin_cases c <;> simp [pr, nD]
theorem sum_acc (A B : ℕ) (c : Dev nD) (e : Fin 3) : ∑ d : Dev nD,
    ((if (c, rA (pr c e.succ)) = (pr d 3, rL d) then B else 0) + (if (c, rA (pr c e.succ)) = (pr d 3, rA d) then A else 0)
    + (if (c, rA (pr c e.succ)) = (pr d 2, rL d) then B else 0) + (if (c, rA (pr c e.succ)) = (pr d 2, rA d) then A else 0)
    + (if (c, rA (pr c e.succ)) = (pr d 1, rL d) then B else 0) + (if (c, rA (pr c e.succ)) = (pr d 1, rA d) then A else 0)
    + (if (c, rA (pr c e.succ)) = (pr d 3, (0 : Fin 15)) then 1 else 0) + (if (c, rA (pr c e.succ)) = (pr d 2, (0 : Fin 15)) then 1 else 0) + (if (c, rA (pr c e.succ)) = (pr d 1, (0 : Fin 15)) then 1 else 0)) = A := by
  rw [Fin.sum_univ_four]
  fin_cases c <;> fin_cases e <;> simp [pr, nD]
theorem sum_l (A B : ℕ) (c : Dev nD) (e : Fin 3) : ∑ d : Dev nD,
    ((if (c, rL (pr c e.succ)) = (pr d 3, rL d) then B else 0) + (if (c, rL (pr c e.succ)) = (pr d 3, rA d) then A else 0)
    + (if (c, rL (pr c e.succ)) = (pr d 2, rL d) then B else 0) + (if (c, rL (pr c e.succ)) = (pr d 2, rA d) then A else 0)
    + (if (c, rL (pr c e.succ)) = (pr d 1, rL d) then B else 0) + (if (c, rL (pr c e.succ)) = (pr d 1, rA d) then A else 0)
    + (if (c, rL (pr c e.succ)) = (pr d 3, (0 : Fin 15)) then 1 else 0) + (if (c, rL (pr c e.succ)) = (pr d 2, (0 : Fin 15)) then 1 else 0) + (if (c, rL (pr c e.succ)) = (pr d 1, (0 : Fin 15)) then 1 else 0)) = B := by
  rw [Fin.sum_univ_four]
  fin_cases c <;> fin_cases e <;> simp [pr, nD]

/-- A cell's launch credit. -/
theorem launch_at (c : Dev nD) (k : Fin 15) (n : ℕ) (h : ∑ d : Dev nD, O₀ d (kcell (c, k)) () = n) :
    (tallyOn (kcell (c, k)) (launchCredit (Pipeline.owing O₀) 0 (kcell (c, k))) : CellTallies nD τ sig Unit) = tallyAt (kcell (c, k)) () n := by
  unfold tallyAt
  refine congrArg _ (Finsupp.ext fun u => ?_)
  cases u
  rw [Pipeline.launchCredit_owing, Finsupp.single_eq_same, h]

theorem csem_injective : Function.Injective csem := fun a b h => by
  have h2 := congrArg idx h
  rw [idx_csem, idx_csem] at h2
  exact Option.some.inj h2

theorem creds (c : Dev nD) : (Pipeline.launchCred O₀ c : sProp 𝕄) ⊢ iprop(cred (tallyAt (kcell (c, 0)) () 3)
    ∗ (cred (tallyAt (kcell (c, rA (pr c 1))) () NA) ∗ cred (tallyAt (kcell (c, rA (pr c 2))) () NA) ∗ cred (tallyAt (kcell (c, rA (pr c 3))) () NA))
    ∗ (cred (tallyAt (kcell (c, rL (pr c 1))) () NL) ∗ cred (tallyAt (kcell (c, rL (pr c 2))) () NL) ∗ cred (tallyAt (kcell (c, rL (pr c 3))) () NL))) := by
  have e0 := launch_at c 0 3 (by rw [Finset.sum_congr rfl fun d _ => owed_at d c 0]; exact sum_bar NA NL c)
  have eA (e : Fin 3) := launch_at c (rA (pr c e.succ)) NA (by rw [Finset.sum_congr rfl fun d _ => owed_at d c (rA (pr c e.succ))]; exact sum_acc NA NL c e)
  have eL (e : Fin 3) := launch_at c (rL (pr c e.succ)) NL (by rw [Finset.sum_congr rfl fun d _ => owed_at d c (rL (pr c e.succ))]; exact sum_l NA NL c e)
  have h1 : (Pipeline.launchCred O₀ c : sProp 𝕄) ⊢ bigSep Finset.univ fun k : Fin 15 => cred (tallyOn (kcell (c, k)) (launchCredit (Pipeline.owing O₀) 0 (kcell (c, k)))) := by
    unfold Pipeline.launchCred
    refine (BI.bigSep_subset (Finset.subset_univ (Finset.univ.map ⟨csem, csem_injective⟩))).trans ?_
    rw [bigSep_map]
    exact BI.Entails.refl _
  refine h1.trans ?_
  rw [fifteen c]
  rw [e0, show (1 : Fin 4) = (0 : Fin 3).succ from rfl, show (2 : Fin 4) = (1 : Fin 3).succ from rfl, show (3 : Fin 4) = (2 : Fin 3).succ from rfl, eA, eA, eA, eL, eL, eL]
  iintro ⟨h0, -, -, -, -, -, -, -, a1, a2, a3, -, l1, l2, l3⟩
  isplitl [h0]; · iexact h0
  isplitl [a1 a2 a3]
  · isplitl [a1]; · iexact a1
    isplitl [a2]; · iexact a2
    iexact a3
  isplitl [l1]; · iexact l1
  isplitl [l2]; · iexact l2
  iexact l3

/-! ## The tokens a device uses -/

theorem toks_own (c : Dev nD) (f : Fin 15 → sProp 𝕄) : (bigSep Finset.univ f : sProp 𝕄) ⊢ iprop((f (sA 0) ∗ f (sA 1) ∗ f (sA 2)) ∗ f (sL 0) ∗ f (sL 1) ∗ f (sL 2)) := by
  rw [fifteen c]
  iintro ⟨-, h1, h2, h3, h4, h5, h6, -, -, -, -, -, -, -, -⟩
  isplitl [h1 h2 h3]
  · isplitl [h1]; · iexact h1
    isplitl [h2]; · iexact h2
    iexact h3
  isplitl [h4]; · iexact h4
  isplitl [h5]; · iexact h5
  iexact h6
theorem toks_there (c : Dev nD) (f : Fin 15 → sProp 𝕄) : (bigSep Finset.univ f : sProp 𝕄) ⊢ iprop(f 0 ∗ f (rA c) ∗ f (rL c)) := by
  rw [fifteen c]
  iintro ⟨h0, -, -, -, -, -, -, h7, -, -, -, h11, -, -, -⟩
  isplitl [h0]; · iexact h0
  isplitl [h7]; · iexact h7
  iexact h11

theorem mine_split (c : Dev nD) : (mine c : sProp 𝕄) ⊢ iprop(copyZ c ∗ (kitS c 0 ∗ kitS c 1 ∗ kitS c 2)
    ∗ (dutyTok ER (kcell (pr c 1, 0)) 0 c ∗ dutyTok ER (kcell (pr c 2, 0)) 0 c ∗ dutyTok ER (kcell (pr c 3, 0)) 0 c)
    ∗ bigSep Finset.univ fun k : Fin 15 => atPos ER (kcell (c, k)) 0 ∅ 0) := by
  unfold mine toks kitS
  rw [bigSep_univ_prod, four_slots c]
  iintro ⟨Hat, Hz, T0, T1, T2, T3⟩
  ihave ⟨⟨s1, s2, s3⟩, s4, s5, s6⟩ := (toks_own c (fun k => dutyTok ER (kcell (c, k)) 0 c)) $$ T0
  ihave ⟨b1, a1, l1⟩ := (toks_there c (fun k => dutyTok ER (kcell (pr c 1, k)) 0 c)) $$ T1
  ihave ⟨b2, a2, l2⟩ := (toks_there c (fun k => dutyTok ER (kcell (pr c 2, k)) 0 c)) $$ T2
  ihave ⟨b3, a3, l3⟩ := (toks_there c (fun k => dutyTok ER (kcell (pr c 3, k)) 0 c)) $$ T3
  isplitl [Hz]; · iexact Hz
  isplitr [b1 b2 b3 Hat]
  · isplitl [s1 a1 s4 l1]
    · isplitl [s1]; · iexact s1
      isplitl [a1]; · iexact a1
      isplitl [s4]; · iexact s4
      iexact l1
    isplitl [s2 a2 s5 l2]
    · isplitl [s2]; · iexact s2
      isplitl [a2]; · iexact a2
      isplitl [s5]; · iexact s5
      iexact l2
    isplitl [s3]; · iexact s3
    isplitl [a3]; · iexact a3
    isplitl [s6]; · iexact s6
    iexact l3
  isplitl [b1 b2 b3]
  · isplitl [b1]; · iexact b1
    isplitl [b2]; · iexact b2
    iexact b3
  iexact Hat

/-- What a device starts from, of the ghost state dealt to it and its launch credit. -/
theorem kit_of (c : Dev nD) : iprop(mine c ∗ Pipeline.launchCred O₀ c) ⊢ (iprop(copyZ c ∗ kit c ∗ barKit c) : sProp 𝕄) := by
  iintro ⟨Hm, Hc⟩
  ihave ⟨Hz, Hs, Hb, Hat⟩ := (mine_split c) $$ Hm
  ihave ⟨c0, ⟨ca1, ca2, ca3⟩, cl1, cl2, cl3⟩ := (creds c) $$ Hc
  ihave ⟨p0, p1, p2, p3, p4, p5, p6, q0, q1, q2, q3, r0, r1, r2, r3⟩ := (Entails.of_eq (fifteen c (fun k => atPos ER (kcell (c, k)) 0 ∅ 0))) $$ Hat
  unfold kit barKit kitW inA inL
  isplitl [Hz]; · iexact Hz
  isplitr [c0 p0 Hb]
  · isplitl [Hs]; · iexact Hs
    isplitr [q0 r0]
    · isplitl [p1 p4 ca1 q1 cl1 r1]
      · isplitl [p1]; · iexact p1
        isplitl [p4]; · iexact p4
        isplitl [ca1 q1]
        · isplitl [ca1]; · iexact ca1
          iexact q1
        isplitl [cl1]; · iexact cl1
        iexact r1
      isplitl [p2 p5 ca2 q2 cl2 r2]
      · isplitl [p2]; · iexact p2
        isplitl [p5]; · iexact p5
        isplitl [ca2 q2]
        · isplitl [ca2]; · iexact ca2
          iexact q2
        isplitl [cl2]; · iexact cl2
        iexact r2
      isplitl [p3]; · iexact p3
      isplitl [p6]; · iexact p6
      isplitl [ca3 q3]
      · isplitl [ca3]; · iexact ca3
        iexact q3
      isplitl [cl3]; · iexact cl3
      iexact r3
    isplitl [q0]; · iexact q0
    iexact r0
  isplitl [c0]; · iexact c0
  isplitl [p0]; · iexact p0
  iexact Hb

end Cert.KernelIdeal.Run

end
-- ==== Proof.Ideal.Run.lean ====
/-
The kernel's run at the mesh of four devices: it ends, the arguments unchanged, the counters at zero, the result at `outC`.
-/
module

public import proofs.«01_k».proof.Proof.Ideal.Start
public import Idealize.ShloMosaic.Lib.Pipeline.CollectiveSegs
public import proofs.«01_k».proof.Proof.Gen.KernelIdeal.Frame

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_full (c : Dev nD) (w : Fin cfg0.W) : (dats m 0 c).share w = fullShare := by unfold Dat.share; split <;> rfl

def u₀ : UU :=
  (initOf (Pipeline.cells cfgs cellOf_inj) (Pipeline.launchToks cfgs cellOf_inj), (initOf exCells exToks, 1))

/-- What a device brings into the region. -/
def into (c : Dev nD) : sProp 𝕄 := iprop(start m c ∗ copyZ c ∗ homes c Finset.univ (gK m c) (gV m c))
/-- What it takes out. -/
def outOf (c : Dev nD) : sProp 𝕄 := iprop(unscopedSems0 c ∗ pts c main_arg3 (gK m c) ∗ pts c main_arg4 (gV m c))

theorem into_of (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (con m) c)
      ⊢ |={Set.univ}=> iprop(into m c ∗ emp) := by
  rw [Pipeline.unscopedRestP_none, unscopedRest0_eq]
  unfold G' into start
  iintro ⟨⟨H3, H4⟩, Hlev, Hcr, -, HR, Hm⟩
  ihave ⟨Hz, Hkit, Hbar⟩ := (kit_of c) $$ [Hm Hcr]
  · isplitl [Hm]; · iexact Hm
    iexact Hcr
  imodintro
  isplitl
  · isplitl [HR Hlev Hkit Hbar]
    · isplitl [HR]; · iexact HR
      isplitl [Hlev]; · iexact Hlev
      isplitl [Hkit]; · iexact Hkit
      iexact Hbar
    isplitl [Hz]; · iexact Hz
    iapply (Entails.of_eq (homes_all c (gK m c) (gV m c)))
    isplitl [H3]; · iexact H3
    iexact H4
  · iempintro

theorem phi_in (c : Dev nD) :
    iprop(into m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = phi0 m c from rfl, scopedRest0_eq]
  unfold phi0 into
  iintro ⟨⟨Hs, Hz, Hh⟩, -, h0, h1, h2, h3, h4, h5, h7, h8⟩
  isplitl [Hs]; · iexact Hs
  isplitl [h0]; · iexact h0
  isplitl [h1]; · iexact h1
  isplitl [h2]; · iexact h2
  isplitl [h3]; · iexact h3
  isplitl [h4]; · iexact h4
  isplitl [h5]; · iexact h5
  isplitl [h7]; · iexact h7
  isplitl [h8]; · iexact h8
  isplitl [Hz]; · iexact Hz
  iexact Hh

theorem phi_out (c : Dev nD) :
    (dats m 0 c).Φ (Fin.last cfg0.N) ⊢ iprop(outOf m c ∗ Pipeline.ownSems0 osem c ∗ Pipeline.scopedRest cfg0.spec c) := by
  rw [show (dats m 0 c).Φ (Fin.last cfg0.N) = phiEnd m c from rfl, scopedRest0_eq, ownSems_eq]
  unfold phiEnd outOf
  rw [unscopedSems_eq]
  iintro ⟨Hb, Hzs, Hz, h0, h1, h2, h3, h4, h5, h7, h8, Hh⟩
  ihave ⟨H3, H4⟩ := (Entails.of_eq (homes_all c (gK m c) (gV m c)).symm) $$ Hh
  isplitl [Hb H3 H4]
  · isplitl [Hb]; · iexact Hb
    isplitl [H3]; · iexact H3
    iexact H4
  isplitl [Hz Hzs]
  · isplitl [Hz]; · iexact Hz
    iexact Hzs
  isplitl [h0]; · iexact h0
  isplitl [h1]; · iexact h1
  isplitl [h2]; · iexact h2
  isplitl [h3]; · iexact h3
  isplitl [h4]; · iexact h4
  isplitl [h5]; · iexact h5
  isplitl [h7]; · iexact h7
  iexact h8

theorem above_owing (c : Dev nD) (t : ℕ) : Above 1 (owing t c) := by
  unfold owing
  split
  · exact above_O₀ c
  split
  · exact above_mono (by decide) (above_O₁ c)
  · exact above_zero 1

theorem waits (c : Dev nD) : (levAts L lv : sProp 𝕄) ⊢ Pipeline.cellsWaits cfgs (dats m) () 0 c :=
  Pipeline.cellsWaits_intro cfgs (dats m) () 0 c fun w s t =>
    mayWait_of c _ 0 (by fin_cases w <;> fin_cases s <;> decide) _ (above_owing c t.val)

def finalA (c : Dev nD) (w : Fin cfg0.W) : Buf (Elt F) ((cfg0.win w).arr.view.loc (c : Thread nD τ)) := (dats m 0 c).arrAt w cfg0.N

/-- What the launch reads off each device's end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg3) = m ((c : Thread nD τ).loc main_arg3) ∧ s.mem ((c : Thread nD τ).loc main_arg4) = m ((c : Thread nD τ).loc main_arg4)
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg3) = m ((c : Thread nD τ).loc main_arg3) ∧ r.2.mem ((c : Thread nD τ).loc main_arg4) = m ((c : Thread nD τ).loc main_arg4)

theorem read_out (c : Dev nD) (s' : Phys nD τ sig (Elt F)) :
    iprop(outOf m c ∗ emp ∗ SI s') ⊢ (|={Set.univ}=> iprop(⌜QY m c s'.mem⌝ ∗ SI s') : sProp 𝕄) := by
  unfold outOf
  iintro ⟨⟨Hu, H3, H4⟩, -, HSI⟩
  imod (Pipeline.unscopedSems0_read (X := unscopedSems0 c) (c := c) fupd_intro s') $$ [Hu HSI] with ⟨%hs, HSI⟩
  · isplitl [Hu] <;> iassumption
  icombine HSI H3 gives %h3
  icombine HSI H4 gives %h4
  imodintro
  isplitr; · ipureintro; exact ⟨hs, Buf.eq_of_forall_mem_univ h3, Buf.eq_of_forall_mem_univ h4⟩
  iexact HSI

set_option maxRecDepth 8000 in
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := body_obligation m) (hne := fun w => by fin_cases w <;> exact Nat.succ_pos _) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G (con m)) (G' := G' (con m)) (u₀ := u₀)
    (hu₀ := by
      unfold u₀
      iintro Hu
      ihave H := (ownU_pair _ _) $$ Hu
      icases H with ⟨HP, HX⟩
      imod (fund_ex (con m)) $$ [HX] with HG
      · unfold ER; iexact HX
      imodintro
      isplitl [HP] <;> iassumption)
    (hglob := glob (con m))
    (hA := fun _ _ => rfl) (hpf := fun _ k => k.elim0)
    (X := into m) (Y := outOf m) (Z := fun _ => iprop(emp))
    (hX := into_of m ρ) (hin := phi_in m) (hout := phi_out m)
    (QY := QY m)
    (hY := read_out m)
    (hQ := fun _ h hs => ⟨fun c => ⟨(h c).1, (h c).2.2.2⟩, sem_eq_zero hs fun c => (h c).2.2.1⟩)

/-- The arguments after the run, and the counters. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).1 0).trans ((dats m 0 c).arrAt_in 0 rfl _),
      ((h.1 c).1 1).trans ((dats m 0 c).arrAt_in 1 rfl _),
      ((h.1 c).1 2).trans ((dats m 0 c).arrAt_in 2 rfl _), (h.1 c).2.1, (h.1 c).2.2⟩, h.2⟩) (run_main m ρ)

end Cert.KernelIdeal.Run

end
-- ==== Proof.Value.Chunk.lean ====
/- What one grid point computes, element by element over the extended reals. -/
module

public import proofs.«01_k».proof.Proof.Ideal.Out
public import Idealize.ShloMosaic.Lib.Pointwise

@[expose] public section

noncomputable section

namespace Cert.KernelIdeal.Run

open Cert.KernelIdeal Cert.KernelIdeal.Gen
open Idealize.ShloMosaic Idealize.ShloMosaic.TcCoe

/-- A load of a whole buffer reads it. -/
theorem ldWq_eq (Wq : S1024x1024.Idx → EReal) : ldWq (F := Ideal) Wq = Wq := by
  funext j
  show Wq _ = Wq _
  congr 1; funext x; apply Fin.ext
  fin_cases x
  · show 0 + 1 * (j 0).val = (j 0).val; omega
  · show 0 + 1 * (j 1).val = (j 1).val; omega
theorem ldWo_eq (Wo : S1024x1024.Idx → EReal) : ldWo (F := Ideal) Wo = Wo := by
  funext j
  show Wo _ = Wo _
  congr 1; funext x; apply Fin.ext
  fin_cases x
  · show 0 + 1 * (j 0).val = (j 0).val; omega
  · show 0 + 1 * (j 1).val = (j 1).val; omega
theorem ldX_eq (X : S128x1024.Idx → EReal) : ldX (F := Ideal) X = X := by
  funext j
  show X _ = X _
  congr 1; funext x; apply Fin.ext
  fin_cases x
  · show 0 + 1 * (j 0).val = (j 0).val; omega
  · show 0 + 1 * (j 1).val = (j 1).val; omega
theorem ldQ_eq (Q : S256x1024.Idx → EReal) : ldQ (F := Ideal) Q = Q := by
  funext j
  show Q _ = Q _
  congr 1; funext x; apply Fin.ext
  fin_cases x
  · show 0 + 1 * (j 0).val = (j 0).val; omega
  · show 0 + 1 * (j 1).val = (j 1).val; omega

/-- A chunk's row, read through the flat view of the keys. -/
theorem rows_idx (h : S32768x256.numel = S32768x2x128.numel) (n : ℕ) (r : Fin 2048) (k : Fin 256) (i : S32768x256.Idx)
    (h0 : (i 0).val = 2048 * (n % 16) + r.val) (h1 : (i 1).val = k.val) :
    Shape.reshapeEquiv h i = ix3 ⟨2048 * (n % 16) + r.val, by have := r.isLt; omega⟩ ⟨k.val / 128, by have := k.isLt; omega⟩ ⟨k.val % 128, Nat.mod_lt _ (by decide)⟩ := by
  have hi : i = ix2 ⟨2048 * (n % 16) + r.val, by have := r.isLt; omega⟩ k := by
    funext a; apply Fin.ext; fin_cases a
    · exact h0
    · exact h1
  refine (congrArg _ hi).trans ?_
  pointwise

/-- The chunk of keys, in bf16, is the rows of the keys it was copied from. -/
theorem kc_apply (K : S32768x2x128.Idx → EReal) (n : ℕ) (r : Fin 2048) (k : Fin 256) :
    k0_pay43 (F := Ideal) (kChunk (F := Ideal) K n) (ix2 r k)
      = K (ix3 ⟨2048 * (n % 16) + r.val, by have := r.isLt; omega⟩ ⟨k.val / 128, by have := k.isLt; omega⟩ ⟨k.val % 128, Nat.mod_lt _ (by decide)⟩) := by
  pointwise [k0_pay43, kChunk]
  show K (Shape.reshapeEquiv _ _) = _
  rw [rows_idx _ n r k]
  · show 2048 * (n % 16) + 1 * r.val = _; omega
  · show 0 + 1 * k.val = _; omega
/-- So is the chunk of values. -/
theorem vc_apply (V : S32768x2x128.Idx → EReal) (n : ℕ) (r : Fin 2048) (k : Fin 256) :
    k0_pay44 (F := Ideal) (vChunk (F := Ideal) V n) (ix2 r k)
      = V (ix3 ⟨2048 * (n % 16) + r.val, by have := r.isLt; omega⟩ ⟨k.val / 128, by have := k.isLt; omega⟩ ⟨k.val % 128, Nat.mod_lt _ (by decide)⟩) := by
  pointwise [k0_pay44, vChunk]
  show V (Shape.reshapeEquiv _ _) = _
  rw [rows_idx _ n r k]
  · show 2048 * (n % 16) + 1 * r.val = _; omega
  · show 0 + 1 * k.val = _; omega

/-- The scaled queries, one column a row of x. -/
theorem q_apply (Wq : S1024x1024.Idx → EReal) (X : S128x1024.Idx → EReal) (a : Fin 1024) (i : Fin 128) :
    k0_pay6 (F := Ideal) Wq X (ix2 a i)
      = (∑ e : Fin 1024, Wq (ix2 e a) * X (ix2 i e)) * Ideal.ofBits .f32 0x3DB504F3#32 := by
  pointwise [k0_pay6]

/-- The weights of a chunk: the exponential of keys times queries. -/
theorem p_apply (kc : S2048x256.Idx → EReal) (q : S256x1024.Idx → EReal) (r : Fin 2048) (b : Fin 1024) :
    k0_pay1 (F := Ideal) kc q (ix2 r b) = Ideal.exp (∑ k : Fin 256, kc (ix2 r k) * q (ix2 k b)) := by
  pointwise [k0_pay1]

/-- The chunk's values times its weights. -/
theorem pv_apply (kc vc : S2048x256.Idx → EReal) (q : S256x1024.Idx → EReal) (a : Fin 256) (b : Fin 1024) :
    k0_pay3 (F := Ideal) kc vc q (ix2 a b) = ∑ r : Fin 2048, vc (ix2 r a) * k0_pay1 (F := Ideal) kc q (ix2 r b) := by
  pointwise [k0_pay3]

/-- The sums of weights grow by the chunk's. -/
theorem l_apply (kc : S2048x256.Idx → EReal) (q : S256x1024.Idx → EReal) (w : S1x1024.Idx → EReal) (b : Fin 1024) :
    k0_pay2 (F := Ideal) kc q w (ix2 0 b) = w (ix2 0 b) + ∑ r : Fin 2048, k0_pay1 (F := Ideal) kc q (ix2 r b) := by
  pointwise [k0_pay2]

/-- The two halves of the weighted sums grow by the chunk's. -/
theorem acc0_apply (kc vc : S2048x256.Idx → EReal) (q : S256x1024.Idx → EReal) (w : S128x512.Idx → EReal) (d : Fin 128) (b : Fin 512) :
    k0_pay4 (F := Ideal) kc vc q w (ix2 d b) = w (ix2 d b) + k0_pay3 (F := Ideal) kc vc q (ix2 ⟨d.val, by have := d.isLt; omega⟩ ⟨b.val, by have := b.isLt; omega⟩) := by
  pointwise [k0_pay4]
theorem acc1_apply (kc vc : S2048x256.Idx → EReal) (q : S256x1024.Idx → EReal) (w : S128x512.Idx → EReal) (d : Fin 128) (b : Fin 512) :
    k0_pay5 (F := Ideal) kc vc q w (ix2 d b) = w (ix2 d b) + k0_pay3 (F := Ideal) kc vc q (ix2 ⟨128 + d.val, by have := d.isLt; omega⟩ ⟨512 + b.val, by have := b.isLt; omega⟩) := by
  pointwise [k0_pay5]

/-! ## The buffers -/

/-- A store into a block of the queries. -/
theorem upd_q (x : S256x1024.Idx → EReal) (w : S128x128.Idx → EReal) (u v : ℕ) (h : S256x1024.Slices ![128 * u, 128 * v] S128x128) (a : Fin 256) (b : Fin 1024) :
    updateSlice x w ![128 * u, 128 * v] h (ix2 a b)
      = if a.val / 128 = u ∧ b.val / 128 = v then w (ix2 ⟨a.val % 128, Nat.mod_lt _ (by decide)⟩ ⟨b.val % 128, Nat.mod_lt _ (by decide)⟩) else x (ix2 a b) := by
  unfold updateSlice
  by_cases hc : a.val / 128 = u ∧ b.val / 128 = v
  · rw [if_pos hc, dif_pos]
    · congr 1; funext k; apply Fin.ext
      fin_cases k
      · show a.val - 128 * u = a.val % 128; omega
      · show b.val - 128 * v = b.val % 128; omega
    · intro k
      fin_cases k
      · show 128 * u ≤ a.val ∧ a.val < 128 * u + 128; omega
      · show 128 * v ≤ b.val ∧ b.val < 128 * v + 128; omega
  · rw [if_neg hc, dif_neg]
    intro h
    have a0 : 128 * u ≤ a.val ∧ a.val < 128 * u + 128 := h 0
    have a1 : 128 * v ≤ b.val ∧ b.val < 128 * v + 128 := h 1
    omega
theorem wr_q (x : S256x1024.Idx → EReal) (w : S128x128.Idx → EReal) (u v : ℕ) {off : Fin 2 → ℕ} (e : off = ![128 * u, 128 * v])
    (h : ∀ a, off a + S128x128.size a ≤ S256x1024.size a) (a : Fin 256) (b : Fin 1024) :
    ((Memref.whole cc0_scratch0).view.slice (Rect.unit (s := S256x1024) off S128x128.size h)).write (Elt Ideal) x w Finset.univ (ix2 a b)
      = if a.val / 128 = u ∧ b.val / 128 = v then w (ix2 ⟨a.val % 128, Nat.mod_lt _ (by decide)⟩ ⟨b.val % 128, Nat.mod_lt _ (by decide)⟩) else x (ix2 a b) := by
  subst e
  exact (congrFun (View.write_whole_slice_unit (Val := Elt Ideal) cc0_scratch0 ![128 * u, 128 * v] S128x128.size h x w) (ix2 a b)).trans (upd_q x w u v _ a b)

/-- The block of the queries that is not zero: head `b / 128`'s, in the rows of its key head. -/
theorem qs_apply (X : S128x1024.Idx → EReal) (Wq : S1024x1024.Idx → EReal) (a : Fin 256) (b : Fin 1024) :
    qsC (F := Ideal) X Wq (ix2 a b)
      = if a.val / 128 = b.val / 512 then k0_pay6 (F := Ideal) Wq X (ix2 ⟨128 * (b.val / 128) + a.val % 128, by have := b.isLt; omega⟩ ⟨b.val % 128, Nat.mod_lt _ (by decide)⟩) else 0 := by
  have ha := a.isLt
  have hb := b.isLt
  unfold qsC qsOver
  rw [ldWq_eq, ldX_eq]
  unfold k0_pay8
  generalize k0_pay6 (F := Ideal) Wq X = Q
  simp only [View.writes]
  refine (wr_q _ _ 1 7 (by decide) _ a b).trans ?_
  refine (congrArg (ite _ _) (wr_q _ _ 1 6 (by decide) _ a b)).trans ?_
  refine (congrArg (ite _ _) (congrArg (ite _ _) (wr_q _ _ 1 5 (by decide) _ a b))).trans ?_
  refine (congrArg (ite _ _) (congrArg (ite _ _) (congrArg (ite _ _) (wr_q _ _ 1 4 (by decide) _ a b)))).trans ?_
  refine (congrArg (ite _ _) (congrArg (ite _ _) (congrArg (ite _ _) (congrArg (ite _ _) (wr_q _ _ 0 3 (by decide) _ a b))))).trans ?_
  refine (congrArg (ite _ _) (congrArg (ite _ _) (congrArg (ite _ _) (congrArg (ite _ _) (congrArg (ite _ _) (wr_q _ _ 0 2 (by decide) _ a b)))))).trans ?_
  refine (congrArg (ite _ _) (congrArg (ite _ _) (congrArg (ite _ _) (congrArg (ite _ _) (congrArg (ite _ _) (congrArg (ite _ _) (wr_q _ _ 0 1 (by decide) _ a b))))))).trans ?_
  refine (congrArg (ite _ _) (congrArg (ite _ _) (congrArg (ite _ _) (congrArg (ite _ _) (congrArg (ite _ _) (congrArg (ite _ _) (congrArg (ite _ _) (wr_q _ _ 0 0 (by decide) _ a b)))))))).trans ?_
  have hz : k0_pay7 (F := Ideal) (ix2 a b) = 0 := by pointwise [k0_pay7]
  rw [hz]
  pointwise [k0_pay9, k0_pay10, k0_pay11, k0_pay12, k0_pay13, k0_pay14, k0_pay15, k0_pay16]
  obtain ⟨g, hg⟩ : ∃ g, b.val / 128 = g := ⟨_, rfl⟩
  have h5 : b.val / 512 = g / 4 := by omega
  have hg8 : g < 8 := by omega
  obtain ⟨t, ht⟩ : ∃ t, a.val / 128 = t := ⟨_, rfl⟩
  have ht2 : t < 2 := by omega
  simp only [h5, hg, ht]
  interval_cases g <;> interval_cases t <;> simp

end Cert.KernelIdeal.Run

end
-- ==== Proof.Value.Array.lean ====
/- What the two accumulators hold after the sixteen chunks: sums over all the device's rows. -/
module

public import proofs.«01_k».proof.Proof.Value.Chunk
public import Idealize.ShloMosaic.Lib.Pipeline.ValueKit.Acc

@[expose] public section

noncomputable section

namespace Cert.KernelIdeal.Run

open Cert.KernelIdeal Cert.KernelIdeal.Gen
open Idealize.ShloMosaic Idealize.ShloMosaic.TcCoe

section Sums
variable (X : S128x1024.Idx → EReal) (Wq : S1024x1024.Idx → EReal) (K V : S32768x2x128.Idx → EReal)

/-- The key head of a column of the accumulators: four heads of 128 columns share one. -/
def kvh (b : Fin 1024) : Fin 2 := ⟨b.val / 512, by have := b.isLt; omega⟩
/-- The kernel's score of row `r` of the keys in column `b`. -/
def ksc (r : Fin 32768) (b : Fin 1024) : EReal :=
  ∑ d : Fin 128, K (ix3 r (kvh b) d)
    * ((∑ e : Fin 1024, Wq (ix2 e ⟨128 * (b.val / 128) + d.val, by have := b.isLt; have := d.isLt; omega⟩) * X (ix2 ⟨b.val % 128, Nat.mod_lt _ (by decide)⟩ e)) * Ideal.ofBits .f32 0x3DB504F3#32)
/-- Row `r` of chunk `n`. -/
def rowOf (n : ℕ) (r : Fin 2048) : Fin 32768 := ⟨2048 * (n % 16) + r.val, by have := r.isLt; omega⟩

/-- A weight of chunk `n`: the product over 256 columns has the other key head's 128 at zero. -/
theorem weight (n : ℕ) (r : Fin 2048) (b : Fin 1024) :
    k0_pay1 (F := Ideal) (k0_pay43 (F := Ideal) (kChunk (F := Ideal) K n)) (qsC (F := Ideal) X Wq) (ix2 r b) = Ideal.exp (ksc X Wq K (rowOf n r) b) := by
  rw [p_apply, Fin.sum_univ_two_halves 128 128 rfl]
  congr 1
  have hb := b.isLt
  have key : ∀ (d : Fin 128) (o : ℕ) (ho : o + d.val < 256), o % 128 = 0 →
      k0_pay43 (F := Ideal) (kChunk (F := Ideal) K n) (ix2 r ⟨o + d.val, ho⟩) * qsC (F := Ideal) X Wq (ix2 ⟨o + d.val, ho⟩ b)
        = if o / 128 = b.val / 512 then K (ix3 (rowOf n r) (kvh b) d)
    * ((∑ e : Fin 1024, Wq (ix2 e ⟨128 * (b.val / 128) + d.val, by have := d.isLt; omega⟩) * X (ix2 ⟨b.val % 128, Nat.mod_lt _ (by decide)⟩ e)) * Ideal.ofBits .f32 0x3DB504F3#32) else 0 := by
    intro d o ho h0
    have hd := d.isLt
    rw [kc_apply, qs_apply]
    have e1 : (o + d.val) / 128 = o / 128 := by omega
    have e2 : (o + d.val) % 128 = d.val := by omega
    by_cases hc : o / 128 = b.val / 512
    · have hc' : (o + d.val) / 128 = b.val / 512 := e1.trans hc
      simp only [hc', hc, if_true, e2]
      rw [q_apply]
      rfl
    · have hc' : ¬ (o + d.val) / 128 = b.val / 512 := by omega
      simp only [hc', hc, if_false, mul_zero]
  have k0 : ∀ d : Fin 128, _ := fun d => key d 0 (by have := d.isLt; omega) rfl
  have k1 : ∀ d : Fin 128, _ := fun d => key d 128 (by have := d.isLt; omega) rfl
  simp only [Nat.zero_add] at k0
  unfold ksc
  rw [Finset.sum_congr rfl fun d _ => k0 d, Finset.sum_congr rfl fun d _ => k1 d]
  rcases (show b.val / 512 = 0 ∨ b.val / 512 = 1 by omega) with h | h
  · simp [h]
  · simp [h]

/-- The sixteen chunks' rows are all the rows. -/
theorem sum_rows (f : Fin 32768 → EReal) : ∑ n ∈ Finset.range 16, ∑ r : Fin 2048, f (rowOf n r) = ∑ r, f r := by
  have h := Fin.sum_univ_univ_mul_add 16 2048 (fun t => if h : t < 32768 then f ⟨t, h⟩ else 0)
  rw [Finset.sum_range (fun n => ∑ r : Fin 2048, f (rowOf n r))]
  refine Eq.trans ?_ (h.trans ?_)
  · refine Finset.sum_congr rfl fun s _ => Finset.sum_congr rfl fun k _ => ?_
    have := s.isLt; have := k.isLt
    rw [dif_pos (by omega)]
    congr 1; apply Fin.ext
    show 2048 * (s.val % 16) + k.val = s.val * 2048 + k.val
    omega
  · show ∑ l : Fin 32768, _ = _
    refine Finset.sum_congr rfl fun l _ => ?_
    rw [dif_pos l.isLt]

/-! ## One chunk's stores -/

theorem upd_l (x : S8x1024.Idx → EReal) (w : S1x1024.Idx → EReal) (h : S8x1024.Slices ![0, 0] S1x1024) (b : Fin 1024) :
    updateSlice x w ![0, 0] h (ix2 0 b) = w (ix2 0 b) := by
  unfold updateSlice
  rw [dif_pos]
  · congr 1; funext a; fin_cases a <;> rfl
  · intro a
    fin_cases a
    · exact ⟨Nat.le_refl 0, by show 0 < 0 + 1; omega⟩
    · exact ⟨Nat.zero_le _, by have := b.isLt; show b.val < 0 + 1024; omega⟩
/-- A write of a half of the accumulator, at one entry. -/
theorem upd_a (x : S128x1024.Idx → EReal) (w : S128x512.Idx → EReal) (o : ℕ) (h : S128x1024.Slices ![0, o] S128x512) (d : Fin 128) (b : Fin 1024) :
    updateSlice x w ![0, o] h (ix2 d b) = if hc : o ≤ b.val ∧ b.val < o + 512 then w (ix2 d ⟨b.val - o, by omega⟩) else x (ix2 d b) := by
  unfold updateSlice
  have hd := d.isLt
  by_cases hc : o ≤ b.val ∧ b.val < o + 512
  · rw [dif_pos hc, dif_pos]
    · congr 1; funext a; fin_cases a <;> rfl
    · intro a
      fin_cases a
      · exact ⟨Nat.zero_le _, by show d.val < 0 + 128; omega⟩
      · exact hc
  · rw [dif_neg hc, dif_neg]
    intro h
    exact hc (h 1)

variable (kc vc : FVec Ideal S2048x256 .bf16) (q : Vec Ideal S256x1024 .bf16)

/-- One chunk adds each column's weights to row 0. -/
theorem lW_apply (L : S8x1024.Idx → EReal) (b : Fin 1024) :
    lW (F := Ideal) kc q L (ix2 0 b) = L (ix2 0 b) + ∑ r : Fin 2048, k0_pay1 (F := Ideal) kc q (ix2 r b) := by
  unfold lW
  simp only [View.writes]
  refine (congrFun (View.write_whole_slice_unit (Val := Elt Ideal) cc0_scratch2 ![0, 0] S1x1024.size _ L _) (ix2 0 b)).trans ((upd_l L _ _ b).trans ((l_apply kc q _ b).trans ?_))
  congr 1
  show L _ = L _
  congr 1; funext a; apply Fin.ext
  fin_cases a
  · rfl
  · show 0 + 1 * b.val = b.val; omega

/-- One chunk adds each column's weighted values: columns below 512 with the first 128 value columns, the others with the last. -/
theorem accW_apply (A : S128x1024.Idx → EReal) (d : Fin 128) (b : Fin 1024) :
    accW (F := Ideal) kc vc q A (ix2 d b) = A (ix2 d b) + ∑ r : Fin 2048, vc (ix2 r ⟨128 * (b.val / 512) + d.val, by have := b.isLt; have := d.isLt; omega⟩) * k0_pay1 (F := Ideal) kc q (ix2 r b) := by
  have hb := b.isLt
  unfold accW
  simp only [View.writes]
  refine (congrFun (View.write_whole_slice_unit (Val := Elt Ideal) cc0_scratch1 ![0, 512] S128x512.size _ _ _) (ix2 d b)).trans ((upd_a _ _ 512 _ d b).trans ?_)
  by_cases hc : 512 ≤ b.val
  · rw [dif_pos ⟨hc, by omega⟩]
    refine (acc1_apply kc vc q _ d _).trans ?_
    rw [pv_apply]
    have e : 512 + (b.val - 512) = b.val := by omega
    have e2 : b.val / 512 = 1 := by omega
    simp only [e, e2, Nat.mul_one]
    congr 1
    show A _ = A _
    congr 1; funext a; apply Fin.ext
    fin_cases a
    · show 0 + 1 * d.val = d.val; omega
    · show 512 + 1 * (b.val - 512) = b.val; omega
  · rw [dif_neg (by omega)]
    refine (congrFun (View.write_whole_slice_unit (Val := Elt Ideal) cc0_scratch1 ![0, 0] S128x512.size _ A _) (ix2 d b)).trans ((upd_a _ _ 0 _ d b).trans ?_)
    rw [dif_pos ⟨Nat.zero_le _, by omega⟩]
    refine (acc0_apply kc vc q _ d _).trans ?_
    rw [pv_apply]
    have e2 : b.val / 512 = 0 := by omega
    simp only [e2, Nat.mul_zero, Nat.zero_add, Nat.sub_zero]
    congr 1
    show A _ = A _
    congr 1; funext a; apply Fin.ext
    fin_cases a
    · show 0 + 1 * d.val = d.val; omega
    · show 0 + 1 * (b.val - 0) = b.val; omega

/-! ## After all the chunks -/

theorem lAt_chunks (n : ℕ) (b : Fin 1024) :
    lAt (F := Ideal) X Wq K n (ix2 0 b) = ∑ m ∈ Finset.range n, ∑ r : Fin 2048, Ideal.exp (ksc X Wq K (rowOf m r) b) := by
  induction n with
  | zero =>
    rw [Finset.sum_range_zero]
    show k0_pay42 (F := Ideal) (ix2 0 b) = 0
    pointwise [k0_pay42]
  | succ n ih =>
    rw [Finset.sum_range_succ, ← ih]
    refine (lW_apply _ _ _ b).trans ?_
    congr 1
    refine Finset.sum_congr rfl fun r _ => ?_
    rw [ldQ_eq]
    exact weight X Wq K n r b
theorem accAt_chunks (n : ℕ) (d : Fin 128) (b : Fin 1024) :
    accAt (F := Ideal) X Wq K V n (ix2 d b) = ∑ m ∈ Finset.range n, ∑ r : Fin 2048, V (ix3 (rowOf m r) (kvh b) d) * Ideal.exp (ksc X Wq K (rowOf m r) b) := by
  have hb := b.isLt
  have hd := d.isLt
  induction n with
  | zero =>
    rw [Finset.sum_range_zero]
    show k0_pay41 (k0_pay17 (F := Ideal)) (ix2 d b) = 0
    pointwise [k0_pay41, k0_pay17]
  | succ n ih =>
    rw [Finset.sum_range_succ, ← ih]
    refine (accW_apply _ _ _ _ d b).trans ?_
    congr 1
    refine Finset.sum_congr rfl fun r _ => ?_
    rw [ldQ_eq, weight X Wq K n r b, vc_apply]
    congr 1
    show V _ = V _
    congr 1; funext a; apply Fin.ext
    fin_cases a
    · rfl
    · show (128 * (b.val / 512) + d.val) / 128 = b.val / 512; omega
    · show (128 * (b.val / 512) + d.val) % 128 = d.val; omega
/-- Row 0 of the sums of weights, at the end. -/
theorem lAt_end (b : Fin 1024) : lAt (F := Ideal) X Wq K 16 (ix2 0 b) = ∑ r, Ideal.exp (ksc X Wq K r b) :=
  (lAt_chunks X Wq K 16 b).trans (sum_rows fun r => Ideal.exp (ksc X Wq K r b))
/-- The sums of weighted values, at the end. -/
theorem accAt_end (d : Fin 128) (b : Fin 1024) :
    accAt (F := Ideal) X Wq K V 16 (ix2 d b) = ∑ r, V (ix3 r (kvh b) d) * Ideal.exp (ksc X Wq K r b) :=
  (accAt_chunks X Wq K V 16 d b).trans (sum_rows fun r => V (ix3 r (kvh b) d) * Ideal.exp (ksc X Wq K r b))
end Sums

end Cert.KernelIdeal.Run

end
-- ==== Proof.Value.Math.lean ====
/- Sums of extended reals: what the softmax's shift by the row's maximum does to the quotient of the weighted sum and the sum of the weights. -/
module

public import Idealize.ShloMosaic.PureOps.Ideal
public import Idealize.ShloMosaic.PureOps.Ideal.Laws

@[expose] public section

noncomputable section

namespace Cert.Val

open Idealize.ShloMosaic

/-- A real that is not negative goes into a sum of extended reals. -/
theorem mul_sum {ι : Type*} (a : ℝ) (ha : 0 ≤ a) (S : Finset ι) (f : ι → EReal) : (a : EReal) * ∑ i ∈ S, f i = ∑ i ∈ S, (a : EReal) * f i := by
  classical
  refine Finset.induction_on S (by simp) fun i T hi h => ?_
  rw [Finset.sum_insert hi, Finset.sum_insert hi,
    EReal.left_distrib_of_nonneg_of_ne_top (EReal.coe_nonneg.mpr ha) (EReal.coe_ne_top a), h]

/-- A sum of reals, read as an extended real. -/
theorem coe_sum {ι : Type*} (S : Finset ι) (f : ι → ℝ) : ∑ i ∈ S, ((f i : ℝ) : EReal) = ((∑ i ∈ S, f i : ℝ) : EReal) := by
  classical
  refine Finset.induction_on S (by simp) fun i T hi h => ?_
  rw [Finset.sum_insert hi, Finset.sum_insert hi, h, EReal.coe_add]

/-- The greatest of reals, from below all of them, is a real. -/
theorem max_real {ι : Type*} [DecidableEq ι] (S : Finset ι) (hS : S.Nonempty) (f : ι → ℝ) : ∃ M : ℝ, S.fold max (⊥ : EReal) (fun i => (f i : EReal)) = (M : EReal) := by
  have key : ∀ T : Finset ι, T.fold max (⊥ : EReal) (fun i => (f i : EReal)) = ⊥ ∧ T = ∅ ∨ ∃ M : ℝ, T.fold max (⊥ : EReal) (fun i => (f i : EReal)) = (M : EReal) := by
    intro T
    refine Finset.induction_on T (Or.inl ⟨rfl, rfl⟩) fun i T hi h => Or.inr ?_
    rw [Finset.fold_insert hi]
    rcases h with ⟨h, -⟩ | ⟨M, h⟩
    · exact ⟨f i, by rw [h]; exact max_eq_left bot_le⟩
    · exact ⟨max (f i) M, by rw [h]; exact (EReal.coe_strictMono.monotone.map_max).symm⟩
  rcases key S with ⟨-, h⟩ | h
  · exact absurd h hS.ne_empty
  · exact h

/-- A quotient whose two parts have a positive real factor in common. -/
theorem div_scaled (a l : ℝ) (ha : 0 < a) (hl : 0 < l) (x : EReal) : Ideal.div ((a : EReal) * x) ((a * l : ℝ) : EReal) = Ideal.div x (l : EReal) := by
  have hal : (a * l) ≠ 0 := (mul_pos ha hl).ne'
  rw [Ideal.div_coe hal, Ideal.div_coe hl.ne', mul_comm (a : EReal) x, mul_assoc, ← EReal.coe_mul]
  congr 2
  field_simp

/-- Weights shifted by a real leave the weighted mean as it is, the values any extended reals. -/
theorem shift {ι : Type*} [Fintype ι] [Nonempty ι] (s : ι → ℝ) (v : ι → EReal) (M : ℝ) :
    Ideal.div (∑ j, v j * Ideal.exp ((s j : EReal) - (M : EReal))) (∑ j, Ideal.exp ((s j : EReal) - (M : EReal)))
      = Ideal.div (∑ j, v j * Ideal.exp (s j : EReal)) (∑ j, Ideal.exp (s j : EReal)) := by
  have e : ∀ j, Ideal.exp ((s j : EReal) - (M : EReal)) = ((Real.exp (-M) * Real.exp (s j) : ℝ) : EReal) := fun j => by
    rw [← EReal.coe_sub, Ideal.exp_coe, ← Real.exp_add]; congr 2; ring
  have hl : 0 < ∑ j, Real.exp (s j) := Finset.sum_pos (fun _ _ => Real.exp_pos _) Finset.univ_nonempty
  simp only [e, Ideal.exp_coe]
  rw [coe_sum, coe_sum, ← Finset.mul_sum, ← div_scaled (Real.exp (-M)) _ (Real.exp_pos _) hl, mul_sum _ (Real.exp_pos _).le]
  congr 1
  refine Finset.sum_congr rfl fun j _ => ?_
  rw [EReal.coe_mul, ← mul_assoc, ← mul_assoc, mul_comm (v j)]

/-- Four devices' terms added in the cyclic order from `c`, on top of zero. -/
theorem four (a : Fin 4 → EReal) (c : Fin 4) (p : Fin 4 → Fin 4) (hp : ∀ k, (p k).val = (c.val + k.val) % 4) :
    ((a (p 0) + a (p 1)) + a (p 2)) + a (p 3) = ∑ s, a s := by
  have h : ∀ k, p k = ⟨(c.val + k.val) % 4, Nat.mod_lt _ (by decide)⟩ := fun k => Fin.ext (hp k)
  rw [h 0, h 1, h 2, h 3, Fin.sum_univ_four]
  fin_cases c
  · rfl
  · show a 1 + a 2 + a 3 + a 0 = _; ac_rfl
  · show a 2 + a 3 + a 0 + a 1 = _; ac_rfl
  · show a 3 + a 0 + a 1 + a 2 = _; ac_rfl

end Cert.Val

end
-- ==== Proof.Value.Sum.lean ====
/- What the exchange gives: each head's quotient over all the devices' rows, and the product with the output matrix. -/
module

public import proofs.«01_k».proof.Proof.Value.Array
public import proofs.«01_k».proof.Proof.Value.Math
public import proofs.«01_k».proof.Proof.Ideal.Phi

@[expose] public section

noncomputable section

namespace Cert.KernelIdeal.Run

open Cert.KernelIdeal Cert.KernelIdeal.Gen
open Idealize.ShloMosaic Idealize.ShloMosaic.TcCoe

/-- An index of the exchanged sums. -/
def ixG (s : Dev nD) (r : Fin 2) (d : Fin 128) (q : Fin 512) : S4x2x128x512.Idx := fun x => match x with
  | ⟨0, _⟩ => s
  | ⟨1, _⟩ => r
  | ⟨2, _⟩ => d
  | ⟨3, _⟩ => q
def ixH (s : Dev nD) (r : Fin 2) (q : Fin 512) : S4x2x8x512.Idx := fun x => match x with
  | ⟨0, _⟩ => s
  | ⟨1, _⟩ => r
  | ⟨2, _⟩ => (0 : Fin 8)
  | ⟨3, _⟩ => q

/-- Half `r` of a device's slot is columns `512r …` of its accumulator. -/
theorem aOf_apply (A : S128x1024.Idx → EReal) (s : Dev nD) (r : Fin 2) (d : Fin 128) (q : Fin 512) :
    aOf (F := Ideal) A (ixG s r d q) = A (ix2 d ⟨512 * r.val + q.val, by have := r.isLt; have := q.isLt; omega⟩) := by
  have e : ixA d q = (ix4 0 0 d q : S1x1x128x512.Idx) := by funext a; fin_cases a <;> rfl
  unfold aOf
  fin_cases r
  · refine (if_pos rfl).trans ?_
    show k0_pay18 (F := Ideal) _ (ixA d q) = _
    rw [e]
    pointwise [k0_pay18]
    show A _ = A _
    congr 1; funext a; apply Fin.ext
    fin_cases a
    · show 0 + 1 * d.val = d.val; omega
    · show 0 + 1 * q.val = q.val; omega
  · refine (if_neg Nat.one_ne_zero).trans ?_
    show k0_pay20 (F := Ideal) _ (ixA d q) = _
    rw [e]
    pointwise [k0_pay20]
    show A _ = A _
    congr 1; funext a; apply Fin.ext
    fin_cases a
    · show 0 + 1 * d.val = d.val; omega
    · show 512 + 1 * q.val = 512 + q.val; omega
theorem lOf_apply (L : S8x1024.Idx → EReal) (s : Dev nD) (r : Fin 2) (q : Fin 512) :
    lOf (F := Ideal) L (ixH s r q) = L (ix2 0 ⟨512 * r.val + q.val, by have := r.isLt; have := q.isLt; omega⟩) := by
  have e : ixL q = (ix4 0 0 0 q : S1x1x1x512.Idx) := by funext a; fin_cases a <;> rfl
  unfold lOf
  fin_cases r
  · refine (if_pos rfl).trans ?_
    show k0_pay19 (F := Ideal) _ (ixL q) = _
    rw [e]
    pointwise [k0_pay19]
    show L _ = L _
    congr 1; funext a; apply Fin.ext
    fin_cases a
    · rfl
    · show 0 + 1 * q.val = q.val; omega
  · refine (if_neg Nat.one_ne_zero).trans ?_
    show k0_pay21 (F := Ideal) _ (ixL q) = _
    rw [e]
    pointwise [k0_pay21]
    show L _ = L _
    congr 1; funext a; apply Fin.ext
    fin_cases a
    · rfl
    · show 512 + 1 * q.val = 512 + q.val; omega

/-! ## The sums over the devices -/

section Heads
variable (C : Con Ideal) (c : Dev nD)

theorem hA_apply (s : Dev nD) (r : Fin 2) (d : Fin 128) (q : Fin 512) : hA (F := Ideal) C.aG s r (ix4 0 0 d q) = C.aG (ixG s r d q) := rfl
theorem hL_apply (s : Dev nD) (r : Fin 2) (q : Fin 512) : hL (F := Ideal) C.lG s r (ix4 0 0 0 q) = C.lG (ixH s r q) := rfl

/-- The quotient of one half at one entry. -/
def quo (r : Fin 2) (d : Fin 128) (q : Fin 512) : EReal := Ideal.div (∑ s : Fin 4, C.aG (ixG s r d q)) (∑ s : Fin 4, C.lG (ixH s r q))

theorem u26_apply (d : Fin 128) (q : Fin 512) : u26 (F := Ideal) C c (ix2 d q) = quo C 0 d q := by
  unfold u26
  pointwise [k0_pay26, k0_pay25, k0_pay24, k0_pay23]
  exact congrArg₂ Ideal.div (Cert.Val.four (fun s => C.aG (ixG s 0 d q)) c (pr c) fun k => rfl) (Cert.Val.four (fun s => C.lG (ixH s 0 q)) c (pr c) fun k => rfl)
theorem u34_apply (d : Fin 128) (q : Fin 512) : u34 (F := Ideal) C c (ix2 d q) = quo C 1 d q := by
  unfold u34
  pointwise [k0_pay34, k0_pay33, k0_pay32]
  exact congrArg₂ Ideal.div (Cert.Val.four (fun s => C.aG (ixG s 1 d q)) c (pr c) fun k => rfl) (Cert.Val.four (fun s => C.lG (ixH s 1 q)) c (pr c) fun k => rfl)

/-- A head's block at one entry is the quotient of its half, in its 128 columns. -/
theorem headC_apply (h : Fin 8) (d i : Fin 128) :
    headC (F := Ideal) C c h.val (ix2 d i) = quo C ⟨h.val / 4, by have := h.isLt; omega⟩ d ⟨128 * (h.val % 4) + i.val, by have := i.isLt; omega⟩ := by
  have H0 : ∀ (q : Fin 512) (o : ℕ), q.val = 128 * o + i.val → ∀ (hq : 128 * (o % 4) + i.val < 512) , o < 4 → u26 (F := Ideal) C c (ix2 d q) = quo C 0 d ⟨128 * (o % 4) + i.val, hq⟩ := fun q o e hq ho => by
    rw [u26_apply]; congr 1; apply Fin.ext; show q.val = 128 * (o % 4) + i.val; omega
  have H1 : ∀ (q : Fin 512) (o : ℕ), q.val = 128 * o + i.val → ∀ (hq : 128 * ((o + 4) % 4) + i.val < 512) , o < 4 → u34 (F := Ideal) C c (ix2 d q) = quo C 1 d ⟨128 * ((o + 4) % 4) + i.val, hq⟩ := fun q o e hq ho => by
    rw [u34_apply]; congr 1; apply Fin.ext; show q.val = 128 * ((o + 4) % 4) + i.val; omega
  fin_cases h
  · show u27 (F := Ideal) C c (ix2 d i) = _
    refine Eq.trans ?_ (H0 ⟨i.val, by have := i.isLt; omega⟩ 0 (by show i.val = 128 * 0 + i.val; omega) _ (by decide))
    unfold u27 u26
    pointwise [k0_pay27]
  · show k0_pay29 (u28 (F := Ideal) C c) (ix2 d i) = _
    refine Eq.trans ?_ (H0 ⟨128 + i.val, by have := i.isLt; omega⟩ 1 (by show 128 + i.val = 128 * 1 + i.val; omega) _ (by decide))
    unfold u28 u26
    pointwise [k0_pay28, k0_pay29]
  · show k0_pay30 (u26 (F := Ideal) C c) (ix2 d i) = _
    refine Eq.trans ?_ (H0 ⟨256 + i.val, by have := i.isLt; omega⟩ 2 (by show 256 + i.val = 128 * 2 + i.val; omega) _ (by decide))
    pointwise [k0_pay30]
  · show k0_pay31 (u26 (F := Ideal) C c) (ix2 d i) = _
    refine Eq.trans ?_ (H0 ⟨384 + i.val, by have := i.isLt; omega⟩ 3 (by show 384 + i.val = 128 * 3 + i.val; omega) _ (by decide))
    pointwise [k0_pay31]
  · show u35 (F := Ideal) C c (ix2 d i) = _
    refine Eq.trans ?_ (H1 ⟨i.val, by have := i.isLt; omega⟩ 0 (by show i.val = 128 * 0 + i.val; omega) _ (by decide))
    unfold u35 u34
    pointwise [k0_pay35]
  · show u36 (F := Ideal) C c (ix2 d i) = _
    refine Eq.trans ?_ (H1 ⟨128 + i.val, by have := i.isLt; omega⟩ 1 (by show 128 + i.val = 128 * 1 + i.val; omega) _ (by decide))
    unfold u36 u34
    pointwise [k0_pay36]
  · show k0_pay38 (u37 (F := Ideal) C c) (ix2 d i) = _
    refine Eq.trans ?_ (H1 ⟨256 + i.val, by have := i.isLt; omega⟩ 2 (by show 256 + i.val = 128 * 2 + i.val; omega) _ (by decide))
    unfold u37 u34
    pointwise [k0_pay37, k0_pay38]
  · show k0_pay39 (u34 (F := Ideal) C c) (ix2 d i) = _
    refine Eq.trans ?_ (H1 ⟨384 + i.val, by have := i.isLt; omega⟩ 3 (by show 384 + i.val = 128 * 3 + i.val; omega) _ (by decide))
    pointwise [k0_pay39]

/-- The output at one entry: the product over the 1024 rows of the heads' buffer. -/
theorem outC_apply (Wo : S1024x1024.Idx → EReal) (i : Fin 128) (e : Fin 1024) :
    (outC (F := Ideal) C c Wo : S128x1024.Idx → EReal) (ix2 i e) = (∑ k : Fin 1024,
      quo C ⟨k.val / 512, by have := k.isLt; omega⟩ ⟨k.val % 128, Nat.mod_lt _ (by decide)⟩ ⟨128 * (k.val / 128 % 4) + i.val, by have := i.isLt; omega⟩ * Wo (ix2 k e) : EReal) := by
  unfold outC
  rw [ldWo_eq]
  pointwise [k0_pay40, k0_pay22]
  refine Finset.sum_congr (M := EReal) rfl fun k _ => ?_
  congr 1
  have hk := k.isLt
  have ee : ixO ⟨k.val % 128, Nat.mod_lt _ (by decide)⟩ i = ix2 ⟨k.val % 128, Nat.mod_lt _ (by decide)⟩ i := by funext a; fin_cases a <;> rfl
  refine (congrArg (headC (F := Ideal) C c (k.val / 128)) ee).trans ((headC_apply C c ⟨k.val / 128, by omega⟩ _ i).trans ?_)
  congr 1
  apply Fin.ext
  show k.val / 128 / 4 = k.val / 512
  omega

end Heads

/-! ## In terms of the devices' arrays -/

section Whole
variable (m : (ℓ : Loc nD τ sig) → Buf (Elt Ideal) ℓ) (c : Dev nD)

/-- The column of the accumulators that row `k` of the heads' buffer and token `i` share. -/
def colOf (k : Fin 1024) (i : Fin 128) : Fin 1024 := ⟨128 * (k.val / 128) + i.val, by have := k.isLt; have := i.isLt; omega⟩

/-- What a device leaves in its output, from every device's arrays. -/
theorem out_arrays (i : Fin 128) (e : Fin 1024) :
    (outC (F := Ideal) (con m) c (gWo m c) : S128x1024.Idx → EReal) (ix2 i e) = (∑ k : Fin 1024,
      Ideal.div (∑ s : Fin 4, ∑ r, (gV m s : S32768x2x128.Idx → EReal) (ix3 r (kvh k) ⟨k.val % 128, Nat.mod_lt _ (by decide)⟩) * Ideal.exp (ksc (gX m s) (gWq m s) (gK m s) r (colOf k i)))
        (∑ s : Fin 4, ∑ r, Ideal.exp (ksc (gX m s) (gWq m s) (gK m s) r (colOf k i)))
      * (gWo m c : S1024x1024.Idx → EReal) (ix2 k e) : EReal) := by
  refine (outC_apply (con m) c (gWo m c) i e).trans (Finset.sum_congr (M := EReal) rfl fun k _ => ?_)
  have hk := k.isLt
  have hi := i.isLt
  have hcol : ∀ h, (⟨512 * (k.val / 512) + (128 * (k.val / 128 % 4) + i.val), h⟩ : Fin 1024) = colOf k i := fun h => Fin.ext (by
    show 512 * (k.val / 512) + (128 * (k.val / 128 % 4) + i.val) = 128 * (k.val / 128) + i.val; omega)
  have hkv : kvh (colOf k i) = kvh k := Fin.ext (by
    show (128 * (k.val / 128) + i.val) / 512 = k.val / 512; omega)
  refine congrArg (fun a : EReal => a * (gWo m c : S1024x1024.Idx → EReal) (ix2 k e)) ?_
  unfold quo
  refine congrArg₂ Ideal.div ?_ ?_
  · refine Finset.sum_congr rfl fun s _ => ?_
    refine (aOf_apply (accAt (F := Ideal) (gX m s) (gWq m s) (gK m s) (gV m s) 16) s _ _ _).trans ?_
    rw [hcol, accAt_end, hkv]
  · refine Finset.sum_congr rfl fun s _ => ?_
    refine (lOf_apply (lAt (F := Ideal) (gX m s) (gWq m s) (gK m s) 16) s _ _).trans ?_
    rw [hcol, lAt_end]

end Whole

end Cert.KernelIdeal.Run

end
-- ==== Proof.Value.Ref.lean ====
/- What the reference's result is at each entry. -/
module

public import proofs.«01_k».proof.Proof.Gen.ReferenceIdeal.Run
public import Idealize.ShloMosaic.Lib.Pointwise

@[expose] public section

noncomputable section

namespace Cert.ReferenceIdeal.Read

open Cert.ReferenceIdeal Cert.ReferenceIdeal.Gen Idealize.ShloMosaic Idealize.ShloMosaic.TcCoe

variable (X : FVec Ideal S128x1024 .f32) (Wq Wo : FVec Ideal S1024x1024 .f32) (K V : FVec Ideal S131072x2x128 .f32)

/-- The scores: head, token, row. -/
def sT : FVec Ideal S8x128x131072 .f32 := mulf (Host.dotGeneral dot_S128x8x128_S131072x8x128_S8x128x131072_2_2_0_0_1_1 none (shapeCast _ (Host.dotGeneral dot_S128x1024_S1024x1024_S128x1024_1_0_0_1_n_n none X Wq) shapeCasts_S128x1024_S128x8x128) (shapeCast _ (broadcastInDim S131072x2x4x128 ![0, 1, 3] bcast_S131072x2x128_S131072x2x4x128_0_1_3 K) shapeCasts_S131072x2x4x128_S131072x8x128)) (broadcastInDim S8x128x131072 ![] bcast_S_S8x128x131072 (constant S_ .f32 0x3DB504F3#32))
/-- The weights before the division. -/
def pT : FVec Ideal S8x128x131072 .f32 := Host.exp (subf (sT X Wq K) (broadcastInDim S8x128x131072 ![0, 1, 2] bcast_S8x128x1_S8x128x131072_0_1_2 (broadcastInDim S8x128x1 ![0, 1] bcast_S8x128_S8x128x1_0_1 (Host.reduce FloatOps.maximumf (sT X Wq K) (constant S_ .f32 0xFF800000#32) reducesTo_S8x128x131072_S8x128_d2 h_S_))))
/-- The result. -/
def rT : FVec Ideal S128x1024 .f32 := Host.dotGeneral dot_S128x1024_S1024x1024_S128x1024_1_0_0_1_n_n none (shapeCast _ (Host.divf (transpose S128x8x128 [2, 0, 1] (Host.dotGeneral dot_S131072x8x128_S8x128x131072_S8x128x128_0_2_2_1_1_0 none (shapeCast _ (broadcastInDim S131072x2x4x128 ![0, 1, 3] bcast_S131072x2x128_S131072x2x4x128_0_1_3 V) shapeCasts_S131072x2x4x128_S131072x8x128) (pT X Wq K)) transposes_S8x128x128_S128x8x128_2_0_1) (broadcastInDim S128x8x128 ![0, 1, 2] bcast_S128x8x1_S128x8x128_0_1_2 (transpose S128x8x1 [1, 0, 2] (broadcastInDim S8x128x1 ![0, 1] bcast_S8x128_S8x128x1_0_1 (Host.reduceAdd (pT X Wq K) (constant S_ .f32 0x00000000#32) reducesTo_S8x128x131072_S8x128_d2 h_S_)) transposes_S8x128x1_S128x8x1_1_0_2))) shapeCasts_S128x8x128_S128x1024) Wo

/-- A score: the query's entry against the key's, over a head's 128 columns, scaled. Four heads share a key head. -/
theorem sT_apply (h : Fin 8) (i : Fin 128) (j : Fin 131072) :
    sT X Wq K (ix3 h i j) = (∑ d : Fin 128, (∑ e : Fin 1024, X (ix2 i e) * Wq (ix2 e ⟨h.val * 128 + d.val, by have := h.isLt; have := d.isLt; omega⟩))
      * K (ix3 j ⟨h.val / 4, by have := h.isLt; omega⟩ d)) * Ideal.ofBits .f32 0x3DB504F3#32 := by
  unfold sT
  pointwise
/-- A weight: the exponential of the score less the largest score of its head and token. -/
theorem pT_apply (h : Fin 8) (i : Fin 128) (j : Fin 131072) :
    pT X Wq K (ix3 h i j) = Ideal.exp (sT X Wq K (ix3 h i j) - Finset.univ.fold max ⊥ fun x => sT X Wq K (ix3 h i x)) := by
  unfold pT
  pointwise
  rw [show Ideal.ofBits .f32 0xFF800000#32 = ⊥ by simp [Ideal.ofBits, Ideal.ieee]]
/-- The result: the weighted mean of the values for each head and column, times the output matrix. -/
theorem rT_apply (i : Fin 128) (e : Fin 1024) :
    rT X Wq Wo K V (ix2 i e) = ∑ k : Fin 1024,
      Ideal.div (∑ j : Fin 131072, V (ix3 j ⟨k.val / 128 / 4, by have := k.isLt; omega⟩ ⟨k.val % 128, Nat.mod_lt _ (by decide)⟩) * pT X Wq K (ix3 ⟨k.val / 128, by have := k.isLt; omega⟩ i j))
        (∑ j : Fin 131072, pT X Wq K (ix3 ⟨k.val / 128, by have := k.isLt; omega⟩ i j)) * Wo (ix2 k e) := by
  unfold rT
  pointwise

end Cert.ReferenceIdeal.Read

end
-- ==== Proof.Value.Eqn.lean ====
/- The equation: the kernel's quotient over the four devices' rows is the reference's over all the rows, given real scores. -/
module

public import proofs.«01_k».proof.Proof.Value.Sum
public import proofs.«01_k».proof.Proof.Value.Ref

@[expose] public section

noncomputable section

namespace Cert.Val

open Idealize.ShloMosaic Idealize.ShloMosaic.TcCoe
open Cert.KernelIdeal.Run (ksc kvh colOf)
open Cert.ReferenceIdeal.Read (sT pT rT sT_apply pT_apply rT_apply)

/-- The scale is a real number. -/
theorem scale_real : ∃ c : ℝ, Ideal.ofBits .f32 0x3DB504F3#32 = (c : EReal) := by
  simp only [Ideal.ofBits, Ideal.ieee]
  split_ifs <;> first
    | exact ⟨_, rfl⟩
    | exact absurd ‹(BitVec.extractLsb' 23 8 0x3DB504F3#32).toNat = 2 ^ 8 - 1› (by decide)

/-- Row `r` of device `s`, among all the rows. -/
def rowAt (s : Fin 4) (r : Fin 32768) : Fin 131072 := ⟨s.val * 32768 + r.val, by have := s.isLt; have := r.isLt; omega⟩

/-- The four devices' rows are all the rows. -/
theorem sum_devices (f : Fin 131072 → EReal) : ∑ s : Fin 4, ∑ r : Fin 32768, f (rowAt s r) = ∑ j, f j := by
  have h := Fin.sum_univ_univ_mul_add 4 32768 (fun t => if h : t < 131072 then f ⟨t, h⟩ else 0)
  refine Eq.trans ?_ (h.trans ?_)
  · refine Finset.sum_congr rfl fun s _ => Finset.sum_congr rfl fun k _ => ?_
    have := s.isLt; have := k.isLt
    rw [dif_pos (by omega)]
    rfl
  · show ∑ l : Fin 131072, _ = _
    refine Finset.sum_congr rfl fun l _ => ?_
    rw [dif_pos l.isLt]

section
variable (X : (⟨2, ![128, 1024]⟩ : Shape).Idx → EReal) (Wq Wo : (⟨2, ![1024, 1024]⟩ : Shape).Idx → EReal) (K V : (⟨3, ![131072, 2, 128]⟩ : Shape).Idx → EReal)
variable (Ks Vs : Fin 4 → (⟨3, ![32768, 2, 128]⟩ : Shape).Idx → EReal)
variable (x : (⟨2, ![128, 1024]⟩ : Shape).Idx → ℝ) (wq : (⟨2, ![1024, 1024]⟩ : Shape).Idx → ℝ) (k : (⟨3, ![131072, 2, 128]⟩ : Shape).Idx → ℝ) (c : ℝ)

/-- A score over the reals. -/
def score (h : Fin 8) (i : Fin 128) (j : Fin 131072) : ℝ :=
  (∑ d : Fin 128, (∑ e : Fin 1024, x (ix2 i e) * wq (ix2 e ⟨h.val * 128 + d.val, by have := h.isLt; have := d.isLt; omega⟩))
    * k (ix3 j ⟨h.val / 4, by have := h.isLt; omega⟩ d)) * c

/-- The reference's score is that real. -/
theorem ref_score (hc : Ideal.ofBits .f32 0x3DB504F3#32 = (c : EReal)) (h : Fin 8) (i : Fin 128) (j : Fin 131072) :
    sT (fun a => (x a : EReal)) (fun a => (wq a : EReal)) (fun a => (k a : EReal)) (ix3 h i j) = (score x wq k c h i j : EReal) := by
  rw [sT_apply, hc]
  simp only [← EReal.coe_mul, coe_sum]
  rfl

/-- The kernel's score of a device's row is that real of the row among all. -/
theorem ker_score (hc : Ideal.ofBits .f32 0x3DB504F3#32 = (c : EReal)) (K1 : (⟨3, ![32768, 2, 128]⟩ : Shape).Idx → EReal) (s : Fin 4)
    (hK : ∀ r g d, K1 (ix3 r g d) = ((k (ix3 (rowAt s r) g d) : ℝ) : EReal)) (n : Fin 1024) (i : Fin 128) (r : Fin 32768) :
    ksc (fun a => (x a : EReal)) (fun a => (wq a : EReal)) K1 r (colOf n i) = (score x wq k c ⟨n.val / 128, by have := n.isLt; omega⟩ i (rowAt s r) : EReal) := by
  have hn := n.isLt
  have hi := i.isLt
  unfold ksc
  rw [hc]
  simp only [hK, ← EReal.coe_mul, coe_sum]
  congr 1
  unfold score
  rw [Finset.sum_mul]
  refine Finset.sum_congr rfl fun d _ => ?_
  have hd := d.isLt
  have e1 : kvh (colOf n i) = ⟨n.val / 128 / 4, by omega⟩ := Fin.ext (by
    show (128 * (n.val / 128) + i.val) / 512 = n.val / 128 / 4; omega)
  have e2 : ∀ h, (⟨(colOf n i).val % 128, h⟩ : Fin 128) = i := fun h => Fin.ext (by
    show (128 * (n.val / 128) + i.val) % 128 = i.val; omega)
  have e3 : ∀ h h', (⟨128 * ((colOf n i).val / 128) + d.val, h⟩ : Fin 1024) = ⟨n.val / 128 * 128 + d.val, h'⟩ := fun h h' => Fin.ext (by
    show 128 * ((128 * (n.val / 128) + i.val) / 128) + d.val = n.val / 128 * 128 + d.val; omega)
  have e4 : (∑ e : Fin 1024, wq (ix2 e ⟨128 * ((colOf n i).val / 128) + d.val, by have : (colOf n i).val < 1024 := (colOf n i).isLt; omega⟩) * x (ix2 ⟨(colOf n i).val % 128, Nat.mod_lt _ (by decide)⟩ e))
      = ∑ e : Fin 1024, x (ix2 i e) * wq (ix2 e ⟨n.val / 128 * 128 + d.val, by omega⟩) := by
    refine Finset.sum_congr rfl fun e _ => ?_
    rw [e2, e3 _ (by omega), mul_comm]
  rw [e4, e1]
  ring

/-- The two results are equal at every entry. -/
theorem equation (hc : Ideal.ofBits .f32 0x3DB504F3#32 = (c : EReal)) (hK : ∀ s r g d, Ks s (ix3 r g d) = ((k (ix3 (rowAt s r) g d) : ℝ) : EReal))
    (hV : ∀ s r g d, Vs s (ix3 r g d) = V (ix3 (rowAt s r) g d)) (i : Fin 128) (e : Fin 1024) :
    (∑ n : Fin 1024,
      Ideal.div (∑ s : Fin 4, ∑ r, Vs s (ix3 r (kvh n) ⟨n.val % 128, Nat.mod_lt _ (by decide)⟩) * Ideal.exp (ksc (fun a => (x a : EReal)) (fun a => (wq a : EReal)) (Ks s) r (colOf n i)))
        (∑ s : Fin 4, ∑ r, Ideal.exp (ksc (fun a => (x a : EReal)) (fun a => (wq a : EReal)) (Ks s) r (colOf n i))) * Wo (ix2 n e))
      = rT (fun a => (x a : EReal)) (fun a => (wq a : EReal)) Wo (fun a => (k a : EReal)) V (ix2 i e) := by
  rw [rT_apply]
  refine Finset.sum_congr rfl fun n _ => ?_
  have hn := n.isLt
  refine congrArg (fun a : EReal => a * Wo (ix2 n e)) ?_
  have ek : kvh n = ⟨n.val / 128 / 4, by omega⟩ := Fin.ext (by show n.val / 512 = n.val / 128 / 4; omega)
  obtain ⟨M, hM⟩ := max_real (Finset.univ : Finset (Fin 131072)) Finset.univ_nonempty (fun j => score x wq k c ⟨n.val / 128, by omega⟩ i j)
  simp only [pT_apply, ref_score x wq k c hc, hM]
  rw [shift (fun j => score x wq k c ⟨n.val / 128, by omega⟩ i j) _ M]
  simp only [fun s r => ker_score x wq k c hc (Ks s) s (hK s) n i r, hV, ek]
  rw [sum_devices fun j => V (ix3 j ⟨n.val / 128 / 4, by omega⟩ ⟨n.val % 128, Nat.mod_lt _ (by decide)⟩) * Ideal.exp (score x wq k c ⟨n.val / 128, by omega⟩ i j : EReal),
    sum_devices fun j => Ideal.exp (score x wq k c ⟨n.val / 128, by omega⟩ i j : EReal)]
end

end Cert.Val

end
-- ==== Proof.Value.Final.lean ====
/- The kernel's run ends with the reference's result on every device. -/
module

public import proofs.«01_k».proof.Proof.Value.Eqn
public import proofs.«01_k».proof.Proof.Ideal.Run
public import proofs.«01_k».proof.Defs
public import proofs.«01_k».proof.Pre_scores_finite_KernelIdeal

@[expose] public section

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat Cfg Window)

section
variable (m : (ℓ : Loc nD τ sig) → Buf (Elt Ideal) ℓ)

/-- The output window's block sits in its array where it is. -/
theorem emb_out (t : Fin cfg0.N) (y : S128x1024.Idx) : ((cfg0.win 3).blk t).view.emb y = y := by
  funext a
  fin_cases a <;> exact Fin.ext (by first | rfl | exact Nat.zero_add _ | (show 0 + _ = _; omega) | (show 0 + 1 * _ = _; omega) | (show 0 + _ * 1 = _; omega))

/-- The result array after the run is what the last point wrote back. -/
theorem final_out (c : Dev nD) : finalA m c 3 = outC (con m) c (gWo m c) := by
  unfold finalA
  refine (dats m 0 c).arrAt_eq_of_cover 3 (outC (con m) c (gWo m c)) (fun t hf => ?_) (fun i => ?_)
  · funext y
    show outC (con m) c (gWo m c) _ = outC (con m) c (gWo m c) _
    congr 1
    exact (emb_out t y).symm
  · refine ⟨⟨15, by decide⟩, (flush0_3 _).mpr rfl, ?_⟩
    have h := ((cfg0.win 3).blk ⟨15, by decide⟩).view.emb_mem_set i
    rwa [emb_out] at h

/-! ## The precondition -/

/-- An extended real whose absolute value compares below infinity is a real. -/
theorem real_of_abs (x : EReal) (h : Ideal.cmp .olt (max x (-x)) ⊤ = 1#1) : ∃ r : ℝ, x = (r : EReal) := by
  induction x with
  | bot => exact absurd h (by simp [Ideal.cmp])
  | top => exact absurd h (by simp [Ideal.cmp])
  | coe r => exact ⟨r, rfl⟩

section Pre
variable [Cert.Pre_scores_finite_KernelIdeal.Facts]
variable (a0 : S128x1024.Idx → EReal) (a1 a2 : S1024x1024.Idx → EReal) (a3 a4 : S32768x2x128.Idx → EReal)

/-- The constant compared with is infinity. -/
theorem top_bits : Ideal.ofBits .f32 0x7F800000#32 = ⊤ := by simp [Ideal.ofBits, Ideal.ieee]

/-- The precondition at one entry: of x, -/
theorem pre_x (h : (Cert.Pre_scores_finite_KernelIdeal.fn (F := Ideal) a0 a1 a2 a3 a4).1 = fun _ => 1#1) (i : S128x1024.Idx) : ∃ r : ℝ, a0 i = (r : EReal) := by
  have e : Ideal.cmp .olt (max (a0 i) (-(a0 i))) (Ideal.ofBits .f32 0x7F800000#32) = 1#1 := congrFun h i
  rw [top_bits] at e
  exact real_of_abs _ e
/-- of Wq, -/
theorem pre_wq (h : (Cert.Pre_scores_finite_KernelIdeal.fn (F := Ideal) a0 a1 a2 a3 a4).2.1 = fun _ => 1#1) (i : S1024x1024.Idx) : ∃ r : ℝ, a1 i = (r : EReal) := by
  have e : Ideal.cmp .olt (max (a1 i) (-(a1 i))) (Ideal.ofBits .f32 0x7F800000#32) = 1#1 := congrFun h i
  rw [top_bits] at e
  exact real_of_abs _ e
/-- and of the keys. -/
theorem pre_k (h : (Cert.Pre_scores_finite_KernelIdeal.fn (F := Ideal) a0 a1 a2 a3 a4).2.2 = fun _ => 1#1) (i : S32768x2x128.Idx) : ∃ r : ℝ, a3 i = (r : EReal) := by
  have e : Ideal.cmp .olt (max (a3 i) (-(a3 i))) (Ideal.ofBits .f32 0x7F800000#32) = 1#1 := congrFun h i
  rw [top_bits] at e
  exact real_of_abs _ e
end Pre

/-! ## The result -/

/-- A block's entry, in the whole array. -/
theorem block_at (A : (⟨3, ![131072, 2, 128]⟩ : Shape).Idx → EReal) (s : Fin 4) (r : Fin 32768) (g : Fin 2) (d : Fin 128) :
    Layout.block ⟨3, ![32768, 2, 128]⟩ ⟨3, ![131072, 2, 128]⟩ 0 4 s A (by decide) (ix3 r g d) = A (ix3 (Cert.Val.rowAt s r) g d) := by
  refine congrArg A ?_
  funext a; fin_cases a <;> rfl

/-- An index of the whole array is a device's row. -/
theorem split_row (j : (⟨3, ![131072, 2, 128]⟩ : Shape).Idx) : ∃ (s : Fin 4) (r : Fin 32768) (g : Fin 2) (d : Fin 128), j = ix3 (Cert.Val.rowAt s r) g d := by
  have h0 : (j 0).val < 131072 := (j 0).isLt
  refine ⟨⟨(j 0).val / 32768, by omega⟩, ⟨(j 0).val % 32768, Nat.mod_lt _ (by decide)⟩, j 1, j 2, ?_⟩
  funext a; fin_cases a
  · exact Fin.ext (by show (j 0).val = (j 0).val / 32768 * 32768 + (j 0).val % 32768; omega)
  · rfl
  · rfl
/-- An index of the result, by its two coordinates. -/
theorem split_ix2 (j : S128x1024.Idx) : ∃ (i : Fin 128) (e : Fin 1024), j = ix2 i e :=
  ⟨j 0, j 1, by funext a; fin_cases a <;> rfl⟩

/-- Every device's result is the reference's, the scores real. -/
theorem out_ref (X' : S128x1024.Idx → EReal) (Wq' Wo' : S1024x1024.Idx → EReal) (K' V' : (⟨3, ![131072, 2, 128]⟩ : Shape).Idx → EReal)
    (hX : ∀ c, gX m c = X') (hWq : ∀ c, gWq m c = Wq') (hWo : ∀ c, gWo m c = Wo')
    (hK : ∀ c : Fin 4, gK m c = Layout.block ⟨3, ![32768, 2, 128]⟩ ⟨3, ![131072, 2, 128]⟩ 0 4 c K')
    (hV : ∀ c : Fin 4, gV m c = Layout.block ⟨3, ![32768, 2, 128]⟩ ⟨3, ![131072, 2, 128]⟩ 0 4 c V')
    (fX : ∀ i, ∃ r : ℝ, X' i = (r : EReal)) (fWq : ∀ i, ∃ r : ℝ, Wq' i = (r : EReal)) (fK : ∀ (c : Fin 4) i, ∃ r : ℝ, gK m c i = (r : EReal)) (c : Dev nD) :
    outC (F := Ideal) (con m) c (gWo m c) = Cert.ReferenceIdeal.Read.rT X' Wq' Wo' K' V' := by
  have fK' : ∀ j, ∃ r : ℝ, K' j = (r : EReal) := fun j => by
    obtain ⟨s, r, g, d, rfl⟩ := split_row j
    obtain ⟨v, hv⟩ := fK s (ix3 r g d)
    exact ⟨v, (block_at K' s r g d).symm.trans ((congrFun (hK s) (ix3 r g d)).symm.trans hv)⟩
  choose x hx using fX
  choose wq hwq using fWq
  choose k hk using fK'
  obtain rfl : X' = fun a => (x a : EReal) := funext hx
  obtain rfl : Wq' = fun a => (wq a : EReal) := funext hwq
  obtain rfl : K' = fun a => (k a : EReal) := funext hk
  obtain ⟨sc, hsc⟩ := Cert.Val.scale_real
  funext j
  obtain ⟨i, e, rfl⟩ := split_ix2 j
  refine (out_arrays m c i e).trans ?_
  refine Eq.trans ?_ (Cert.Val.equation Wo' V' (fun s => gK m s) (fun s => gV m s) x wq k sc hsc
    (fun s r g d => (congrFun (hK s) (ix3 r g d)).trans (block_at _ s r g d)) (fun s r g d => (congrFun (hV s) (ix3 r g d)).trans (block_at V' s r g d)) i e)
  refine Finset.sum_congr (M := EReal) rfl fun n _ => ?_
  rw [hWo c]
  simp only [hX, hWq]

end

end Cert.KernelIdeal.Run

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ideal.Run
public import proofs.«01_k».proof.Proof.Bits.Run
public import proofs.«01_k».proof.Proof.Value.Final

@[expose] public section

noncomputable section

namespace Cert.Proof

open Idealize.ShloMosaic Idealize.SL.Sem Cert.Kernel

/-- The kernel ends with its arguments unchanged and every counter at zero, at bits, -/
theorem frame_bits : Cert.quiescent_Kernel (hKernel := Cert.Kernel.Gen.facts) := fun m ρ _ => Cert.Kernel.Run.frame_run (F := Bits) m ρ
/-- and at the ideal instance; -/
theorem frame_ideal : Cert.quiescent_KernelIdeal (hKernelIdeal := Cert.KernelIdeal.Gen.facts) := fun m ρ _ => Cert.KernelIdeal.Run.frame_run (F := Ideal) m ρ
/-- so does the reference, a host program that declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The shape relations that the precondition's own program states, for the kernel's shapes -/
theorem facts_pre_kernel : Cert.Pre_scores_finite_KernelIdeal.Facts := ⟨by decide, by decide, by decide⟩
/-- and for the reference's. -/
theorem facts_pre_reference : Cert.Pre_scores_finite_ReferenceIdeal.Facts := ⟨by decide, by decide, by decide⟩

/-- From real x, Wq and keys the kernel's result on every device is the reference's result of the whole arrays. -/
theorem value : Cert.algebraic_KernelIdeal_ReferenceIdeal_pre_scores_finite_KernelIdeal (hKernelIdeal := Cert.KernelIdeal.Gen.facts)
    (hReferenceIdeal := Cert.ReferenceIdeal.Gen.facts) (hPre_scores_finite_KernelIdeal := facts_pre_kernel) := fun m g m' g' hpre hin => by
  haveI := facts_pre_kernel
  refine ⟨Cert.ReferenceIdeal.Read.rT (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run Cert.KernelIdeal.defs _ _).mono (fun r h c => ⟨?_, ((h.1 c).1 0).trans ((Cert.KernelIdeal.Run.dats m 0 c).arrAt_in 0 rfl _),
      ((h.1 c).1 1).trans ((Cert.KernelIdeal.Run.dats m 0 c).arrAt_in 1 rfl _),
      ((h.1 c).1 2).trans ((Cert.KernelIdeal.Run.dats m 0 c).arrAt_in 2 rfl _), (h.1 c).2.1, (h.1 c).2.2⟩) (Cert.KernelIdeal.Run.run_main (F := Ideal) m g)
    refine (((h.1 c).1 3).trans (Cert.KernelIdeal.Run.final_out m c)).trans ?_
    refine Cert.KernelIdeal.Run.out_ref m _ _ _ _ _ (fun c => (hin c).1) (fun c => (hin c).2.1) (fun c => (hin c).2.2.1)
      (fun c => (hin c).2.2.2.1) (fun c => (hin c).2.2.2.2) (fun i => ?_) (fun i => ?_) (fun c i => ?_) c
    · obtain ⟨v, hv⟩ := Cert.KernelIdeal.Run.pre_x _ _ _ _ _ (hpre 0).1 i
      exact ⟨v, (congrFun (hin 0).1 i).symm.trans hv⟩
    · obtain ⟨v, hv⟩ := Cert.KernelIdeal.Run.pre_wq _ _ _ _ _ (hpre 0).2.1 i
      exact ⟨v, (congrFun (hin 0).2.1 i).symm.trans hv⟩
    · exact Cert.KernelIdeal.Run.pre_k _ _ _ _ _ (hpre c).2.2 i
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts, facts_pre_kernel, facts_pre_reference,
  frame_bits, frame_ideal, fun m ρ _ => frame_ideal m ρ trivial, frame_reference, fun m ρ _ => frame_reference m ρ trivial, trivial, value⟩

end Cert.Proof

end
